-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![8192, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S8x512x256 : Shape := ⟨3, ![8, 512, 256]⟩
abbrev S8 : Shape := ⟨1, ![8]⟩
abbrev S_ : Shape := ⟨0, ![]⟩
abbrev S256x256 : Shape := ⟨2, ![256, 256]⟩
abbrev S1x256x256 : Shape := ⟨3, ![1, 256, 256]⟩
abbrev S1 : Shape := ⟨1, ![1]⟩
abbrev S1x512x256 : Shape := ⟨3, ![1, 512, 256]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S512x256, .bf16⟩
  | .hbm, ⟨3, _⟩ => ⟨S256x512, .bf16⟩
  | .hbm, ⟨4, _⟩ => ⟨S512x256, .bf16⟩
  | .hbm, ⟨5, _⟩ => ⟨S256x512, .bf16⟩
  | .hbm, ⟨6, _⟩ => ⟨S512x256, .bf16⟩
  | .hbm, ⟨7, _⟩ => ⟨S512x256, .f32⟩
  | .local _ .vmem, ⟨0, _⟩ => ⟨S512x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S512x256, .f32⟩
  | .local _ .vmem, ⟨8, _⟩ => ⟨S512x256, .bf16⟩
  | .local _ .vmem, ⟨9, _⟩ => ⟨S512x256, .f32⟩
  | .local _ .vmem, ⟨10, _⟩ => ⟨S8x512x256, .bf16⟩
  | .local _ .vmem, ⟨11, _⟩ => ⟨S8x512x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 3 → Bool
  | ⟨0, _⟩ => true
  | ⟨1, _⟩ => true
  | ⟨2, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 3 40 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_36 : BitVec 32 := 1#32
  let v38 : BitVec 32 := Scalar.muli v7 c1_i32_36
  let v39 : BitVec 32 := Scalar.addi c0_i32_37 v38
  v39.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_46 : BitVec 32 := 1#32
  let v48 : BitVec 32 := Scalar.muli v5 c1_i32_46
  let v49 : BitVec 32 := Scalar.addi c0_i32_47 v48
  v49.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_66 : BitVec 32 := 1#32
  let v70 : BitVec 32 := Scalar.muli v7 c1_i32_66
  let v71 : BitVec 32 := Scalar.addi c0_i32_67 v70
  v71.toNat
def k0_dev6 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_76 : BitVec 32 := 1#32
  let v80 : BitVec 32 := Scalar.muli v5 c1_i32_76
  let v81 : BitVec 32 := Scalar.addi c0_i32_77 v80
  v81.toNat
def k0_dev7 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_129 : BitVec 32 := 1#32
  let v127 : BitVec 32 := Scalar.muli v5 c1_i32_129
  let v128 : BitVec 32 := Scalar.addi c0_i32_130 v127
  v128.toNat
def k0_dev8 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_132 : BitVec 32 := 1#32
  let v129 : BitVec 32 := Scalar.muli v7 c1_i32_132
  let v130 : BitVec 32 := Scalar.addi c0_i32_133 v129
  v130.toNat
def k0_dev9 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_135 : BitVec 32 := 1#32
  let v131 : BitVec 32 := Scalar.muli v5 c1_i32_135
  let v132 : BitVec 32 := Scalar.addi c0_i32_136 v131
  v132.toNat
def k0_dev10 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_138 : BitVec 32 := 1#32
  let v133 : BitVec 32 := Scalar.muli v7 c1_i32_138
  let v134 : BitVec 32 := Scalar.addi c0_i32_139 v133
  v134.toNat
@[reducible] def k0_t1_loop : Scf.Loop 32 :=
  let c2_i32_140 : BitVec 32 := 2#32
  let c13_i32 : BitVec 32 := 13#32
  let v135 : BitVec 32 := Scalar.addi c2_i32_140 c13_i32
  let c1_i32_141 : BitVec 32 := 1#32
  ⟨c2_i32_140, v135, c1_i32_141⟩
def k0_off1 (k0_t1 : Fin k0_t1_loop.trips) : Fin 1 → Nat :=
  let c0_i32_764 : BitVec 32 := 0#32
  let c2_i32_140 : BitVec 32 := 2#32
  let c1_i32_141 : BitVec 32 := 1#32
  let arg18 : BitVec 32 := Scf.iv c2_i32_140 c1_i32_141 k0_t1
  let v696 : BitVec 32 := Scalar.addi c0_i32_764 arg18
  let c8_i32 : BitVec 32 := 8#32
  let v697 : BitVec 32 := Scalar.remsi v696 c8_i32
  ![v697.toNat]
def k0_off2 (k0_t1 : Fin k0_t1_loop.trips) : Fin 3 → Nat :=
  let c0_i32_764 : BitVec 32 := 0#32
  let c2_i32_140 : BitVec 32 := 2#32
  let c1_i32_141 : BitVec 32 := 1#32
  let arg18 : BitVec 32 := Scf.iv c2_i32_140 c1_i32_141 k0_t1
  let v696 : BitVec 32 := Scalar.addi c0_i32_764 arg18
  let c8_i32 : BitVec 32 := 8#32
  let v697 : BitVec 32 := Scalar.remsi v696 c8_i32
  let c0_i32_774 : BitVec 32 := 0#32
  let c0_i32_775 : BitVec 32 := 0#32
  ![v697.toNat, 0, 0]
def k0_off3 (k0_t1 : Fin k0_t1_loop.trips) : Fin 1 → Nat :=
  let c0_i32_765 : BitVec 32 := 0#32
  let c2_i32_140 : BitVec 32 := 2#32
  let c1_i32_141 : BitVec 32 := 1#32
  let arg18 : BitVec 32 := Scf.iv c2_i32_140 c1_i32_141 k0_t1
  let v698 : BitVec 32 := Scalar.addi c0_i32_765 arg18
  let c2_i32_766 : BitVec 32 := 2#32
  let v699 : BitVec 32 := Scalar.addi v698 c2_i32_766
  let c8_i32_767 : BitVec 32 := 8#32
  let v700 : BitVec 32 := Scalar.remsi v699 c8_i32_767
  ![v700.toNat]
def k0_off4 (k0_t1 : Fin k0_t1_loop.trips) : Fin 3 → Nat :=
  let c0_i32_765 : BitVec 32 := 0#32
  let c2_i32_140 : BitVec 32 := 2#32
  let c1_i32_141 : BitVec 32 := 1#32
  let arg18 : BitVec 32 := Scf.iv c2_i32_140 c1_i32_141 k0_t1
  let v698 : BitVec 32 := Scalar.addi c0_i32_765 arg18
  let c2_i32_766 : BitVec 32 := 2#32
  let v699 : BitVec 32 := Scalar.addi v698 c2_i32_766
  let c8_i32_767 : BitVec 32 := 8#32
  let v700 : BitVec 32 := Scalar.remsi v699 c8_i32_767
  let c0_i32_780 : BitVec 32 := 0#32
  let c0_i32_781 : BitVec 32 := 0#32
  ![v700.toNat, 0, 0]
def k0_dev11 (d0 : Dev nD) : Nat :=
  let c0_i32_779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_778 : BitVec 32 := 1#32
  let v715 : BitVec 32 := Scalar.muli v7 c1_i32_778
  let v716 : BitVec 32 := Scalar.addi c0_i32_779 v715
  v716.toNat
def k0_dev12 (d0 : Dev nD) : Nat :=
  let c0_i32_791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_790 : BitVec 32 := 1#32
  let v733 : BitVec 32 := Scalar.muli v5 c1_i32_790
  let v734 : BitVec 32 := Scalar.addi c0_i32_791 v733
  v734.toNat
def k0_off5 (k0_t1 : Fin k0_t1_loop.trips) : Fin 3 → Nat :=
  let c0_i32_764 : BitVec 32 := 0#32
  let c2_i32_140 : BitVec 32 := 2#32
  let c1_i32_141 : BitVec 32 := 1#32
  let arg18 : BitVec 32 := Scf.iv c2_i32_140 c1_i32_141 k0_t1
  let v696 : BitVec 32 := Scalar.addi c0_i32_764 arg18
  let c8_i32 : BitVec 32 := 8#32
  let v697 : BitVec 32 := Scalar.remsi v696 c8_i32
  let v744 : Index := Scalar.indexCast v697
  let c0_798 : Index := 0#32
  let c0_799 : Index := 0#32
  ![v744.toNat, 0, 0]
def k0_cond3 (k0_t1 : Fin k0_t1_loop.trips) : BitVec 1 :=
  let c2_i32_140 : BitVec 32 := 2#32
  let c1_i32_141 : BitVec 32 := 1#32
  let arg18 : BitVec 32 := Scf.iv c2_i32_140 c1_i32_141 k0_t1
  let c3_i32_817 : BitVec 32 := 3#32
  let v774 : BitVec 1 := Scalar.cmpi .sge arg18 c3_i32_817
  let v775 : BitVec 32 := Scalar.extui v774
  let c0_i32_818 : BitVec 32 := 0#32
  let v776 : BitVec 1 := Scalar.cmpi .ne v775 c0_i32_818
  v776

def k0_off6 (k0_t1 : Fin k0_t1_loop.trips) : Fin 1 → Nat :=
  let c0_i32_814 : BitVec 32 := 0#32
  let c2_i32_140 : BitVec 32 := 2#32
  let c1_i32_141 : BitVec 32 := 1#32
  let arg18 : BitVec 32 := Scf.iv c2_i32_140 c1_i32_141 k0_t1
  let v771 : BitVec 32 := Scalar.addi c0_i32_814 arg18
  let c1_i32_815 : BitVec 32 := 1#32
  let v772 : BitVec 32 := Scalar.subi v771 c1_i32_815
  let c8_i32_816 : BitVec 32 := 8#32
  let v773 : BitVec 32 := Scalar.remsi v772 c8_i32_816
  ![v773.toNat]
def k0_off7 (k0_t1 : Fin k0_t1_loop.trips) : Fin 3 → Nat :=
  let c0_i32_814 : BitVec 32 := 0#32
  let c2_i32_140 : BitVec 32 := 2#32
  let c1_i32_141 : BitVec 32 := 1#32
  let arg18 : BitVec 32 := Scf.iv c2_i32_140 c1_i32_141 k0_t1
  let v771 : BitVec 32 := Scalar.addi c0_i32_814 arg18
  let c1_i32_815 : BitVec 32 := 1#32
  let v772 : BitVec 32 := Scalar.subi v771 c1_i32_815
  let c8_i32_816 : BitVec 32 := 8#32
  let v773 : BitVec 32 := Scalar.remsi v772 c8_i32_816
  let c0_i32_822 : BitVec 32 := 0#32
  let c0_i32_823 : BitVec 32 := 0#32
  ![v773.toNat, 0, 0]
def k0_cond4 (k0_t1 : Fin k0_t1_loop.trips) : BitVec 1 :=
  let c2_i32_140 : BitVec 32 := 2#32
  let c1_i32_141 : BitVec 32 := 1#32
  let arg18 : BitVec 32 := Scf.iv c2_i32_140 c1_i32_141 k0_t1
  let c3_i32_819 : BitVec 32 := 3#32
  let v777 : BitVec 1 := Scalar.cmpi .sge arg18 c3_i32_819
  let v778 : BitVec 32 := Scalar.extui v777
  let c0_i32_820 : BitVec 32 := 0#32
  let v779 : BitVec 1 := Scalar.cmpi .ne v778 c0_i32_820
  v779

def k0_dev13 (d0 : Dev nD) : Nat :=
  let c0_i32_823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_822 : BitVec 32 := 1#32
  let v780 : BitVec 32 := Scalar.muli v5 c1_i32_822
  let v781 : BitVec 32 := Scalar.addi c0_i32_823 v780
  v781.toNat
def k0_dev14 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_825 : BitVec 32 := 1#32
  let v782 : BitVec 32 := Scalar.muli v7 c1_i32_825
  let v783 : BitVec 32 := Scalar.addi c0_i32_826 v782
  v783.toNat
def k0_dev15 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_161 : BitVec 32 := 1#32
  let v148 : BitVec 32 := Scalar.muli v5 c1_i32_161
  let v149 : BitVec 32 := Scalar.addi c0_i32_162 v148
  v149.toNat
def k0_dev16 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_164 : BitVec 32 := 1#32
  let v150 : BitVec 32 := Scalar.muli v7 c1_i32_164
  let v151 : BitVec 32 := Scalar.addi c0_i32_165 v150
  v151.toNat
def k0_dev17 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_194 : BitVec 32 := 1#32
  let v172 : BitVec 32 := Scalar.muli v7 c1_i32_194
  let v173 : BitVec 32 := Scalar.addi c0_i32_195 v172
  v173.toNat
def k0_dev18 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_204 : BitVec 32 := 1#32
  let v182 : BitVec 32 := Scalar.muli v5 c1_i32_204
  let v183 : BitVec 32 := Scalar.addi c0_i32_205 v182
  v183.toNat
def k0_dev19 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_228 : BitVec 32 := 1#32
  let v204 : BitVec 32 := Scalar.muli v7 c1_i32_228
  let v205 : BitVec 32 := Scalar.addi c0_i32_229 v204
  v205.toNat
def k0_dev20 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_238 : BitVec 32 := 1#32
  let v214 : BitVec 32 := Scalar.muli v5 c1_i32_238
  let v215 : BitVec 32 := Scalar.addi c0_i32_239 v214
  v215.toNat
def k0_dev21 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_283 : BitVec 32 := 1#32
  let v266 : BitVec 32 := Scalar.muli v5 c1_i32_283
  let v267 : BitVec 32 := Scalar.addi c0_i32_284 v266
  v267.toNat
def k0_dev22 (d0 : Dev nD) : Nat :=
  let c0_i32_287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_286 : BitVec 32 := 1#32
  let v268 : BitVec 32 := Scalar.muli v7 c1_i32_286
  let v269 : BitVec 32 := Scalar.addi c0_i32_287 v268
  v269.toNat
def k0_dev23 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_329 : BitVec 32 := 1#32
  let v312 : BitVec 32 := Scalar.muli v5 c1_i32_329
  let v313 : BitVec 32 := Scalar.addi c0_i32_330 v312
  v313.toNat
def k0_dev24 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_332 : BitVec 32 := 1#32
  let v314 : BitVec 32 := Scalar.muli v7 c1_i32_332
  let v315 : BitVec 32 := Scalar.addi c0_i32_333 v314
  v315.toNat
def k0_dev25 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_386 : BitVec 32 := 1#32
  let v358 : BitVec 32 := Scalar.muli v5 c1_i32_386
  let v359 : BitVec 32 := Scalar.addi c0_i32_387 v358
  v359.toNat
def k0_dev26 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_389 : BitVec 32 := 1#32
  let v360 : BitVec 32 := Scalar.muli v7 c1_i32_389
  let v361 : BitVec 32 := Scalar.addi c0_i32_390 v360
  v361.toNat
def k0_dev27 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_392 : BitVec 32 := 1#32
  let v362 : BitVec 32 := Scalar.muli v5 c1_i32_392
  let v363 : BitVec 32 := Scalar.addi c0_i32_393 v362
  v363.toNat
def k0_dev28 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_395 : BitVec 32 := 1#32
  let v364 : BitVec 32 := Scalar.muli v7 c1_i32_395
  let v365 : BitVec 32 := Scalar.addi c0_i32_396 v364
  v365.toNat
@[reducible] def k0_t2_loop : Scf.Loop 32 :=
  let c2_i32_397 : BitVec 32 := 2#32
  let c13_i32_398 : BitVec 32 := 13#32
  let v366 : BitVec 32 := Scalar.addi c2_i32_397 c13_i32_398
  let c1_i32_399 : BitVec 32 := 1#32
  ⟨c2_i32_397, v366, c1_i32_399⟩
def k0_off8 (k0_t2 : Fin k0_t2_loop.trips) : Fin 1 → Nat :=
  let c17_i32 : BitVec 32 := 17#32
  let c2_i32_397 : BitVec 32 := 2#32
  let c1_i32_399 : BitVec 32 := 1#32
  let arg18 : BitVec 32 := Scf.iv c2_i32_397 c1_i32_399 k0_t2
  let v696 : BitVec 32 := Scalar.addi c17_i32 arg18
  let c8_i32 : BitVec 32 := 8#32
  let v697 : BitVec 32 := Scalar.remsi v696 c8_i32
  ![v697.toNat]
def k0_off9 (k0_t2 : Fin k0_t2_loop.trips) : Fin 3 → Nat :=
  let c17_i32 : BitVec 32 := 17#32
  let c2_i32_397 : BitVec 32 := 2#32
  let c1_i32_399 : BitVec 32 := 1#32
  let arg18 : BitVec 32 := Scf.iv c2_i32_397 c1_i32_399 k0_t2
  let v696 : BitVec 32 := Scalar.addi c17_i32 arg18
  let c8_i32 : BitVec 32 := 8#32
  let v697 : BitVec 32 := Scalar.remsi v696 c8_i32
  let c0_i32_773 : BitVec 32 := 0#32
  let c0_i32_774 : BitVec 32 := 0#32
  ![v697.toNat, 0, 0]
def k0_off10 (k0_t2 : Fin k0_t2_loop.trips) : Fin 1 → Nat :=
  let c17_i32_764 : BitVec 32 := 17#32
  let c2_i32_397 : BitVec 32 := 2#32
  let c1_i32_399 : BitVec 32 := 1#32
  let arg18 : BitVec 32 := Scf.iv c2_i32_397 c1_i32_399 k0_t2
  let v698 : BitVec 32 := Scalar.addi c17_i32_764 arg18
  let c2_i32_765 : BitVec 32 := 2#32
  let v699 : BitVec 32 := Scalar.addi v698 c2_i32_765
  let c8_i32_766 : BitVec 32 := 8#32
  let v700 : BitVec 32 := Scalar.remsi v699 c8_i32_766
  ![v700.toNat]
def k0_off11 (k0_t2 : Fin k0_t2_loop.trips) : Fin 3 → Nat :=
  let c17_i32_764 : BitVec 32 := 17#32
  let c2_i32_397 : BitVec 32 := 2#32
  let c1_i32_399 : BitVec 32 := 1#32
  let arg18 : BitVec 32 := Scf.iv c2_i32_397 c1_i32_399 k0_t2
  let v698 : BitVec 32 := Scalar.addi c17_i32_764 arg18
  let c2_i32_765 : BitVec 32 := 2#32
  let v699 : BitVec 32 := Scalar.addi v698 c2_i32_765
  let c8_i32_766 : BitVec 32 := 8#32
  let v700 : BitVec 32 := Scalar.remsi v699 c8_i32_766
  let c0_i32_779 : BitVec 32 := 0#32
  let c0_i32_780 : BitVec 32 := 0#32
  ![v700.toNat, 0, 0]
def k0_dev29 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_777 : BitVec 32 := 1#32
  let v709 : BitVec 32 := Scalar.muli v7 c1_i32_777
  let v710 : BitVec 32 := Scalar.addi c0_i32_778 v709
  v710.toNat
def k0_dev30 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_789 : BitVec 32 := 1#32
  let v727 : BitVec 32 := Scalar.muli v5 c1_i32_789
  let v728 : BitVec 32 := Scalar.addi c0_i32_790 v727
  v728.toNat
def k0_off12 (k0_t2 : Fin k0_t2_loop.trips) : Fin 3 → Nat :=
  let c17_i32 : BitVec 32 := 17#32
  let c2_i32_397 : BitVec 32 := 2#32
  let c1_i32_399 : BitVec 32 := 1#32
  let arg18 : BitVec 32 := Scf.iv c2_i32_397 c1_i32_399 k0_t2
  let v696 : BitVec 32 := Scalar.addi c17_i32 arg18
  let c8_i32 : BitVec 32 := 8#32
  let v697 : BitVec 32 := Scalar.remsi v696 c8_i32
  let v738 : Index := Scalar.indexCast v697
  let c0_797 : Index := 0#32
  let c0_798 : Index := 0#32
  ![v738.toNat, 0, 0]
def k0_cond5 (k0_t2 : Fin k0_t2_loop.trips) : BitVec 1 :=
  let c2_i32_397 : BitVec 32 := 2#32
  let c1_i32_399 : BitVec 32 := 1#32
  let arg18 : BitVec 32 := Scf.iv c2_i32_397 c1_i32_399 k0_t2
  let c3_i32_816 : BitVec 32 := 3#32
  let v768 : BitVec 1 := Scalar.cmpi .sge arg18 c3_i32_816
  let v769 : BitVec 32 := Scalar.extui v768
  let c0_i32_817 : BitVec 32 := 0#32
  let v770 : BitVec 1 := Scalar.cmpi .ne v769 c0_i32_817
  v770

def k0_off13 (k0_t2 : Fin k0_t2_loop.trips) : Fin 1 → Nat :=
  let c17_i32_813 : BitVec 32 := 17#32
  let c2_i32_397 : BitVec 32 := 2#32
  let c1_i32_399 : BitVec 32 := 1#32
  let arg18 : BitVec 32 := Scf.iv c2_i32_397 c1_i32_399 k0_t2
  let v765 : BitVec 32 := Scalar.addi c17_i32_813 arg18
  let c1_i32_814 : BitVec 32 := 1#32
  let v766 : BitVec 32 := Scalar.subi v765 c1_i32_814
  let c8_i32_815 : BitVec 32 := 8#32
  let v767 : BitVec 32 := Scalar.remsi v766 c8_i32_815
  ![v767.toNat]
def k0_off14 (k0_t2 : Fin k0_t2_loop.trips) : Fin 3 → Nat :=
  let c17_i32_813 : BitVec 32 := 17#32
  let c2_i32_397 : BitVec 32 := 2#32
  let c1_i32_399 : BitVec 32 := 1#32
  let arg18 : BitVec 32 := Scf.iv c2_i32_397 c1_i32_399 k0_t2
  let v765 : BitVec 32 := Scalar.addi c17_i32_813 arg18
  let c1_i32_814 : BitVec 32 := 1#32
  let v766 : BitVec 32 := Scalar.subi v765 c1_i32_814
  let c8_i32_815 : BitVec 32 := 8#32
  let v767 : BitVec 32 := Scalar.remsi v766 c8_i32_815
  let c0_i32_821 : BitVec 32 := 0#32
  let c0_i32_822 : BitVec 32 := 0#32
  ![v767.toNat, 0, 0]
def k0_cond6 (k0_t2 : Fin k0_t2_loop.trips) : BitVec 1 :=
  let c2_i32_397 : BitVec 32 := 2#32
  let c1_i32_399 : BitVec 32 := 1#32
  let arg18 : BitVec 32 := Scf.iv c2_i32_397 c1_i32_399 k0_t2
  let c3_i32_818 : BitVec 32 := 3#32
  let v771 : BitVec 1 := Scalar.cmpi .sge arg18 c3_i32_818
  let v772 : BitVec 32 := Scalar.extui v771
  let c0_i32_819 : BitVec 32 := 0#32
  let v773 : BitVec 1 := Scalar.cmpi .ne v772 c0_i32_819
  v773

def k0_dev31 (d0 : Dev nD) : Nat :=
  let c0_i32_822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_821 : BitVec 32 := 1#32
  let v774 : BitVec 32 := Scalar.muli v5 c1_i32_821
  let v775 : BitVec 32 := Scalar.addi c0_i32_822 v774
  v775.toNat
def k0_dev32 (d0 : Dev nD) : Nat :=
  let c0_i32_825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_824 : BitVec 32 := 1#32
  let v776 : BitVec 32 := Scalar.muli v7 c1_i32_824
  let v777 : BitVec 32 := Scalar.addi c0_i32_825 v776
  v777.toNat
def k0_dev33 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_420 : BitVec 32 := 1#32
  let v379 : BitVec 32 := Scalar.muli v5 c1_i32_420
  let v380 : BitVec 32 := Scalar.addi c0_i32_421 v379
  v380.toNat
def k0_dev34 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_423 : BitVec 32 := 1#32
  let v381 : BitVec 32 := Scalar.muli v7 c1_i32_423
  let v382 : BitVec 32 := Scalar.addi c0_i32_424 v381
  v382.toNat
def k0_dev35 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_453 : BitVec 32 := 1#32
  let v403 : BitVec 32 := Scalar.muli v7 c1_i32_453
  let v404 : BitVec 32 := Scalar.addi c0_i32_454 v403
  v404.toNat
def k0_dev36 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_463 : BitVec 32 := 1#32
  let v413 : BitVec 32 := Scalar.muli v5 c1_i32_463
  let v414 : BitVec 32 := Scalar.addi c0_i32_464 v413
  v414.toNat
def k0_dev37 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_487 : BitVec 32 := 1#32
  let v435 : BitVec 32 := Scalar.muli v7 c1_i32_487
  let v436 : BitVec 32 := Scalar.addi c0_i32_488 v435
  v436.toNat
def k0_dev38 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_497 : BitVec 32 := 1#32
  let v445 : BitVec 32 := Scalar.muli v5 c1_i32_497
  let v446 : BitVec 32 := Scalar.addi c0_i32_498 v445
  v446.toNat
def k0_dev39 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_544 : BitVec 32 := 1#32
  let v497 : BitVec 32 := Scalar.muli v5 c1_i32_544
  let v498 : BitVec 32 := Scalar.addi c0_i32_545 v497
  v498.toNat
def k0_dev40 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_547 : BitVec 32 := 1#32
  let v499 : BitVec 32 := Scalar.muli v7 c1_i32_547
  let v500 : BitVec 32 := Scalar.addi c0_i32_548 v499
  v500.toNat
def k0_dev41 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_590 : BitVec 32 := 1#32
  let v543 : BitVec 32 := Scalar.muli v5 c1_i32_590
  let v544 : BitVec 32 := Scalar.addi c0_i32_591 v543
  v544.toNat
def k0_dev42 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_593 : BitVec 32 := 1#32
  let v545 : BitVec 32 := Scalar.muli v7 c1_i32_593
  let v546 : BitVec 32 := Scalar.addi c0_i32_594 v545
  v546.toNat
def k0_dev43 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_647 : BitVec 32 := 1#32
  let v589 : BitVec 32 := Scalar.muli v5 c1_i32_647
  let v590 : BitVec 32 := Scalar.addi c0_i32_648 v589
  v590.toNat
def k0_dev44 (d0 : Dev nD) : Nat :=
  let c0_i32_651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_650 : BitVec 32 := 1#32
  let v591 : BitVec 32 := Scalar.muli v7 c1_i32_650
  let v592 : BitVec 32 := Scalar.addi c0_i32_651 v591
  v592.toNat
def k0_dev45 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_653 : BitVec 32 := 1#32
  let v593 : BitVec 32 := Scalar.muli v5 c1_i32_653
  let v594 : BitVec 32 := Scalar.addi c0_i32_654 v593
  v594.toNat
def k0_dev46 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_656 : BitVec 32 := 1#32
  let v595 : BitVec 32 := Scalar.muli v7 c1_i32_656
  let v596 : BitVec 32 := Scalar.addi c0_i32_657 v595
  v596.toNat
@[reducible] def k0_t3_loop : Scf.Loop 32 :=
  let c2_i32_658 : BitVec 32 := 2#32
  let c13_i32_659 : BitVec 32 := 13#32
  let v597 : BitVec 32 := Scalar.addi c2_i32_658 c13_i32_659
  let c1_i32_660 : BitVec 32 := 1#32
  ⟨c2_i32_658, v597, c1_i32_660⟩
def k0_off15 (k0_t3 : Fin k0_t3_loop.trips) : Fin 1 → Nat :=
  let c34_i32 : BitVec 32 := 34#32
  let c2_i32_658 : BitVec 32 := 2#32
  let c1_i32_660 : BitVec 32 := 1#32
  let arg18 : BitVec 32 := Scf.iv c2_i32_658 c1_i32_660 k0_t3
  let v696 : BitVec 32 := Scalar.addi c34_i32 arg18
  let c8_i32 : BitVec 32 := 8#32
  let v697 : BitVec 32 := Scalar.remsi v696 c8_i32
  ![v697.toNat]
def k0_off16 (k0_t3 : Fin k0_t3_loop.trips) : Fin 3 → Nat :=
  let c34_i32 : BitVec 32 := 34#32
  let c2_i32_658 : BitVec 32 := 2#32
  let c1_i32_660 : BitVec 32 := 1#32
  let arg18 : BitVec 32 := Scf.iv c2_i32_658 c1_i32_660 k0_t3
  let v696 : BitVec 32 := Scalar.addi c34_i32 arg18
  let c8_i32 : BitVec 32 := 8#32
  let v697 : BitVec 32 := Scalar.remsi v696 c8_i32
  let c0_i32_773 : BitVec 32 := 0#32
  let c0_i32_774 : BitVec 32 := 0#32
  ![v697.toNat, 0, 0]
def k0_off17 (k0_t3 : Fin k0_t3_loop.trips) : Fin 1 → Nat :=
  let c34_i32_764 : BitVec 32 := 34#32
  let c2_i32_658 : BitVec 32 := 2#32
  let c1_i32_660 : BitVec 32 := 1#32
  let arg18 : BitVec 32 := Scf.iv c2_i32_658 c1_i32_660 k0_t3
  let v698 : BitVec 32 := Scalar.addi c34_i32_764 arg18
  let c2_i32_765 : BitVec 32 := 2#32
  let v699 : BitVec 32 := Scalar.addi v698 c2_i32_765
  let c8_i32_766 : BitVec 32 := 8#32
  let v700 : BitVec 32 := Scalar.remsi v699 c8_i32_766
  ![v700.toNat]
def k0_off18 (k0_t3 : Fin k0_t3_loop.trips) : Fin 3 → Nat :=
  let c34_i32_764 : BitVec 32 := 34#32
  let c2_i32_658 : BitVec 32 := 2#32
  let c1_i32_660 : BitVec 32 := 1#32
  let arg18 : BitVec 32 := Scf.iv c2_i32_658 c1_i32_660 k0_t3
  let v698 : BitVec 32 := Scalar.addi c34_i32_764 arg18
  let c2_i32_765 : BitVec 32 := 2#32
  let v699 : BitVec 32 := Scalar.addi v698 c2_i32_765
  let c8_i32_766 : BitVec 32 := 8#32
  let v700 : BitVec 32 := Scalar.remsi v699 c8_i32_766
  let c0_i32_779 : BitVec 32 := 0#32
  let c0_i32_780 : BitVec 32 := 0#32
  ![v700.toNat, 0, 0]
def k0_dev47 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_777 : BitVec 32 := 1#32
  let v709 : BitVec 32 := Scalar.muli v7 c1_i32_777
  let v710 : BitVec 32 := Scalar.addi c0_i32_778 v709
  v710.toNat
def k0_dev48 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_789 : BitVec 32 := 1#32
  let v727 : BitVec 32 := Scalar.muli v5 c1_i32_789
  let v728 : BitVec 32 := Scalar.addi c0_i32_790 v727
  v728.toNat
def k0_off19 (k0_t3 : Fin k0_t3_loop.trips) : Fin 3 → Nat :=
  let c34_i32 : BitVec 32 := 34#32
  let c2_i32_658 : BitVec 32 := 2#32
  let c1_i32_660 : BitVec 32 := 1#32
  let arg18 : BitVec 32 := Scf.iv c2_i32_658 c1_i32_660 k0_t3
  let v696 : BitVec 32 := Scalar.addi c34_i32 arg18
  let c8_i32 : BitVec 32 := 8#32
  let v697 : BitVec 32 := Scalar.remsi v696 c8_i32
  let v738 : Index := Scalar.indexCast v697
  let c0_797 : Index := 0#32
  let c0_798 : Index := 0#32
  ![v738.toNat, 0, 0]
def k0_cond7 (k0_t3 : Fin k0_t3_loop.trips) : BitVec 1 :=
  let c2_i32_658 : BitVec 32 := 2#32
  let c1_i32_660 : BitVec 32 := 1#32
  let arg18 : BitVec 32 := Scf.iv c2_i32_658 c1_i32_660 k0_t3
  let c3_i32_816 : BitVec 32 := 3#32
  let v768 : BitVec 1 := Scalar.cmpi .sge arg18 c3_i32_816
  let v769 : BitVec 32 := Scalar.extui v768
  let c0_i32_817 : BitVec 32 := 0#32
  let v770 : BitVec 1 := Scalar.cmpi .ne v769 c0_i32_817
  v770

def k0_off20 (k0_t3 : Fin k0_t3_loop.trips) : Fin 1 → Nat :=
  let c34_i32_813 : BitVec 32 := 34#32
  let c2_i32_658 : BitVec 32 := 2#32
  let c1_i32_660 : BitVec 32 := 1#32
  let arg18 : BitVec 32 := Scf.iv c2_i32_658 c1_i32_660 k0_t3
  let v765 : BitVec 32 := Scalar.addi c34_i32_813 arg18
  let c1_i32_814 : BitVec 32 := 1#32
  let v766 : BitVec 32 := Scalar.subi v765 c1_i32_814
  let c8_i32_815 : BitVec 32 := 8#32
  let v767 : BitVec 32 := Scalar.remsi v766 c8_i32_815
  ![v767.toNat]
def k0_off21 (k0_t3 : Fin k0_t3_loop.trips) : Fin 3 → Nat :=
  let c34_i32_813 : BitVec 32 := 34#32
  let c2_i32_658 : BitVec 32 := 2#32
  let c1_i32_660 : BitVec 32 := 1#32
  let arg18 : BitVec 32 := Scf.iv c2_i32_658 c1_i32_660 k0_t3
  let v765 : BitVec 32 := Scalar.addi c34_i32_813 arg18
  let c1_i32_814 : BitVec 32 := 1#32
  let v766 : BitVec 32 := Scalar.subi v765 c1_i32_814
  let c8_i32_815 : BitVec 32 := 8#32
  let v767 : BitVec 32 := Scalar.remsi v766 c8_i32_815
  let c0_i32_821 : BitVec 32 := 0#32
  let c0_i32_822 : BitVec 32 := 0#32
  ![v767.toNat, 0, 0]
def k0_cond8 (k0_t3 : Fin k0_t3_loop.trips) : BitVec 1 :=
  let c2_i32_658 : BitVec 32 := 2#32
  let c1_i32_660 : BitVec 32 := 1#32
  let arg18 : BitVec 32 := Scf.iv c2_i32_658 c1_i32_660 k0_t3
  let c3_i32_818 : BitVec 32 := 3#32
  let v771 : BitVec 1 := Scalar.cmpi .sge arg18 c3_i32_818
  let c9_i32 : BitVec 32 := 9#32
  let v772 : BitVec 1 := Scalar.cmpi .sle arg18 c9_i32
  let v773 : BitVec 1 := Scalar.andi v771 v772
  let v774 : BitVec 32 := Scalar.extui v773
  let c0_i32_819 : BitVec 32 := 0#32
  let v775 : BitVec 1 := Scalar.cmpi .ne v774 c0_i32_819
  v775

def k0_dev49 (d0 : Dev nD) : Nat :=
  let c0_i32_822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_821 : BitVec 32 := 1#32
  let v776 : BitVec 32 := Scalar.muli v5 c1_i32_821
  let v777 : BitVec 32 := Scalar.addi c0_i32_822 v776
  v777.toNat
def k0_dev50 (d0 : Dev nD) : Nat :=
  let c0_i32_825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_824 : BitVec 32 := 1#32
  let v778 : BitVec 32 := Scalar.muli v7 c1_i32_824
  let v779 : BitVec 32 := Scalar.addi c0_i32_825 v778
  v779.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x8192, .bf16⟩
  | .hbm, ⟨2, _⟩ => ⟨S8192x256, .bf16⟩
  | .hbm, ⟨3, _⟩ => ⟨S256x8192, .bf16⟩
  | .hbm, ⟨4, _⟩ => ⟨S8192x256, .bf16⟩
  | .hbm, ⟨5, _⟩ => ⟨S256x8192, .bf16⟩
  | .hbm, ⟨6, _⟩ => ⟨S8192x256, .bf16⟩
  | .hbm, ⟨7, _⟩ => ⟨S8192x8192, .f32⟩
  | .hbm, ⟨8, _⟩ => ⟨S8192x8192, .bf16⟩
  | .hbm, ⟨9, _⟩ => ⟨S_, .bf16⟩
  | .hbm, ⟨10, _⟩ => ⟨S8192x8192, .bf16⟩
  | .hbm, ⟨11, _⟩ => ⟨S8192x8192, .bf16⟩
  | .hbm, ⟨12, _⟩ => ⟨S8192x256, .f32⟩
  | .hbm, ⟨13, _⟩ => ⟨S8192x256, .bf16⟩
  | .hbm, ⟨14, _⟩ => ⟨S8192x8192, .f32⟩
  | .hbm, ⟨15, _⟩ => ⟨S8192x8192, .bf16⟩
  | .hbm, ⟨16, _⟩ => ⟨S_, .bf16⟩
  | .hbm, ⟨17, _⟩ => ⟨S8192x8192, .bf16⟩
  | .hbm, ⟨18, _⟩ => ⟨S8192x8192, .bf16⟩
  | .hbm, ⟨19, _⟩ => ⟨S8192x256, .f32⟩
  | .hbm, ⟨20, _⟩ => ⟨S8192x256, .bf16⟩
  | .hbm, ⟨21, _⟩ => ⟨S8192x8192, .f32⟩
  | .hbm, ⟨22, _⟩ => ⟨S8192x8192, .bf16⟩
  | .hbm, ⟨23, _⟩ => ⟨S_, .bf16⟩
  | .hbm, ⟨24, _⟩ => ⟨S8192x8192, .bf16⟩
  | .hbm, ⟨25, _⟩ => ⟨S8192x8192, .bf16⟩
  | .hbm, ⟨26, _⟩ => ⟨S8192x256, .f32⟩
  | .hbm, ⟨27, _⟩ => ⟨S8192x256, .bf16⟩
  | .hbm, ⟨28, _⟩ => ⟨S8192x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Proto.lean ====
/-
# The protocol of the two streams

The kernel keeps two rings of eight slots, one per direction. A stream's position `t = 17·l + s` names layer `l` and
step `s` (`0 ≤ s < 17`) and sits in slot `t % 8`. Positions with `s < 2` are packed locally; the others are received
from the upstream neighbour, which sends its position `t - 2`. Send number `n` is position `tt n` of the sender.
This module states the ring of devices, the semaphore cells, the contents of a slot and the schedule of every cell.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The ring of devices -/

set_option backward.proofsInPublic true in
/-- The right neighbour. -/
def nxt (c : Dev nD) : Dev nD := ⟨(c.val + 1) % 16, Nat.mod_lt _ (by decide)⟩
set_option backward.proofsInPublic true in
/-- The left neighbour. -/
def prv (c : Dev nD) : Dev nD := ⟨(c.val + 15) % 16, Nat.mod_lt _ (by decide)⟩
theorem prv_nxt (c : Dev nD) : prv (nxt c) = c := by revert c; decide
theorem nxt_prv (c : Dev nD) : nxt (prv c) = c := by revert c; decide

/-- Where direction `δ` sends (`false`: to the right, `true`: to the left), -/
def dn (δ : Bool) : Dev nD → Dev nD := bif δ then prv else nxt
/-- and where it receives from. -/
def up (δ : Bool) : Dev nD → Dev nD := bif δ then nxt else prv
theorem up_dn (δ : Bool) (c : Dev nD) : up δ (dn δ c) = c := by cases δ <;> [exact prv_nxt c; exact nxt_prv c]
theorem dn_up (δ : Bool) (c : Dev nD) : dn δ (up δ c) = c := by cases δ <;> [exact nxt_prv c; exact prv_nxt c]
/-- Direction `δ`'s ring as a permutation of the devices. -/
def ring (δ : Bool) : Dev nD ≃ Dev nD := ⟨dn δ, up δ, up_dn δ, dn_up δ⟩

/-! ## Counters -/

/-- The position of send number `n`: fifteen sends per layer, two positions skipped between layers. -/
def tt (n : ℕ) : ℕ := n + 2 * (n / 15)
/-- The send number of position `t`. -/
def num (t : ℕ) : ℕ := t - 2 * (t / 17)
/-- The slot of position `t`. -/
def sl (t : ℕ) : Fin 8 := ⟨t % 8, Nat.mod_lt _ (by decide)⟩
/-- Among the first `n` sends, those whose position, moved by `o`, sits in slot `j`. -/
def cnt (o n : ℕ) (j : Fin 8) : ℕ := ((List.range n).filter fun i => decide (sl (tt i + o) = j)).length
/-- The `r`-th of them. -/
def nth (o : ℕ) (j : Fin 8) (r : ℕ) : ℕ := ((List.range 45).filter fun i => decide (sl (tt i + o) = j)).getD r 0

theorem nth_cnt0 : ∀ n < 45, nth 0 (sl (tt n)) (cnt 0 n (sl (tt n))) = n := by decide +kernel
theorem nth_cnt2 : ∀ n < 45, nth 2 (sl (tt n + 2)) (cnt 2 n (sl (tt n + 2))) = n := by decide +kernel
theorem cnt_lt0 : ∀ n < 45, cnt 0 n (sl (tt n)) < cnt 0 45 (sl (tt n)) := by decide +kernel
theorem cnt_lt2 : ∀ n < 45, cnt 2 n (sl (tt n + 2)) < cnt 2 45 (sl (tt n + 2)) := by decide +kernel

theorem cnt_succ (o n : ℕ) (j : Fin 8) : cnt o (n + 1) j = cnt o n j + if sl (tt n + o) = j then 1 else 0 := by
  unfold cnt
  rw [List.range_succ, List.filter_append, List.length_append]
  by_cases h : sl (tt n + o) = j <;> simp [h]

/-- A slot's earlier sends have all been waited for once the sends waited for reach within eight positions. -/
theorem cnt_win : ∀ n < 45, ∀ w < 46, tt n < tt w + 8 → cnt 0 n (sl (tt n)) ≤ cnt 0 w (sl (tt n)) := by decide +kernel
/-- Before position `k + 8` arrives, the slot's earlier arrivals are among those received up to position `k`. -/
theorem cnt_rec : ∀ k < 43, ∀ r < 46, k < tt r + 2 → 2 ≤ (k + 8) % 17 → cnt 2 (num (k + 6)) (sl (k + 8)) ≤ cnt 2 r (sl (k + 8)) := by
  decide +kernel
theorem num_tt : ∀ n < 45, num (tt n) = n := by decide +kernel
theorem tt_mod : ∀ n < 45, tt n % 17 < 15 ∧ tt n < 49 ∧ (tt n + 2) / 17 = tt n / 17 := by decide +kernel

/-! ## The buffers, the semaphores, the cells -/

/-- Direction `δ`'s ring of slots. -/
def bM (δ : Bool) : Memref sig .tc .vmem S8x512x256 .bf16 :=
  match δ with
  | false => Memref.whole cc0_scratch2
  | true => Memref.whole cc0_scratch3

theorem slot_inb (j : Fin 8) : ∀ a, (![j.val, 0, 0] : Fin 3 → ℕ) a + S1x512x256.size a ≤ S8x512x256.size a := by
  revert j; decide

/-- Slot `j` of direction `δ`. -/
abbrev slotM (δ : Bool) (j : Fin 8) : Memref sig .tc .vmem S512x256 .bf16 :=
  ((bM δ).slice (Rect.unit (s := S8x512x256) ![j.val, 0, 0] S1x512x256.size (slot_inb j)) (fun _ => rfl)).squeeze S512x256 squeezes_S1x512x256_S512x256

/-- The bytes one slot's transfer signals. -/
abbrev N : ℕ := (slotM false 0).view.dmaCredit
theorem N_pos : 0 < N := View.dmaCredit_pos _ (by decide)
theorem credit_slot (δ : Bool) (j : Fin 8) : (slotM δ j).view.dmaCredit = N := by cases δ <;> rfl

/-- A semaphore of the kernel: a slot's departures, its arrivals, a direction's credits, the barrier. -/
inductive Cid where
  | snd (δ : Bool) (j : Fin 8)
  | rcv (δ : Bool) (j : Fin 8)
  | crd (δ : Bool)
  | bar
deriving DecidableEq

/-- The names, family by family. -/
def cids : (Bool × Fin 8) ⊕ (Bool × Fin 8) ⊕ Bool ⊕ Unit ≃ Cid where
  toFun
    | .inl x => .snd x.1 x.2
    | .inr (.inl x) => .rcv x.1 x.2
    | .inr (.inr (.inl δ)) => .crd δ
    | .inr (.inr (.inr _)) => .bar
  invFun
    | .snd δ j => .inl (δ, j)
    | .rcv δ j => .inr (.inl (δ, j))
    | .crd δ => .inr (.inr (.inl δ))
    | .bar => .inr (.inr (.inr ()))
  left_inv x := by rcases x with x | x | x | x <;> rfl
  right_inv x := by cases x <;> rfl

instance : Fintype Cid := Fintype.ofEquiv _ cids

theorem semS_lt (δ : Bool) (j : Fin 8) : 8 + 16 * δ.toNat + j.val < 40 := by revert δ j; decide
theorem semR_lt (δ : Bool) (j : Fin 8) : 16 + 16 * δ.toNat + j.val < 40 := by revert δ j; decide
theorem semC_lt (δ : Bool) : δ.toNat < 3 := by revert δ; decide
/-- The departures' semaphore of slot `j`, -/
abbrev semS (δ : Bool) (j : Fin 8) : DmaSem sig := ⟨8 + 16 * δ.toNat + j.val, semS_lt δ j⟩
/-- the arrivals', -/
abbrev semR (δ : Bool) (j : Fin 8) : DmaSem sig := ⟨16 + 16 * δ.toNat + j.val, semR_lt δ j⟩
/-- the credits', -/
abbrev semC (δ : Bool) : Sem sig := ⟨δ.toNat, semC_lt δ⟩
/-- and the barrier's. -/
abbrev semB : Sem sig := ⟨2, by decide⟩

/-- The semaphore a name stands for. -/
def loc : Cid → SemLoc sig
  | .snd δ j => .dma (semS δ j)
  | .rcv δ j => .dma (semR δ j)
  | .crd δ => .reg (semC δ)
  | .bar => .reg semB

theorem loc_inj : Function.Injective loc := by
  have h : ∀ a b : (Bool × Fin 8) ⊕ (Bool × Fin 8) ⊕ Bool ⊕ Unit, loc (cids a) = loc (cids b) → a = b := by decide +kernel
  intro a b hab
  have := h (cids.symm a) (cids.symm b) (by simpa using hab)
  exact cids.symm.injective this

/-- Device `c`'s cell of that name. -/
def cell (c : Dev nD) (i : Cid) : GSem nD τ sig := ((c : Thread nD τ), loc i)

theorem cell_inj {c c' : Dev nD} {i i' : Cid} (h : cell c i = cell c' i') : c = c' ∧ i = i' := by
  unfold cell at h
  exact ⟨congrArg (fun x : GSem nD τ sig => x.1.1) h, loc_inj (congrArg (fun x : GSem nD τ sig => x.2) h)⟩

/-- The device and name of a cell, if it is one of the kernel's. -/
def dec (g : GSem nD τ sig) : Option (Dev nD × Cid) :=
  open Classical in if h : ∃ x : Dev nD × Cid, cell x.1 x.2 = g then some h.choose else none

theorem dec_cell (c : Dev nD) (i : Cid) : dec (cell c i) = some (c, i) := by
  have h : ∃ x : Dev nD × Cid, cell x.1 x.2 = cell c i := ⟨(c, i), rfl⟩
  unfold dec; rw [dif_pos h]
  have := cell_inj h.choose_spec
  exact congrArg some (Prod.ext this.1 this.2)

/-! ## Contents -/

/-- The blocks each device is given: its rows of `x`, and per layer its columns of `Win` and its rows of `Wout`. -/
structure Blocks (F : FTy → Type) where
  x : Dev nD → Vec F S512x256 .bf16
  wi : ℕ → Dev nD → Vec F S256x512 .bf16
  wo : ℕ → Dev nD → Vec F S512x256 .bf16

theorem wiHalf_inb (q : Fin 2) : ∀ a, (![0, 256 * q.val] : Fin 2 → ℕ) a + S256x256.size a ≤ S256x512.size a := by revert q; decide
theorem woHalf_inb (q : Fin 2) : ∀ a, (![256 * q.val, 0] : Fin 2 → ℕ) a + S256x256.size a ≤ S512x256.size a := by revert q; decide
/-- Half `q` of a device's columns of `Win`, -/
def wiHalf (q : Fin 2) (W : Vec F S256x512 .bf16) : Vec F S256x256 .bf16 :=
  fun i => W ((Rect.unit (s := S256x512) ![0, 256 * q.val] S256x256.size (wiHalf_inb q)).emb i)
/-- and half `q` of its rows of `Wout`. -/
def woHalf (q : Fin 2) (W : Vec F S512x256 .bf16) : Vec F S256x256 .bf16 :=
  fun i => W ((Rect.unit (s := S512x256) ![256 * q.val, 0] S256x256.size (woHalf_inb q)).emb i)

/-- The index of row `r` and column `k` of a half. -/
abbrev ix (r k : Fin 256) : S256x256.Idx := Shape.pair (d := ![256, 256]) r k

/-- A slot's contents: one half above the other. -/
def pack (a b : Vec F S256x256 .bf16) : Vec F S512x256 .bf16 := fun i =>
  if h : (i 0).val < 256 then a (ix ⟨(i 0).val, h⟩ (i 1))
  else b (ix ⟨(i 0).val - 256, by have : (i 0).val < 512 := (i 0).isLt; omega⟩ (i 1))

/-- The half that step `s` of direction `δ` carries, -/
def half (δ : Bool) (s : ℕ) : Fin 2 := ⟨if δ then 1 - s % 2 else s % 2, by split <;> omega⟩
/-- and the device it comes from. -/
def src (δ : Bool) (c : Dev nD) (s : ℕ) : Dev nD := (up δ)^[s / 2] c

/-- What slot `t % 8` of device `c` holds at position `t`. -/
def piece (B : Blocks F) (δ : Bool) (c : Dev nD) (t : ℕ) : Vec F S512x256 .bf16 :=
  pack (wiHalf (half δ (t % 17)) (B.wi (t / 17) (src δ c (t % 17)))) (woHalf (half δ (t % 17)) (B.wo (t / 17) (src δ c (t % 17))))

/-- A position received is the position sent. -/
theorem piece_dn (B : Blocks F) (δ : Bool) (c : Dev nD) (n : ℕ) (hn : n < 45) :
    piece B δ (dn δ c) (tt n + 2) = piece B δ c (tt n) := by
  obtain ⟨h1, -, h3⟩ := tt_mod n hn
  have h2 : (tt n + 2) % 17 = tt n % 17 + 2 := by omega
  have hh : half δ (tt n % 17 + 2) = half δ (tt n % 17) := by
    unfold half; apply Fin.ext; show (if δ = true then _ else _) = (if δ = true then _ else _); rw [Nat.add_mod_right]
  have hs : src δ (dn δ c) (tt n % 17 + 2) = src δ c (tt n % 17) := by
    unfold src
    rw [show (tt n % 17 + 2) / 2 = tt n % 17 / 2 + 1 by omega, Function.iterate_succ_apply, up_dn]
  unfold piece; rw [h2, h3, hh, hs]

/-! ## The algebra and the assertions -/

/-- A slot of device `c` between two uses is named by the direction and the position it awaits. -/
abbrev Key : Type := Dev nD × Bool × ℕ
abbrev UB : Type := URounds (GSem nD τ sig) ℕ × USlots Key
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := Emb.inl.trans embR
abbrev ES : Emb (USlots Key) (MT nD τ sig ℕ (Elt F) ℕ UU ℕ) := Emb.inr.trans embR

/-- Slot `t % 8` of direction `δ` on device `c` holds `X`. -/
def slotAt (c : Dev nD) (δ : Bool) (t : ℕ) (q : PosShare TreeShare) (X : Vec F S512x256 .bf16) : sProp 𝕄 :=
  owns (c : Thread nD τ) (slotM δ (sl t)) q X
/-- The slot, whatever it holds. -/
def free (c : Dev nD) (δ : Bool) (t : ℕ) : sProp 𝕄 :=
  slot ((slotM δ (sl t)).view.loc (c : Thread nD τ)) (slotM δ (sl t)).view.set

instance slotAt_storable (c : Dev nD) (δ : Bool) (t : ℕ) (q) (X : Vec F S512x256 .bf16) :
    BI.Storable (upEmb : UEmb _ 𝕄) (slotAt c δ t q X) := by unfold slotAt; infer_instance
instance free_storable (c : Dev nD) (δ : Bool) (t : ℕ) : BI.Storable (upEmb : UEmb _ 𝕄) (free (F := F) c δ t) := by
  unfold free; infer_instance

/-- What an upstream device learns from `c` about position `u`: the slot is released for it, and its arrivals before
    it have been waited for. Positions packed locally need nothing. -/
def fact (c : Dev nD) (δ : Bool) (u : ℕ) : sProp 𝕄 :=
  if 2 ≤ u % 17 then iprop(released ES (c, δ, u) 1 ∗ reached ER (cell c (.rcv δ (sl u))) (cnt 2 (num (u - 2)) (sl u))) else iprop(emp)

instance fact_persistent (c : Dev nD) (δ : Bool) (u : ℕ) : BI.Persistent (fact (F := F) c δ u) := by
  unfold fact; split <;> infer_instance
instance fact_storable (c : Dev nD) (δ : Bool) (u : ℕ) : BI.Storable (upEmb : UEmb _ 𝕄) (fact (F := F) c δ u) := by
  unfold fact; split <;> infer_instance

/-- The facts of the first `k` credits: positions `8 … k + 7`. -/
def facts (c : Dev nD) (δ : Bool) (k : ℕ) : sProp 𝕄 := bigSep (Finset.range k) fun i => fact c δ (i + 8)
/-- The facts the barrier hands over: positions `2 … 7`. -/
def facts₀ (c : Dev nD) (δ : Bool) : sProp 𝕄 := bigSep (Finset.Ico 2 8) fun u => fact c δ u

instance facts_persistent (c : Dev nD) (δ : Bool) (k : ℕ) : BI.Persistent (facts (F := F) c δ k) := by unfold facts; infer_instance
instance facts₀_persistent (c : Dev nD) (δ : Bool) : BI.Persistent (facts₀ (F := F) c δ) := by unfold facts₀; infer_instance
instance facts_storable (c : Dev nD) (δ : Bool) (k : ℕ) : BI.Storable (upEmb : UEmb _ 𝕄) (facts (F := F) c δ k) := by unfold facts; infer_instance
instance facts₀_storable (c : Dev nD) (δ : Bool) : BI.Storable (upEmb : UEmb _ 𝕄) (facts₀ (F := F) c δ) := by unfold facts₀; infer_instance

/-! ## The schedule -/

variable (B : Blocks F)

def dutiesOf : Cid → ℕ → Finset ℕ
  | .snd _ j, r => if r < cnt 0 45 j then {0} else ∅
  | .rcv _ j, r => if r < cnt 2 45 j then {0} else ∅
  | .crd _, r => if r = 0 then Finset.range 43 else ∅
  | .bar, r => if r = 0 then Finset.range 2 else ∅

def amountOf : Cid → ℕ
  | .snd _ _ => N
  | .rcv _ _ => N
  | .crd _ => 1
  | .bar => 1

/-- What a cell of device `c` hands over: a departure its half of the slot, an arrival the slot at the piece, a
    credit the facts of the downstream device so far, the barrier those of the first positions. -/
def payOf (c : Dev nD) : Cid → ℕ → ℕ → sProp 𝕄
  | .snd δ j, r, _ => slotAt c δ (tt (nth 0 j r)) fullShare.right (piece B δ c (tt (nth 0 j r)))
  | .rcv δ j, r, _ => slotAt c δ (tt (nth 2 j r) + 2) fullShare (piece B δ c (tt (nth 2 j r) + 2))
  | .crd δ, _, d => facts (dn δ c) δ (d + 1)
  | .bar, _, d => if d = 0 then facts₀ (dn false c) false else facts₀ (dn true c) true

instance payOf_storable (c : Dev nD) (i : Cid) (r d : ℕ) : BI.Storable (upEmb : UEmb _ 𝕄) (payOf B c i r d) := by
  cases i with
  | bar => unfold payOf; by_cases h : d = 0 <;> simp only [h, if_true, if_false] <;> infer_instance
  | _ => unfold payOf; infer_instance

theorem amountOf_pos (i : Cid) : 0 < amountOf i := by
  cases i <;> unfold amountOf <;> first | exact N_pos | exact Nat.one_pos

def Rd : Rounds.Schedule (GSem nD τ sig) ℕ 𝕄 where
  duties g r := match dec g with
    | some x => dutiesOf x.2 r
    | none => ∅
  unitless _ := False
  amount g _ _ := match dec g with
    | some x => amountOf x.2
    | none => 1
  payload g r d := match dec g with
    | some x => payOf B x.1 x.2 r d
    | none => iprop(emp)
  amount_pos g _ _ _ := by
    show 0 < (match dec g with
      | some x => amountOf x.2
      | none => 1)
    split
    · exact amountOf_pos _
    · exact Nat.one_pos

instance Rd_storable (g : GSem nD τ sig) (r d : ℕ) : BI.Storable (upEmb : UEmb _ 𝕄) ((Rd B).payload g r d) := by
  show BI.Storable upEmb (match dec g with
    | some x => payOf B x.1 x.2 r d
    | none => iprop(emp))
  split <;> infer_instance

theorem Rd_duties (c : Dev nD) (i : Cid) (r : ℕ) : (Rd B).duties (cell c i) r = dutiesOf i r := by
  dsimp only [Rd]; rw [dec_cell]
theorem Rd_amount (c : Dev nD) (i : Cid) (r d : ℕ) : (Rd B).amount (cell c i) r d = amountOf i := by
  dsimp only [Rd]; rw [dec_cell]
theorem Rd_payload (c : Dev nD) (i : Cid) (r d : ℕ) : (Rd B).payload (cell c i) r d = payOf B c i r d := by
  dsimp only [Rd]; rw [dec_cell]
theorem Rd_expect (c : Dev nD) (i : Cid) (r : ℕ) : (Rd B).expect (cell c i) r = (dutiesOf i r).card * amountOf i := by
  unfold Schedule.expect Schedule.amountOf
  rw [Rd_duties, Finset.sum_congr rfl fun d _ => Rd_amount B c i r d, Finset.sum_const, smul_eq_mul]

end Cert.Mlp

end
-- ==== Proof.State.lean ====
/-
# What a device holds while the streams run

`St B c δ v` is what device `c` holds of direction `δ` after `v.a` sends, `v.r` arrivals, `v.w` waits for a departure,
`v.g` positions consumed and `v.q` credits waited for. `Two B c v v'` is both directions and what the device still owes.
Every index a token is spent at is its own level, so a wait is allowed when everything owed has a larger index:
send number `n` has index `4·tt n + 3`, credit `k` has `4·k + 8`, the barrier has 1, everything else 0.
-/
module

public import proofs.«01_k».proof.Proof.Proto

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

abbrev 𝒱₀ : Variants := Variants.none

/-! ## What is owed, and the levels -/

/-- The arrivals of the sends still to be made and the credits still to be given. -/
def owed (c : Dev nD) (δ : Bool) (a g : ℕ) : CellTallies nD τ sig ℕ :=
  (∑ n ∈ Finset.Ico a 45, tallyAt (cell (dn δ c) (.rcv δ (sl (tt n + 2)))) (4 * tt n + 3) N)
    + ∑ k ∈ Finset.Ico g 43, tallyAt (cell (up δ c) (.crd δ)) (4 * k + 8) 1

theorem Ico_bot {a b : ℕ} (h : a < b) : Finset.Ico a b = insert a (Finset.Ico (a + 1) b) := by
  ext x; simp only [Finset.mem_Ico, Finset.mem_insert]; omega
theorem sum_Ico_bot {a b : ℕ} (h : a < b) (T : ℕ → CellTallies nD τ sig ℕ) :
    ∑ n ∈ Finset.Ico a b, T n = T a + ∑ n ∈ Finset.Ico (a + 1) b, T n := by
  rw [Ico_bot h, Finset.sum_insert (by rw [Finset.mem_Ico]; omega)]

/-- One summand of many. -/
theorem bigSep_at {I : Type} [DecidableEq I] {s : Finset I} {i : I} (hi : i ∈ s) (Φ : I → sProp 𝕄) :
    (bigSep s Φ : sProp 𝕄) ⊢ Φ i := bigSep_elim hi

theorem bigSep_bot {a b : ℕ} (h : a < b) (Φ : ℕ → sProp 𝕄) :
    (bigSep (Finset.Ico a b) Φ : sProp 𝕄) = iprop(Φ a ∗ bigSep (Finset.Ico (a + 1) b) Φ) := by
  rw [Ico_bot h, bigSep_insert (by rw [Finset.mem_Ico]; omega)]; rfl

theorem owed_send (c : Dev nD) (δ : Bool) (a g : ℕ) (h : a < 45) :
    owed c δ a g = owed c δ (a + 1) g + tallyAt (cell (dn δ c) (.rcv δ (sl (tt a + 2)))) (4 * tt a + 3) N := by
  unfold owed
  rw [sum_Ico_bot h, add_comm (tallyAt _ _ _) (∑ n ∈ _, _), add_right_comm]
theorem owed_credit (c : Dev nD) (δ : Bool) (a g : ℕ) (h : g < 43) :
    owed c δ a g = owed c δ a (g + 1) + tallyAt (cell (up δ c) (.crd δ)) (4 * g + 8) 1 := by
  unfold owed
  rw [sum_Ico_bot h, add_assoc, add_comm (tallyAt _ _ _)]
theorem owed_done (c : Dev nD) (δ : Bool) (a g : ℕ) (ha : 45 ≤ a) (hg : 43 ≤ g) : owed c δ a g = 0 := by
  unfold owed; rw [Finset.Ico_eq_empty_of_le ha, Finset.Ico_eq_empty_of_le hg, Finset.sum_empty, Finset.sum_empty, add_zero]
theorem owed_retire (c : Dev nD) (δ : Bool) (a g : ℕ) (hg : 43 ≤ g) : owed c δ a g = owed c δ a (g + 1) := by
  unfold owed; rw [Finset.Ico_eq_empty_of_le hg, Finset.Ico_eq_empty_of_le (Nat.le_succ_of_le hg)]

theorem sum_pos_of {I : Type} (s : Finset I) (T : I → CellTallies nD τ sig ℕ) {h : GSem nD τ sig} {u : ℕ}
    (hp : 0 < (∑ i ∈ s, T i) h u) : ∃ i ∈ s, 0 < T i h u := by
  rw [Finset.sum_apply, Finsupp.finset_sum_apply] at hp
  by_contra hn
  push Not at hn
  exact absurd (Finset.sum_eq_zero fun i hi => Nat.le_zero.mp (hn i hi)) (Nat.pos_iff_ne_zero.mp hp)

theorem owed_pos {c : Dev nD} {δ : Bool} {a g : ℕ} {h : GSem nD τ sig} {u : ℕ} (hp : 0 < owed c δ a g h u) :
    h.1.2 = .tc ∧ ((∃ n, a ≤ n ∧ n < 45 ∧ u = 4 * tt n + 3) ∨ ∃ k, g ≤ k ∧ k < 43 ∧ u = 4 * k + 8) := by
  unfold owed at hp
  rw [Pi.add_apply, Finsupp.add_apply] at hp
  rcases Nat.eq_zero_or_pos ((∑ n ∈ Finset.Ico a 45, tallyAt (cell (dn δ c) (.rcv δ (sl (tt n + 2)))) (4 * tt n + 3) N) h u) with h0 | h0
  · rw [h0, Nat.zero_add] at hp
    obtain ⟨k, hk, hp⟩ := sum_pos_of _ _ hp
    obtain ⟨rfl, rfl⟩ := Pipeline.tallyAt_pos hp
    rw [Finset.mem_Ico] at hk
    exact ⟨rfl, .inr ⟨k, hk.1, hk.2, rfl⟩⟩
  · obtain ⟨n, hn, hp⟩ := sum_pos_of _ _ h0
    obtain ⟨rfl, rfl⟩ := Pipeline.tallyAt_pos hp
    rw [Finset.mem_Ico] at hn
    exact ⟨rfl, .inl ⟨n, hn.1, hn.2, rfl⟩⟩

@[irreducible] def L (g : GSem nD τ sig) : Finset ℕ := if g.1.2 = .tc then Finset.range 256 else ∅
def lv (_ : GSem nD τ sig) (i : ℕ) : ℕ := i
theorem L_of_ne (g : GSem nD τ sig) (h : g.1.2 ≠ .tc) : L g = ∅ := by unfold L; exact if_neg h
theorem mem_L (g : GSem nD τ sig) (i : ℕ) (h : g.1.2 = .tc) (hi : i < 256) : i ∈ L g := by
  unfold L; rw [if_pos h]; exact Finset.mem_range.mpr hi

/-- Everything in `O` has an index above `i`. -/
def Over (i : ℕ) (O : CellTallies nD τ sig ℕ) : Prop := ∀ h u, 0 < O h u → h.1.2 = .tc ∧ i < u ∧ u < 256

theorem Over.zero (i : ℕ) : Over i 0 := fun h u hp => absurd hp (Nat.lt_irrefl 0)
theorem Over.add {i : ℕ} {O O' : CellTallies nD τ sig ℕ} (h : Over i O) (h' : Over i O') : Over i (O + O') := by
  intro g u hp
  rw [Pi.add_apply, Finsupp.add_apply] at hp
  rcases Nat.eq_zero_or_pos (O g u) with h0 | h0
  · rw [h0, Nat.zero_add] at hp; exact h' g u hp
  · exact h g u h0
theorem Over.tally {i u : ℕ} (c : Dev nD) (x : Cid) (k : ℕ) (h : i < u) (h' : u < 256) : Over i (tallyAt (cell c x) u k) := by
  intro g v hp
  obtain ⟨rfl, rfl⟩ := Pipeline.tallyAt_pos hp
  exact ⟨rfl, h, h'⟩

/-- A wait at index `i` is allowed under everything above it. -/
theorem mayWait (c : Dev nD) (sm : SemLoc sig) (i : ℕ) (hi : i < 256) (O : CellTallies nD τ sig ℕ) (hO : Over i O) :
    (levAts L lv : sProp 𝕄) ⊢ MayWait (c : Thread nD τ) sm i O :=
  MayOwe.of_cut (L := L) (lev := lv) i
    (fun p hp => by rw [Finset.mem_singleton.mp hp]; exact mem_L _ _ rfl hi)
    (fun g u hg => mem_L _ _ (hO g u hg).1 (hO g u hg).2.2)
    (fun p hp => by rw [Finset.mem_singleton.mp hp]; exact le_refl _)
    (fun g u hg => (hO g u hg).2.1)

/-! ## One direction -/

/-- The counters of a direction: sends, arrivals, departures waited for, positions consumed, credits waited for, and
    the position from which the slots kept are counted. -/
structure Ctr where
  a : ℕ
  r : ℕ
  w : ℕ
  g : ℕ
  q : ℕ
  p : ℕ

/-- Positions consumed without a credit that frees the slot for an arrival. -/
def stays (k : ℕ) : Prop := (k + 8) % 17 < 2 ∨ 43 ≤ k
instance (k : ℕ) : Decidable (stays k) := by unfold stays; infer_instance

/-- The slots consumed from position `p` to `g` that no arrival takes. -/
def kept (c : Dev nD) (δ : Bool) (p g : ℕ) : sProp 𝕄 := bigSep ((Finset.Ico p g).filter stays) fun k => free c δ k

/-- For the sends to come: the duties on both ends, and the right to write the slot downstream. -/
def toSend (c : Dev nD) (δ : Bool) (n : ℕ) : sProp 𝕄 :=
  iprop(dutyTok ER (cell c (.snd δ (sl (tt n)))) (cnt 0 n (sl (tt n))) 0
    ∗ dutyTok ER (cell (dn δ c) (.rcv δ (sl (tt n + 2)))) (cnt 2 n (sl (tt n + 2))) 0
    ∗ writeTok ES (dn δ c, δ, tt n + 2) 1)

/-- For the credits to come: the duty upstream, and the reader's count of the slot that is released with it. -/
def toGive (c : Dev nD) (δ : Bool) (k : ℕ) : sProp 𝕄 :=
  iprop(dutyTok ER (cell (up δ c) (.crd δ)) 0 k ∗ if stays k then emp else readerAt ES (c, δ, k + 8) 0)

/-- Where the device stands at the cells of its slots. -/
def sndAt (c : Dev nD) (δ : Bool) (w : ℕ) : sProp 𝕄 := bigSep Finset.univ fun j : Fin 8 =>
  iprop(atPos ER (cell c (.snd δ j)) (cnt 0 w j) ∅ 0 ∗ reached ER (cell c (.snd δ j)) (cnt 0 w j))
def rcvAt (c : Dev nD) (δ : Bool) (r : ℕ) : sProp 𝕄 := bigSep Finset.univ fun j : Fin 8 =>
  iprop(atPos ER (cell c (.rcv δ j)) (cnt 2 r j) ∅ 0 ∗ reached ER (cell c (.rcv δ j)) (cnt 2 r j))

/-- Where it stands at its credits: `q` of them taken, each with the facts it brought. -/
def crdAt (c : Dev nD) (δ : Bool) (q : ℕ) : sProp 𝕄 :=
  iprop(∃ T : Finset ℕ, ⌜T ⊆ Finset.range 43 ∧ q ≤ T.card⌝ ∗ atPos ER (cell c (.crd δ)) 0 T q
    ∗ bigSep T fun d => facts (dn δ c) δ (d + 1))

def rcvCred (c : Dev nD) (δ : Bool) (n : ℕ) : sProp 𝕄 := cred (tallyAt (cell c (.rcv δ (sl (tt n + 2)))) (4 * tt n + 3) N)
def crdCred (c : Dev nD) (δ : Bool) (k : ℕ) : sProp 𝕄 := cred (tallyAt (cell c (.crd δ)) (4 * k + 8) 1)

def St (c : Dev nD) (δ : Bool) (v : Ctr) : sProp 𝕄 :=
  iprop(bigSep (Finset.Ico v.a 45) (toSend c δ) ∗ bigSep (Finset.Ico v.g 43) (toGive c δ)
    ∗ bigSep (Finset.Ico v.r 45) (rcvCred c δ) ∗ bigSep (Finset.Ico v.q 43) (crdCred c δ)
    ∗ sndAt c δ v.w ∗ rcvAt c δ v.r ∗ crdAt c δ v.q
    ∗ facts₀ (dn δ c) δ ∗ facts c δ (min v.g 43) ∗ kept c δ v.p v.g)

/-- A send under way: half of the slot and the credit of its departure. -/
def fly (c : Dev nD) (δ : Bool) (n : ℕ) : sProp 𝕄 := cred (tallyAt (cell c (.snd δ (sl (tt n)))) 0 N)

/-- Both directions and what is owed. -/
def Two (c : Dev nD) (v v' : Ctr) : sProp 𝕄 :=
  iprop(St c false v ∗ St c true v' ∗ ∃ W, owes (c : Thread nD τ) (owed c false v.a v.g + owed c true v'.a v'.g) W)

/-- Direction `δ` at `v`, the other at `v'`. -/
def Side (δ : Bool) (c : Dev nD) (v v' : Ctr) : sProp 𝕄 := match δ with
  | false => Two c v v'
  | true => Two c v' v

theorem Side_eq (δ : Bool) (c : Dev nD) (v v' : Ctr) : (Side δ c v v' : sProp 𝕄)
    ⊣⊢ iprop(St c δ v ∗ St c (!δ) v' ∗ ∃ W, owes (c : Thread nD τ) (owed c δ v.a v.g + owed c (!δ) v'.a v'.g) W) := by
  cases δ
  · exact .rfl
  · show Two c v' v ⊣⊢ _
    unfold Two
    rw [add_comm (owed c false v'.a v'.g)]
    constructor
    · iintro ⟨H1, H2, H3⟩
      isplitl [H2]; · iexact H2
      isplitl [H1]; · iexact H1
      iexact H3
    · iintro ⟨H1, H2, H3⟩
      isplitl [H2]; · iexact H2
      isplitl [H1]; · iexact H1
      iexact H3

/-- Index `i` is below everything a direction at `v` owes. -/
def Ctr.Over (i : ℕ) (v : Ctr) : Prop := (v.a < 45 → i < 4 * tt v.a + 3) ∧ (v.g < 43 → i < 4 * v.g + 8)

theorem tt_mono {m n : ℕ} (h : m ≤ n) : tt m ≤ tt n := by unfold tt; have := Nat.div_le_div_right (c := 15) h; omega
theorem owed_over (c : Dev nD) (δ : Bool) (v : Ctr) (i : ℕ) (h : v.Over i) : Over i (owed c δ v.a v.g) := by
  intro g u hp
  obtain ⟨h1, h2⟩ := owed_pos hp
  refine ⟨h1, ?_⟩
  rcases h2 with ⟨n, h3, h4, rfl⟩ | ⟨k, h3, h4, rfl⟩
  · have := tt_mono h3; have := (tt_mod n h4).2.1; have := h.1 (by omega); omega
  · have := h.2 (by omega); omega

/-! ## What everyone knows -/

/-- The positions a slot is released for. -/
def keys : Finset Key := (Finset.univ ×ˢ Finset.univ) ×ˢ Finset.univ |>.image (fun x : (Dev nD × Bool) × Fin 51 => (x.1.1, x.1.2, x.2.val)) |>.filter fun x => 2 ≤ x.2.2 ∧ 2 ≤ x.2.2 % 17

theorem mem_keys (c : Dev nD) (δ : Bool) (u : ℕ) (h : 2 ≤ u ∧ 2 ≤ u % 17 ∧ u < 51) : (c, δ, u) ∈ keys := by
  unfold keys
  rw [Finset.mem_filter, Finset.mem_image]
  exact ⟨⟨((c, δ), ⟨u, h.2.2⟩), by simp, rfl⟩, h.1, h.2.1⟩

variable (B : Blocks F)

/-- The invariants of every cell and every slot, that every cell's first round is open, and the levels. -/
def Ctx (K : Dev nD × Cid → ℕ) (ι : Key → ℕ) : sProp 𝕄 :=
  iprop((bigSep Finset.univ fun x => iprop(cellInv ER (Rd B) (K x) (cell x.1 x.2) ∗ reached ER (cell x.1 x.2) 0))
    ∗ (bigSep keys fun k => slotInv ES (ι k) k (free k.1 k.2.1 k.2.2)) ∗ levAts L lv)

instance Ctx_persistent (K : Dev nD × Cid → ℕ) (ι : Key → ℕ) : BI.Persistent (Ctx B K ι) := by unfold Ctx; infer_instance

variable {B} {K : Dev nD × Cid → ℕ} {ι : Key → ℕ}

theorem Ctx_cell (c : Dev nD) (i : Cid) : Ctx B K ι ⊢ iprop(cellInv ER (Rd B) (K (c, i)) (cell c i) ∗ reached ER (cell c i) 0) := by
  unfold Ctx
  iintro ⟨H, -, -⟩
  iapply (bigSep_at (Finset.mem_univ (c, i)) (fun x : Dev nD × Cid => iprop(cellInv ER (Rd B) (K x) (cell x.1 x.2) ∗ reached ER (cell x.1 x.2) 0)))
  iexact H
theorem Ctx_slot (c : Dev nD) (δ : Bool) (u : ℕ) (h : 2 ≤ u ∧ 2 ≤ u % 17 ∧ u < 51) :
    Ctx B K ι ⊢ slotInv ES (ι (c, δ, u)) (c, δ, u) (free c δ u) := by
  unfold Ctx
  iintro ⟨-, H, -⟩
  iapply (bigSep_at (mem_keys c δ u h) (fun k : Key => slotInv ES (ι k) k (free k.1 k.2.1 k.2.2)))
  iexact H
theorem Ctx_lev : Ctx B K ι ⊢ levAts L lv := by
  unfold Ctx
  iintro ⟨-, -, H⟩
  iexact H

/-! ## Small facts about the pieces of `St` -/

/-- A slot at given contents is a slot. -/
theorem slotAt_free (c : Dev nD) (δ : Bool) (t : ℕ) (X : Vec F S512x256 .bf16) : slotAt c δ t fullShare X ⊢ free c δ t := by
  unfold slotAt free slot owns
  iintro ⟨%f, -, H⟩
  iexists f; iexact H

theorem sl_add8 (t : ℕ) : sl (t + 8) = sl t := Fin.ext (Nat.add_mod_right t 8)
theorem free_add8 (c : Dev nD) (δ : Bool) (t : ℕ) : (free c δ (t + 8) : sProp 𝕄) = free c δ t := by unfold free; rw [sl_add8]

theorem free_free_false (c : Dev nD) (δ : Bool) (t : ℕ) : iprop(free (F := F) c δ t ∗ free c δ t) ⊢ (False : sProp 𝕄) := by
  unfold free
  refine slot_slot_false ?_
  rw [View.set, Finset.map_nonempty]
  exact ⟨fun a => ⟨0, by fin_cases a <;> decide⟩, Finset.mem_univ _⟩

/-- The halves of a slot make it whole. -/
theorem slotAt_halves (c : Dev nD) (δ : Bool) (t : ℕ) (X : Vec F S512x256 .bf16) :
    iprop(slotAt c δ t fullShare.left X ∗ slotAt c δ t fullShare.right X) ⊢ (slotAt c δ t fullShare X : sProp 𝕄) := by
  unfold slotAt owns
  iintro ⟨⟨%f, %hf, Hf⟩, %g, %hg, Hg⟩
  have e : ∀ i ∈ (slotM δ (sl t)).view.set, f i = g i := by
    intro i hi
    obtain ⟨j, -, rfl⟩ := Finset.mem_map.mp hi
    have := congrFun (hf.trans hg.symm) j
    rw [View.read_apply, View.read_apply] at this
    exact (cast_inj _).mp this
  ihave Hg' := (Entails.of_eq (pointsTo_congr fun i hi => (e i hi).symm)) $$ Hg
  iexists f
  isplitr; · ipureintro; exact hf
  iapply (pointsTo_share (PosShare.mem_left_op_right fullShare)).2
  isplitl [Hf] <;> iassumption

theorem slotAt_split (c : Dev nD) (δ : Bool) (t : ℕ) (X : Vec F S512x256 .bf16) :
    (slotAt c δ t fullShare X : sProp 𝕄) ⊢ iprop(slotAt c δ t fullShare.left X ∗ slotAt c δ t fullShare.right X) := by
  unfold slotAt owns
  iintro ⟨%f, %hf, Hf⟩
  ihave H := (pointsTo_share (PosShare.mem_left_op_right fullShare)).1 $$ Hf
  icases H with ⟨H1, H2⟩
  isplitl [H1]
  · iexists f; isplitr; · ipureintro; exact hf
    iexact H1
  · iexists f; isplitr; · ipureintro; exact hf
    iexact H2

/-- The departures' cell of the next wait, and the state once it has been made. -/
theorem sndAt_step (c : Dev nD) (δ : Bool) (w : ℕ) : (sndAt c δ w : sProp 𝕄)
    ⊢ iprop((atPos ER (cell c (.snd δ (sl (tt w)))) (cnt 0 w (sl (tt w))) ∅ 0 ∗ reached ER (cell c (.snd δ (sl (tt w)))) (cnt 0 w (sl (tt w))))
      ∗ ((atPos ER (cell c (.snd δ (sl (tt w)))) (cnt 0 w (sl (tt w)) + 1) ∅ 0 ∗ reached ER (cell c (.snd δ (sl (tt w)))) (cnt 0 w (sl (tt w)) + 1))
        -∗ sndAt c δ (w + 1))) := by
  have h := bigSep_univ_update (Φ := fun j : Fin 8 => iprop(atPos ER (cell c (.snd δ j)) (cnt 0 w j) ∅ 0 ∗ reached ER (cell c (.snd δ j)) (cnt 0 w j)))
    (Ψ := fun j : Fin 8 => (iprop(atPos ER (cell c (.snd δ j)) (cnt 0 (w + 1) j) ∅ 0 ∗ reached ER (cell c (.snd δ j)) (cnt 0 (w + 1) j)) : sProp 𝕄)) (sl (tt w))
    (fun j hj => by rw [cnt_succ, if_neg (by rw [Nat.add_zero]; exact fun e => hj e.symm), Nat.add_zero])
  rw [show cnt 0 (w + 1) (sl (tt w)) = cnt 0 w (sl (tt w)) + 1 by rw [cnt_succ, Nat.add_zero, if_pos rfl]] at h
  exact h
theorem rcvAt_step (c : Dev nD) (δ : Bool) (w : ℕ) : (rcvAt c δ w : sProp 𝕄)
    ⊢ iprop((atPos ER (cell c (.rcv δ (sl (tt w + 2)))) (cnt 2 w (sl (tt w + 2))) ∅ 0 ∗ reached ER (cell c (.rcv δ (sl (tt w + 2)))) (cnt 2 w (sl (tt w + 2))))
      ∗ ((atPos ER (cell c (.rcv δ (sl (tt w + 2)))) (cnt 2 w (sl (tt w + 2)) + 1) ∅ 0 ∗ reached ER (cell c (.rcv δ (sl (tt w + 2)))) (cnt 2 w (sl (tt w + 2)) + 1))
        -∗ rcvAt c δ (w + 1))) := by
  have h := bigSep_univ_update (Φ := fun j : Fin 8 => iprop(atPos ER (cell c (.rcv δ j)) (cnt 2 w j) ∅ 0 ∗ reached ER (cell c (.rcv δ j)) (cnt 2 w j)))
    (Ψ := fun j : Fin 8 => (iprop(atPos ER (cell c (.rcv δ j)) (cnt 2 (w + 1) j) ∅ 0 ∗ reached ER (cell c (.rcv δ j)) (cnt 2 (w + 1) j)) : sProp 𝕄)) (sl (tt w + 2))
    (fun j hj => by rw [cnt_succ, if_neg (fun e => hj e.symm), Nat.add_zero])
  rw [show cnt 2 (w + 1) (sl (tt w + 2)) = cnt 2 w (sl (tt w + 2)) + 1 by rw [cnt_succ, if_pos rfl]] at h
  exact h

/-- The reached rounds, read off without giving the positions up. -/
theorem sndAt_reached (c : Dev nD) (δ : Bool) (w : ℕ) (j : Fin 8) (r : ℕ) (h : r ≤ cnt 0 w j) :
    (sndAt c δ w : sProp 𝕄) ⊢ reached ER (cell c (.snd δ j)) r := by
  unfold sndAt
  iintro H
  ihave H := (bigSep_at (Finset.mem_univ j) (fun j : Fin 8 => iprop(atPos ER (cell c (.snd δ j)) (cnt 0 w j) ∅ 0 ∗ reached ER (cell c (.snd δ j)) (cnt 0 w j)))) $$ H
  icases H with ⟨-, H⟩
  iapply (reached_mono ER h); iexact H
theorem rcvAt_reached (c : Dev nD) (δ : Bool) (w : ℕ) (j : Fin 8) (r : ℕ) (h : r ≤ cnt 2 w j) :
    (rcvAt c δ w : sProp 𝕄) ⊢ reached ER (cell c (.rcv δ j)) r := by
  unfold rcvAt
  iintro H
  ihave H := (bigSep_at (Finset.mem_univ j) (fun j : Fin 8 => iprop(atPos ER (cell c (.rcv δ j)) (cnt 2 w j) ∅ 0 ∗ reached ER (cell c (.rcv δ j)) (cnt 2 w j)))) $$ H
  icases H with ⟨-, H⟩
  iapply (reached_mono ER h); iexact H

theorem facts_mono (c : Dev nD) (δ : Bool) {k k' : ℕ} (h : k ≤ k') : facts (F := F) c δ k' ⊢ facts c δ k :=
  bigSep_subset (Finset.range_mono h)

/-- The credits taken hold the facts of as many. -/
theorem crdAt_facts (c : Dev nD) (δ : Bool) (q : ℕ) : crdAt (F := F) c δ q ⊢ facts (dn δ c) δ q := by
  unfold crdAt
  iintro ⟨%T, %hT, -, H⟩
  rcases Nat.eq_zero_or_pos q with rfl | hq
  · unfold facts; rw [Finset.range_zero, bigSep_empty]; iempintro
  · obtain ⟨d, hd, hd'⟩ : ∃ d ∈ T, q ≤ d + 1 := by
      by_contra hn
      push Not at hn
      have : T ⊆ Finset.range (q - 1) := fun d hd => Finset.mem_range.mpr (by have := hn d hd; omega)
      have := Finset.card_le_card this
      rw [Finset.card_range] at this; omega
    iapply (facts_mono (dn δ c) δ hd')
    iapply (bigSep_at hd (fun d => facts (dn δ c) δ (d + 1))); iexact H

/-- What is known downstream about position `u`. -/
theorem St_fact (c : Dev nD) (δ : Bool) (v : Ctr) (u : ℕ) (h2 : 2 ≤ u) (hu : u < v.q + 8) :
    iprop(crdAt (F := F) c δ v.q ∗ facts₀ (dn δ c) δ) ⊢ fact (dn δ c) δ u := by
  rcases Nat.lt_or_ge u 8 with h | h
  · unfold facts₀
    iintro ⟨-, H⟩
    iapply (bigSep_at (Finset.mem_Ico.mpr ⟨h2, h⟩) (fun u => fact (dn δ c) δ u)); iexact H
  · iintro ⟨H, -⟩
    ihave H := (crdAt_facts c δ v.q) $$ H
    unfold facts
    have e : u - 8 ∈ Finset.range v.q := Finset.mem_range.mpr (by omega)
    ihave H := (bigSep_at e (fun i => fact (dn δ c) δ (i + 8))) $$ H
    rw [show u - 8 + 8 = u by omega]
    iexact H

end Cert.Mlp

end
-- ==== Proof.Rules.lean ====
/-
# One rule per instruction of the streams

Each instruction that moves a stream — a send, the wait for an arrival, the wait for a departure, a credit given, credits
waited for — is one step of the counters in `Two`. `Side δ` names the direction it concerns.
-/
module

public import proofs.«01_k».proof.Proof.State

@[expose] public section

set_option maxRecDepth 16384

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable {B : Blocks F} {K : Dev nD × Cid → ℕ} {ι : Key → ℕ} {c : Dev nD} (δ : Bool) {v v' : Ctr}

/-! ## Sends -/

theorem duty_snd (n : ℕ) (hn : n < 45) : 0 ∈ (Rd B).duties (cell c (.snd δ (sl (tt n)))) (cnt 0 n (sl (tt n))) := by
  rw [Rd_duties]; dsimp only [dutiesOf]; rw [if_pos (cnt_lt0 n hn)]; exact Finset.mem_singleton_self _
theorem duty_rcv (n : ℕ) (hn : n < 45) : 0 ∈ (Rd B).duties (cell c (.rcv δ (sl (tt n + 2)))) (cnt 2 n (sl (tt n + 2))) := by
  rw [Rd_duties]; dsimp only [dutiesOf]; rw [if_pos (cnt_lt2 n hn)]; exact Finset.mem_singleton_self _
theorem fact_two (c : Dev nD) (n : ℕ) (hn : n < 45) : (fact (F := F) (dn δ c) δ (tt n + 2)) =
    iprop(released ES (dn δ c, δ, tt n + 2) 1 ∗ reached ER ((dn δ c : Thread nD τ), SemLoc.dma (semR δ (sl (tt n + 2)))) (cnt 2 n (sl (tt n + 2)))) := by
  unfold fact
  rw [if_pos (show 2 ≤ (tt n + 2) % 17 by have := tt_mod n hn; omega), Nat.add_sub_cancel, num_tt n hn]; rfl
theorem pay_snd (n : ℕ) (hn : n < 45) : (Rd B).payload (cell c (.snd δ (sl (tt n)))) (cnt 0 n (sl (tt n))) 0
    = slotAt c δ (tt n) fullShare.right (piece B δ c (tt n)) := by
  rw [Rd_payload]; dsimp only [payOf]; rw [nth_cnt0 n hn]
theorem pay_rcv (n : ℕ) (hn : n < 45) : (Rd B).payload (cell c (.rcv δ (sl (tt n + 2)))) (cnt 2 n (sl (tt n + 2))) 0
    = slotAt c δ (tt n + 2) fullShare (piece B δ c (tt n + 2)) := by
  rw [Rd_payload]; dsimp only [payOf]; rw [nth_cnt2 n hn]

/-- A send of the next position: the slot's left half stays, the right half comes back with the departure. -/
theorem send_core {α : Type} {Q : α → sProp 𝕄} {k : PUnit → Prog (TpuEff nD τ sig (Elt F) Λ₀ .tc) α}
    (n : Dev nD) (hn : n = dn δ c) (src dst : Memref sig .tc .vmem S512x256 .bf16) (sS sR : DmaSem sig) (t : ℕ) (ht : tt v.a = t)
    (hsrc' : src = slotM δ (sl t)) (hdst' : dst = slotM δ (sl (t + 2))) (hS : sS = semS δ (sl t)) (hR : sR = semR δ (sl (t + 2)))
    {hsc : dst.view.ref.isScScratch = false} {hsrc : src.view.WordExact} {hdst : dst.view.WordExact}
    {hsem : DmaTarget.Typed .vmem (.dma sR) (.remote (Dev.tc n : Thread nD τ) dst (.dma sS) hsc)}
    (ha : v.a < 45) (hq : t < v.q + 6) (hw : t < tt v.w + 8) (hw' : v.w < 46) (O : CellTallies nD τ sig ℕ) (W : Waits sig ℕ) :
    iprop(Ctx B K ι ∗ St c δ v ∗ slotAt c δ t fullShare (piece B δ c t) ∗ owes (c : Thread nD τ) (owed c δ v.a v.g + O) W)
      ⊢ iprop(((St c δ {v with a := v.a + 1} ∗ slotAt c δ t fullShare.left (piece B δ c t) ∗ fly c δ v.a
            ∗ owes (c : Thread nD τ) (owed c δ (v.a + 1) v.g + O) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst ht hn hsrc' hdst' hS hR
  have hm := tt_mod v.a ha
  iintro ⟨#HC, HS, Hsl, HO⟩ Hk
  unfold St
  icases HS with ⟨Hts, Htg, Hrc, Hcc, Hsa, Hra, Hca, #Hf0, Hf, Hkp⟩
  ihave Hts := (Entails.of_eq (bigSep_bot ha (toSend (F := F) c δ))) $$ Hts
  icases Hts with ⟨Ht, Hts⟩
  unfold toSend
  icases Ht with ⟨Ht1, Ht2, Htw⟩
  ihave #Hfact := (St_fact c δ v (tt v.a + 2) (by omega) (by omega)) $$ [Hca]
  · isplitl [Hca]; · iexact Hca
    iexact Hf0
  ihave #Hfact := (Entails.of_eq (fact_two δ c v.a ha)) $$ Hfact
  icases Hfact with ⟨#Hrel, #Hreach⟩
  ihave #Hinv := (Ctx_slot (dn δ c) δ (tt v.a + 2) ⟨by omega, by omega, by omega⟩) $$ HC
  imod (slot_take ES (Set.mem_univ _) 1) $$ [Htw] with Hfree
  · isplitr; · iexact Hinv
    isplitr; · iexact Hrel
    iexact Htw
  unfold free slot
  icases Hfree with ⟨%fd, Hd⟩
  ihave #Hrs := (sndAt_reached c δ v.w (sl (tt v.a)) (cnt 0 v.a (sl (tt v.a))) (cnt_win v.a ha v.w hw' hw)) $$ Hsa
  ihave Hsl := (slotAt_split c δ (tt v.a) _) $$ Hsl
  icases Hsl with ⟨HslL, HslR⟩
  unfold slotAt owns
  icases HslR with ⟨%fs, %hfs, HslR⟩
  ihave #HI1 := (Ctx_cell c (.snd δ (sl (tt v.a)))) $$ HC
  icases HI1 with ⟨HI1, -⟩
  ihave #HI2 := (Ctx_cell (dn δ c) (.rcv δ (sl (tt v.a + 2)))) $$ HC
  icases HI2 with ⟨HI2, -⟩
  have hO : owed c δ v.a v.g + O = (owed c δ (v.a + 1) v.g + O) + tallyAt (cell (dn δ c) (.rcv δ (sl (tt v.a + 2)))) (4 * tt v.a + 3) N := by
    rw [owed_send c δ v.a v.g ha, add_right_comm]
  iapply (Rounds.wp_send_pointsTo 𝒱₀ ER (Rd B) (c : Thread nD τ) none
    (κ₁ := K (c, .snd δ (sl (tt v.a)))) (κ₂ := K (dn δ c, .rcv δ (sl (tt v.a + 2))))
    (r₁ := cnt 0 v.a (sl (tt v.a))) (r₂ := cnt 2 v.a (sl (tt v.a + 2))) (d₁ := 0) (d₂ := 0) (q := fullShare.right) (fs := fs) (fd := fd)
    (duty_snd δ v.a ha) (duty_rcv δ v.a ha) (4 * tt v.a + 3) 0 N (credit_slot δ (sl (tt v.a + 2)))
    (Rd_amount B c (.snd δ (sl (tt v.a))) _ 0) (Rd_amount B (dn δ c) (.rcv δ (sl (tt v.a + 2))) _ 0) _ hO (W := W)
    (by
      refine BIBase.Entails.trans ?_ (Entails.of_eq (pay_snd δ v.a ha).symm)
      unfold slotAt owns
      iintro H
      iexists fs; isplitr; · ipureintro; exact hfs
      iexact H)
    (by
      refine BIBase.Entails.trans ?_ (Entails.of_eq (pay_rcv δ v.a ha).symm)
      unfold slotAt owns
      iintro H
      iexists ((slotM δ (sl (tt v.a + 2))).view.write (Elt F) fd ((slotM δ (sl (tt v.a))).view.read (Elt F) fs) Finset.univ)
      isplitr; · ipureintro; rw [View.read_write_univ, hfs, piece_dn B δ c v.a ha]
      iexact H)) $$ [HslR Hd HO Ht1 Ht2]
  · isplitr; · iexact HI1
    isplitr; · iexact HI2
    isplitl [HslR]; · iexact HslR
    isplitl [Hd]; · iexact Hd
    isplitl [HO]; · iexact HO
    isplitl [Ht1]; · iexact Ht1
    isplitr; · iexact Hrs
    isplitl [Ht2]; · iexact Ht2
    iexact Hreach
  iintro ⟨Hc, HO⟩
  iapply Hk
  isplitl [Hts Htg Hrc Hcc Hsa Hra Hca Hf Hkp]
  · isplitl [Hts]; · iexact Hts
    isplitl [Htg]; · iexact Htg
    isplitl [Hrc]; · iexact Hrc
    isplitl [Hcc]; · iexact Hcc
    isplitl [Hsa]; · iexact Hsa
    isplitl [Hra]; · iexact Hra
    isplitl [Hca]; · iexact Hca
    isplitr; · iexact Hf0
    isplitl [Hf] <;> iassumption
  isplitl [HslL]; · iexact HslL
  isplitl [Hc]; · unfold fly; iexact Hc
  iexact HO

/-! ## Arrivals and departures waited for -/

theorem expect_snd (n : ℕ) (hn : n < 45) : (Rd B).expect (cell c (.snd δ (sl (tt n)))) (cnt 0 n (sl (tt n))) = N := by
  rw [Rd_expect]; dsimp only [dutiesOf, amountOf]; rw [if_pos (cnt_lt0 n hn), Finset.card_singleton, Nat.one_mul]
theorem expect_rcv (n : ℕ) (hn : n < 45) : (Rd B).expect (cell c (.rcv δ (sl (tt n + 2)))) (cnt 2 n (sl (tt n + 2))) = N := by
  rw [Rd_expect]; dsimp only [dutiesOf, amountOf]; rw [if_pos (cnt_lt2 n hn), Finset.card_singleton, Nat.one_mul]
theorem rest_snd (n : ℕ) (hn : n < 45) :
    bigSep ((Rd B).duties ((c : Thread nD τ), SemLoc.dma (semS δ (sl (tt n)))) (cnt 0 n (sl (tt n))) \ ∅) (fun d => (Rd B).payload ((c : Thread nD τ), SemLoc.dma (semS δ (sl (tt n)))) (cnt 0 n (sl (tt n))) d)
      = slotAt c δ (tt n) fullShare.right (piece B δ c (tt n)) := by
  show bigSep ((Rd B).duties (cell c (.snd δ (sl (tt n)))) (cnt 0 n (sl (tt n))) \ ∅) (fun d => (Rd B).payload (cell c (.snd δ (sl (tt n)))) (cnt 0 n (sl (tt n))) d) = _
  rw [Finset.sdiff_empty, Rd_duties]; dsimp only [dutiesOf]
  rw [if_pos (cnt_lt0 n hn), bigSep_singleton, pay_snd δ n hn]
theorem rest_rcv (n : ℕ) (hn : n < 45) :
    bigSep ((Rd B).duties ((c : Thread nD τ), SemLoc.dma (semR δ (sl (tt n + 2)))) (cnt 2 n (sl (tt n + 2))) \ ∅) (fun d => (Rd B).payload ((c : Thread nD τ), SemLoc.dma (semR δ (sl (tt n + 2)))) (cnt 2 n (sl (tt n + 2))) d)
      = slotAt c δ (tt n + 2) fullShare (piece B δ c (tt n + 2)) := by
  show bigSep ((Rd B).duties (cell c (.rcv δ (sl (tt n + 2)))) (cnt 2 n (sl (tt n + 2))) \ ∅) (fun d => (Rd B).payload (cell c (.rcv δ (sl (tt n + 2)))) (cnt 2 n (sl (tt n + 2))) d) = _
  rw [Finset.sdiff_empty, Rd_duties]; dsimp only [dutiesOf]
  rw [if_pos (cnt_lt2 n hn), bigSep_singleton, pay_rcv δ n hn]

/-- The wait for the next arrival brings its slot at the piece. -/
theorem recv_core {α : Type} {Q : α → sProp 𝕄} {k : PUnit → Prog (TpuEff nD τ sig (Elt F) Λ₀ .tc) α}
    {sp sp' : Space} {s s' : Shape} {e e' : EltTy} (q : DmaSem sig) (m1 : Memref sig .tc sp s e) (m2 : Memref sig .tc sp' s' e')
    {h1 : m1.view.WordExact} {h2 : m2.view.WordExact} (t : ℕ) (ht : tt v.r + 2 = t) (hq : q = semR δ (sl t)) (hN : m2.view.dmaCredit = N)
    (hr : v.r < 45) (O : CellTallies nD τ sig ℕ) (hO : Over (4 * tt v.r + 3) O) (W : Waits sig ℕ) :
    iprop(Ctx B K ι ∗ St c δ v ∗ owes (c : Thread nD τ) O W)
      ⊢ iprop(((St c δ {v with r := v.r + 1} ∗ slotAt c δ t fullShare (piece B δ c t) ∗ ∃ W, owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q m1 m2 h1 h2) k) Q) := by
  subst ht hq
  have hm := tt_mod v.r hr
  iintro ⟨#HC, HS, HO⟩ Hk
  unfold St
  icases HS with ⟨Hts, Htg, Hrc, Hcc, Hsa, Hra, Hca, #Hf0, Hf, Hkp⟩
  ihave Hrc := (Entails.of_eq (bigSep_bot hr (rcvCred (F := F) c δ))) $$ Hrc
  icases Hrc with ⟨Hr, Hrc⟩
  ihave Hra := (rcvAt_step c δ v.r) $$ Hra
  icases Hra with ⟨⟨Hat, -⟩, Hra⟩
  ihave #HI1 := (Ctx_cell c (.rcv δ (sl (tt v.r + 2)))) $$ HC
  icases HI1 with ⟨HI1, -⟩
  ihave #Hlev := (Ctx_lev (B := B) (K := K) (ι := ι)) $$ HC
  iapply (Rounds.wp_wait_rest_token 𝒱₀ ER (Rd B) (c : Thread nD τ) none (κ := K (c, .rcv δ (sl (tt v.r + 2))))
      (wpE_waitDma2_eq 𝒱₀ (c : Thread nD τ) none Set.univ) (Set.mem_univ _) (4 * tt v.r + 3) (O := O) (W := W) (R := cnt 2 v.r (sl (tt v.r + 2))) (m := 0) (T := ∅)
      (by rw [Nat.zero_add, hN]; exact (expect_rcv δ v.r hr).symm)) $$ [Hr HO Hat]
  · isplitr; · iexact HI1
    isplitl [Hr]; · unfold rcvCred; rw [hN]; iexact Hr
    isplitl [HO]; · iexact HO
    isplitr; · iapply (mayWait c _ (4 * tt v.r + 3) (by omega) O hO); iexact Hlev
    iexact Hat
  iintro ⟨HO, Hat, Hreach, Hpay⟩
  ihave Hpay := (Entails.of_eq (rest_rcv (B := B) (c := c) δ v.r hr)) $$ Hpay
  iapply Hk
  isplitr [Hpay HO]
  · isplitl [Hts]; · iexact Hts
    isplitl [Htg]; · iexact Htg
    isplitl [Hrc]; · iexact Hrc
    isplitl [Hcc]; · iexact Hcc
    isplitl [Hsa]; · iexact Hsa
    isplitl [Hra Hat Hreach]
    · iapply Hra
      isplitl [Hat]; · iexact Hat
      iexact Hreach
    isplitl [Hca]; · iexact Hca
    isplitr; · iexact Hf0
    isplitl [Hf] <;> iassumption
  isplitl [Hpay]; · iexact Hpay
  iexists _; iexact HO

/-- The wait for a departure makes the slot whole again. -/
theorem sent_core {α : Type} {Q : α → sProp 𝕄} {k : PUnit → Prog (TpuEff nD τ sig (Elt F) Λ₀ .tc) α}
    {sp sp' : Space} {s s' : Shape} {e e' : EltTy} (q : DmaSem sig) (m1 : Memref sig .tc sp s e) (m2 : Memref sig .tc sp' s' e')
    {h1 : m1.view.WordExact} {h2 : m2.view.WordExact} (t : ℕ) (ht : tt v.w = t) (hq : q = semS δ (sl t)) (hN : m2.view.dmaCredit = N)
    (hw : v.w < 45) (O : CellTallies nD τ sig ℕ) (hO : Over 0 O) (W : Waits sig ℕ) :
    iprop(Ctx B K ι ∗ St c δ v ∗ slotAt c δ t fullShare.left (piece B δ c t) ∗ fly c δ v.w ∗ owes (c : Thread nD τ) O W)
      ⊢ iprop(((St c δ {v with w := v.w + 1} ∗ slotAt c δ t fullShare (piece B δ c t) ∗ ∃ W, owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q m1 m2 h1 h2) k) Q) := by
  subst ht hq
  iintro ⟨#HC, HS, Hl, Hfly, HO⟩ Hk
  unfold St
  icases HS with ⟨Hts, Htg, Hrc, Hcc, Hsa, Hra, Hca, #Hf0, Hf, Hkp⟩
  ihave Hsa := (sndAt_step c δ v.w) $$ Hsa
  icases Hsa with ⟨⟨Hat, -⟩, Hsa⟩
  ihave #HI1 := (Ctx_cell c (.snd δ (sl (tt v.w)))) $$ HC
  icases HI1 with ⟨HI1, -⟩
  ihave #Hlev := (Ctx_lev (B := B) (K := K) (ι := ι)) $$ HC
  iapply (Rounds.wp_wait_rest_token 𝒱₀ ER (Rd B) (c : Thread nD τ) none (κ := K (c, .snd δ (sl (tt v.w))))
      (wpE_waitDma2_eq 𝒱₀ (c : Thread nD τ) none Set.univ) (Set.mem_univ _) 0 (O := O) (W := W) (R := cnt 0 v.w (sl (tt v.w))) (m := 0) (T := ∅)
      (by rw [Nat.zero_add, hN]; exact (expect_snd δ v.w hw).symm)) $$ [Hfly HO Hat]
  · isplitr; · iexact HI1
    isplitl [Hfly]; · unfold fly; rw [hN]; iexact Hfly
    isplitl [HO]; · iexact HO
    isplitr; · iapply (mayWait c _ 0 (by omega) O hO); iexact Hlev
    iexact Hat
  iintro ⟨HO, Hat, Hreach, Hpay⟩
  ihave Hpay := (Entails.of_eq (rest_snd (B := B) (c := c) δ v.w hw)) $$ Hpay
  iapply Hk
  isplitr [Hpay HO Hl]
  · isplitl [Hts]; · iexact Hts
    isplitl [Htg]; · iexact Htg
    isplitl [Hrc]; · iexact Hrc
    isplitl [Hcc]; · iexact Hcc
    isplitl [Hsa Hat Hreach]
    · iapply Hsa
      isplitl [Hat]; · iexact Hat
      iexact Hreach
    isplitl [Hra]; · iexact Hra
    isplitl [Hca]; · iexact Hca
    isplitr; · iexact Hf0
    isplitl [Hf] <;> iassumption
  isplitl [Hpay Hl]
  · iapply (slotAt_halves c δ (tt v.w) _)
    isplitl [Hl] <;> iassumption
  iexists _; iexact HO

/-! ## Credits -/

theorem kept_stays (c : Dev nD) (δ : Bool) (p g : ℕ) (hp : p ≤ g) (h : stays g) :
    iprop(kept (F := F) c δ p g ∗ free c δ g) ⊢ kept c δ p (g + 1) := by
  unfold kept
  rw [show Finset.Ico p (g + 1) = insert g (Finset.Ico p g) by ext x; simp only [Finset.mem_Ico, Finset.mem_insert]; omega,
    Finset.filter_insert, if_pos h, bigSep_insert (by rw [Finset.mem_filter, Finset.mem_Ico]; omega)]
  exact sep_comm.1
theorem kept_goes (c : Dev nD) (δ : Bool) (p g : ℕ) (hp : p ≤ g) (h : ¬stays g) : (kept (F := F) c δ p (g + 1)) = kept c δ p g := by
  unfold kept
  rw [show Finset.Ico p (g + 1) = insert g (Finset.Ico p g) by ext x; simp only [Finset.mem_Ico, Finset.mem_insert]; omega,
    Finset.filter_insert, if_neg h]

/-- Giving a slot up for the arrival of position `u`, its earlier arrivals having been waited for. -/
theorem release_fact (c : Dev nD) (u r : ℕ) (h : 2 ≤ u ∧ 2 ≤ u % 17 ∧ u < 51) (hr : cnt 2 (num (u - 2)) (sl u) ≤ cnt 2 r (sl u)) :
    iprop(Ctx B K ι ∗ readerAt ES (c, δ, u) 0 ∗ rcvAt c δ r ∗ free c δ u)
      ⊢ (|={Set.univ}=> (rcvAt c δ r ∗ fact c δ u) : sProp 𝕄) := by
  iintro ⟨#HC, Hr, Hra, Hfree⟩
  ihave #Hinv := (Ctx_slot c δ u h) $$ HC
  imod (slot_release ES (Set.mem_univ _) (free_free_false c δ u) 0) $$ [Hr Hfree] with ⟨-, #Hrel⟩
  · isplitr; · iexact Hinv
    isplitl [Hr] <;> iassumption
  ihave #Hreach := (rcvAt_reached c δ r (sl u) _ hr) $$ Hra
  imodintro
  isplitl [Hra]; · iexact Hra
  unfold fact; rw [if_pos h.2.1]
  isplitr; · iexact Hrel
  iexact Hreach

/-- The slot of a consumed position either is released for the arrival eight positions later or stays here. -/
theorem give_step (c : Dev nD) (v : Ctr) (hg : v.g < 43) (hr : v.g < tt v.r + 2) (hr' : v.r < 46) (hp : v.p ≤ v.g) :
    iprop(Ctx B K ι ∗ (if stays v.g then emp else readerAt ES (c, δ, v.g + 8) 0) ∗ rcvAt c δ v.r ∗ facts c δ v.g ∗ kept c δ v.p v.g ∗ free c δ v.g)
      ⊢ (|={Set.univ}=> (rcvAt c δ v.r ∗ facts c δ (v.g + 1) ∗ kept c δ v.p (v.g + 1)) : sProp 𝕄) := by
  have hfs : (facts (F := F) c δ (v.g + 1)) = iprop(fact c δ (v.g + 8) ∗ facts c δ v.g) := by
    unfold facts; rw [Finset.range_add_one, bigSep_insert Finset.notMem_range_self]; rfl
  rw [hfs]
  by_cases hs : stays v.g
  · rw [if_pos hs]
    iintro ⟨#HC, -, Hra, Hf, Hkp, Hfree⟩
    imodintro
    isplitl [Hra]; · iexact Hra
    isplitl [Hf]
    · isplitr
      · unfold fact; rw [if_neg (by unfold stays at hs; omega)]; iempintro
      · iexact Hf
    iapply (kept_stays c δ v.p v.g hp hs)
    isplitl [Hkp] <;> iassumption
  · rw [if_neg hs, kept_goes c δ v.p v.g hp hs, ← free_add8]
    have h8 : 2 ≤ (v.g + 8) % 17 := by unfold stays at hs; omega
    iintro ⟨#HC, Hr, Hra, Hf, Hkp, Hfree⟩
    imod (release_fact δ c (v.g + 8) v.r ⟨by omega, h8, by omega⟩ (by rw [show v.g + 8 - 2 = v.g + 6 by omega]; exact cnt_rec v.g hg v.r hr' hr h8))
      $$ [Hr Hra Hfree] with ⟨Hra, Hfact⟩
    · isplitr; · iexact HC
      isplitl [Hr]; · iexact Hr
      isplitl [Hra] <;> iassumption
    imodintro
    isplitl [Hra]; · iexact Hra
    isplitl [Hf Hfact]
    · isplitl [Hfact] <;> iassumption
    iexact Hkp

theorem pay_crd (n : ℕ) : (Rd B).payload ((up δ c : Thread nD τ), SemLoc.reg (semC δ)) 0 n = facts c δ (n + 1) := by
  show (Rd B).payload (cell (up δ c) (.crd δ)) 0 n = _
  rw [Rd_payload]; dsimp only [payOf]; rw [dn_up]

/-- A credit given upstream: the slot of the position consumed goes with it, or stays. -/
theorem give_core {α : Type} {Q : α → sProp 𝕄} {k : PUnit → Prog (TpuEff nD τ sig (Elt F) Λ₀ .tc) α}
    (n : Dev nD) (hn : n = up δ c) (s : Sem sig) (hs : s = semC δ) (t : ℕ) (ht : v.g = t)
    (hg : v.g < 43) (hr : v.g < tt v.r + 2) (hr' : v.r < 46) (hp : v.p ≤ v.g) (O : CellTallies nD τ sig ℕ) (W : Waits sig ℕ) :
    iprop(Ctx B K ι ∗ St c δ v ∗ free c δ t ∗ owes (c : Thread nD τ) (owed c δ v.a v.g + O) W)
      ⊢ iprop(((St c δ {v with g := v.g + 1} ∗ owes (c : Thread nD τ) (owed c δ v.a (v.g + 1) + O) W)
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) s 1) k) Q) := by
  subst hn hs ht
  iintro ⟨#HC, HS, Hfree, HO⟩ Hk
  unfold St
  icases HS with ⟨Hts, Htg, Hrc, Hcc, Hsa, Hra, Hca, #Hf0, Hf, Hkp⟩
  ihave Htg := (Entails.of_eq (bigSep_bot hg (toGive (F := F) c δ))) $$ Htg
  ihave Hf := (Entails.of_eq (congrArg (facts (F := F) c δ) (Nat.min_eq_left (Nat.le_of_lt hg)))) $$ Hf
  icases Htg with ⟨Ht, Htg⟩
  unfold toGive
  icases Ht with ⟨Htok, Hr⟩
  imod (give_step δ c v hg hr hr' hp) $$ [Hr Hra Hf Hkp Hfree] with ⟨Hra, #Hf, Hkp⟩
  · isplitr; · iexact HC
    isplitl [Hr]; · iexact Hr
    isplitl [Hra]; · iexact Hra
    isplitl [Hf]; · iexact Hf
    isplitl [Hkp] <;> iassumption
  ihave #HI1 := (Ctx_cell (up δ c) (.crd δ)) $$ HC
  icases HI1 with ⟨HI1, HR1⟩
  have hO : owed c δ v.a v.g + O = (owed c δ v.a (v.g + 1) + O) + tallyAt (cell (up δ c) (.crd δ)) (4 * v.g + 8) 1 := by
    rw [owed_credit c δ v.a v.g hg, add_right_comm]
  iapply (Rounds.wp_signal 𝒱₀ ER (Rd B) (c : Thread nD τ) none (dst := (up δ c : Thread nD τ)) (κ := K (up δ c, .crd δ)) (r := 0)
      (d := v.g) (by refine (Rd_duties B (up δ c) (.crd δ) 0).symm ▸ ?_; exact Finset.mem_range.mpr hg) (Rd_amount B (up δ c) (.crd δ) 0 v.g) (4 * v.g + 8) _ hO)
    $$ [HO Htok]
  · isplitr; · iexact HI1
    isplitl [HO]; · iexact HO
    isplitl [Htok]; · iexact Htok
    isplitr
    · ihave Hp := (Entails.of_eq (pay_crd (B := B) (c := c) δ v.g).symm) $$ Hf
      iexact Hp
    · iexact HR1
  iintro HO
  iapply Hk
  isplitr [HO]
  · isplitl [Hts]; · iexact Hts
    isplitl [Htg]; · iexact Htg
    isplitl [Hrc]; · iexact Hrc
    isplitl [Hcc]; · iexact Hcc
    isplitl [Hsa]; · iexact Hsa
    isplitl [Hra]; · iexact Hra
    isplitl [Hca]; · iexact Hca
    isplitr; · iexact Hf0
    isplitr; · dsimp only; rw [Nat.min_eq_left (show v.g + 1 ≤ 43 by omega)]; iexact Hf
    iexact Hkp
  iexact HO

/-- The last positions are consumed without a credit. -/
theorem St_retire (c : Dev nD) (v : Ctr) (hg : 43 ≤ v.g) (hp : v.p ≤ v.g) :
    iprop(St c δ v ∗ free c δ v.g) ⊢ (St c δ {v with g := v.g + 1} : sProp 𝕄) := by
  unfold St
  iintro ⟨⟨Hts, Htg, Hrc, Hcc, Hsa, Hra, Hca, #Hf0, Hf, Hkp⟩, Hfree⟩
  dsimp only
  rw [Finset.Ico_eq_empty_of_le hg, Finset.Ico_eq_empty_of_le (show 43 ≤ v.g + 1 by omega), Nat.min_eq_right hg, Nat.min_eq_right (show 43 ≤ v.g + 1 by omega)]
  isplitl [Hts]; · iexact Hts
  isplitl [Htg]; · iexact Htg
  isplitl [Hrc]; · iexact Hrc
  isplitl [Hcc]; · iexact Hcc
  isplitl [Hsa]; · iexact Hsa
  isplitl [Hra]; · iexact Hra
  isplitl [Hca]; · iexact Hca
  isplitr; · iexact Hf0
  isplitl [Hf]; · iexact Hf
  iapply (kept_stays c δ v.p v.g hp (.inr hg))
  isplitl [Hkp] <;> iassumption

/-- The tokens of `n` credits from the `q`-th on, as one tally. -/
def crds (q : ℕ) : ℕ → (ℕ →₀ ℕ)
  | 0 => 0
  | n + 1 => crds q n + Finsupp.single (4 * (q + n) + 8) 1

theorem crds_total (q n : ℕ) : Util.total (crds q n) = n := by
  induction n with
  | zero => rfl
  | succ n ih => show Util.total (crds q n + Finsupp.single (4 * (q + n) + 8) 1) = _; rw [Util.total_add, ih, Util.total_single]
theorem crds_support (q n : ℕ) : ∀ i ∈ (crds q n).support, ∃ m < n, i = 4 * (q + m) + 8 := by
  induction n with
  | zero => intro i hi; simp [crds] at hi
  | succ n ih =>
    intro i hi
    rcases Finset.mem_union.mp (Finsupp.support_add hi) with h | h
    · obtain ⟨m, h1, h2⟩ := ih i h; exact ⟨m, by omega, h2⟩
    · have := Finset.mem_singleton.mp (Finsupp.support_single_subset h); exact ⟨n, by omega, this⟩
theorem crds_cred (c : Dev nD) (q n : ℕ) (h : q + n ≤ 43) :
    (bigSep (Finset.Ico q 43) (crdCred (F := F) c δ)) ⊢ iprop(cred (tallyOn (cell c (.crd δ)) (crds q n)) ∗ bigSep (Finset.Ico (q + n) 43) (crdCred c δ)) := by
  induction n with
  | zero => rw [crds, tallyOn_zero, cred_zero, Nat.add_zero]; iintro H; isplitr; · iempintro
            iexact H
  | succ n ih =>
    refine (ih (by omega)).trans ?_
    rw [bigSep_bot (show q + n < 43 by omega), show crds q (n + 1) = crds q n + Finsupp.single (4 * (q + n) + 8) 1 from rfl, tallyOn_add,
      ← Nat.add_assoc q n 1]
    exact sep_assoc.2.trans (sep_mono_left (cred_add _ _).2)

theorem bigSep_whole {S T : Finset ℕ} (h : T ⊆ S) (Φ : ℕ → sProp 𝕄) : iprop(bigSep T Φ ∗ bigSep (S \ T) Φ) ⊢ bigSep S Φ :=
  Entails.of_eq (bigSep_sdiff_split h).symm

/-- The wait for the next `m` credits. -/
theorem take_core {α : Type} {Q : α → sProp 𝕄} {k : PUnit → Prog (TpuEff nD τ sig (Elt F) Λ₀ .tc) α}
    (s : Sem sig) (hs : s = semC δ) (m : ℕ) (hm : 0 < m) (hq : v.q + m ≤ 43) (O : CellTallies nD τ sig ℕ)
    (hO : Over (4 * (v.q + m - 1) + 8) O) (W : Waits sig ℕ) :
    iprop(Ctx B K ι ∗ St c δ v ∗ owes (c : Thread nD τ) O W)
      ⊢ iprop(((St c δ {v with q := v.q + m} ∗ ∃ W, owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s m) k) Q) := by
  subst hs
  iintro ⟨#HC, HS, HO⟩ Hk
  unfold St
  icases HS with ⟨Hts, Htg, Hrc, Hcc, Hsa, Hra, Hca, #Hf0, Hf, Hkp⟩
  ihave Hcc := (crds_cred δ c v.q m hq) $$ Hcc
  icases Hcc with ⟨Hc, Hcc⟩
  unfold crdAt
  icases Hca with ⟨%T, %hT, Hat, HT⟩
  ihave #HI1 := (Ctx_cell c (.crd δ)) $$ HC
  icases HI1 with ⟨HI1, -⟩
  ihave #Hlev := (Ctx_lev (B := B) (K := K) (ι := ι)) $$ HC
  have hdu : (Rd B).duties (cell c (.crd δ)) 0 = Finset.range 43 := (Rd_duties B c (.crd δ) 0).trans rfl
  have hex : (Rd B).expect (cell c (.crd δ)) 0 = 43 := (Rd_expect B c (.crd δ) 0).trans (by dsimp only [dutiesOf, amountOf]; rw [if_pos rfl, Finset.card_range])
  iapply (Rounds.wp_wait 𝒱₀ ER (Rd B) (c : Thread nD τ) none (κ := K (c, .crd δ))
      (wpE_semWait_eq 𝒱₀ (c : Thread nD τ) none Set.univ) (Set.mem_univ _) (cr := crds v.q m) (O := O) (W := W)
      ((crds v.q m).support.image ((SemLoc.reg (semC δ) : SemLoc sig), ·)) (R := 0) (m := v.q) (T := T) (crds_total v.q m) subset_rfl) $$ [Hc HO Hat]
  · isplitr; · iexact HI1
    isplitl [Hc]; · iexact Hc
    isplitl [HO]; · iexact HO
    isplitr
    · iapply (MayOwe.of_cut (L := L) (lev := lv) (4 * (v.q + m - 1) + 8)
        (fun p hp => by
          obtain ⟨i, hi, rfl⟩ := Finset.mem_image.mp hp
          obtain ⟨j, hj, rfl⟩ := crds_support v.q m i hi
          exact mem_L _ _ rfl (show 4 * (v.q + j) + 8 < 256 by omega))
        (fun g u hg => mem_L _ _ (hO g u hg).1 (hO g u hg).2.2)
        (fun p hp => by
          obtain ⟨i, hi, rfl⟩ := Finset.mem_image.mp hp
          obtain ⟨j, hj, rfl⟩ := crds_support v.q m i hi
          show 4 * (v.q + j) + 8 ≤ 4 * (v.q + m - 1) + 8
          omega)
        (fun g u hg => (hO g u hg).2.1))
      iexact Hlev
    iexact Hat
  iintro %S ⟨%hS, HO, Hat, Hpay⟩
  have hS' : S ⊆ Finset.range 43 ∧ v.q + m ≤ S.card := by
    obtain ⟨h1, h2, h3⟩ := hS
    have h2' : S ⊆ Finset.range 43 := fun d hd => hdu ▸ h2 hd
    refine ⟨h2', ?_⟩
    have h4 : v.q + m + (Finset.range 43 \ S).card ≤ 43 := hdu ▸ hex ▸ h3
    have h5 := Finset.card_sdiff_add_card_eq_card h2'
    rw [Finset.card_range] at h5
    omega
  iapply Hk
  isplitr [HO]
  · isplitl [Hts]; · iexact Hts
    isplitl [Htg]; · iexact Htg
    isplitl [Hrc]; · iexact Hrc
    isplitl [Hcc]; · iexact Hcc
    isplitl [Hsa]; · iexact Hsa
    isplitl [Hra]; · iexact Hra
    isplitl [Hat HT Hpay]
    · iexists S
      isplitr; · ipureintro; exact hS'
      isplitl [Hat]; · iexact Hat
      iapply (bigSep_whole hS.1 _)
      isplitl [HT]; · iexact HT
      iapply (Entails.of_eq (bigSep_congr (s := S \ T) (Ψ := fun d => facts (dn δ c) δ (d + 1)) fun d _ => Rd_payload B c (.crd δ) 0 d)); iexact Hpay
    isplitr; · iexact Hf0
    isplitl [Hf] <;> iassumption
  iexists _; iexact HO

end Cert.Mlp

end
-- ==== Proof.Moves.lean ====
/-
# The steps of the whole device

A device runs both directions at once. `Run c V` holds all of its protocol: direction `δ` stands at `V δ`. Each rule
below moves one direction by one step and leaves the other where it was.
-/
module

public import proofs.«01_k».proof.Proof.Rules

@[expose] public section

set_option maxRecDepth 16384

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-- Running a program of device `c`'s core to a postcondition. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- The states of the two directions. -/
abbrev pr (v v' : Ctr) : Bool → Ctr
  | false => v
  | true => v'

/-- The protocol of device `c`: what everyone knows, both directions, and what is owed. -/
def Run (B : Blocks F) (K : Dev nD × Cid → ℕ) (ι : Key → ℕ) (c : Dev nD) (V : Bool → Ctr) : sProp 𝕄 :=
  iprop(Ctx B K ι ∗ St c false (V false) ∗ St c true (V true)
    ∗ ∃ W, owes (c : Thread nD τ) (owed c false (V false).a (V false).g + owed c true (V true).a (V true).g) W)

/-- A send under way: half of its slot and the credit of its departure. -/
def out (B : Blocks F) (c : Dev nD) (δ : Bool) (n : ℕ) : sProp 𝕄 :=
  iprop(slotAt c δ (tt n) fullShare.left (piece B δ c (tt n)) ∗ fly c δ n)

variable {B : Blocks F} {K : Dev nD × Cid → ℕ} {ι : Key → ℕ} {c : Dev nD}

/-- The protocol seen from one direction. -/
theorem Run_split (δ : Bool) (V : Bool → Ctr) : Run B K ι c V
    ⊢ iprop(Ctx B K ι ∗ St c δ (V δ) ∗ St c (!δ) (V (!δ))
      ∗ ∃ W, owes (c : Thread nD τ) (owed c δ (V δ).a (V δ).g + owed c (!δ) (V (!δ)).a (V (!δ)).g) W) := by
  unfold Run
  cases δ
  · exact .rfl
  · rw [add_comm (owed c false _ _)]
    iintro ⟨HC, H1, H2, HO⟩
    isplitl [HC]; · iexact HC
    isplitl [H2]; · iexact H2
    isplitl [H1]; · iexact H1
    iexact HO
theorem Run_join (δ : Bool) (V : Bool → Ctr) :
    iprop(Ctx B K ι ∗ St c δ (V δ) ∗ St c (!δ) (V (!δ))
      ∗ ∃ W, owes (c : Thread nD τ) (owed c δ (V δ).a (V δ).g + owed c (!δ) (V (!δ)).a (V (!δ)).g) W) ⊢ Run B K ι c V := by
  unfold Run
  cases δ
  · exact .rfl
  · rw [add_comm (owed c false _ _)]
    iintro ⟨HC, H1, H2, HO⟩
    isplitl [HC]; · iexact HC
    isplitl [H2]; · iexact H2
    isplitl [H1]; · iexact H1
    iexact HO

theorem owed_over_two (c : Dev nD) (δ : Bool) (V : Bool → Ctr) (i : ℕ) (h : (V δ).Over i ∧ (V (!δ)).Over i) :
    Over i (owed c δ (V δ).a (V δ).g + owed c (!δ) (V (!δ)).a (V (!δ)).g) :=
  (owed_over c δ _ i h.1).add (owed_over c (!δ) _ i h.2)

instance (i : ℕ) (v : Ctr) : Decidable (v.Over i) := by unfold Ctr.Over; infer_instance

theorem kept_pick (c : Dev nD) (δ : Bool) (p g t : ℕ) (h : p ≤ t ∧ t < g ∧ stays t ∧ ∀ k ∈ Finset.Ico p t, ¬stays k) :
    kept (F := F) c δ p g ⊢ iprop(free c δ t ∗ kept c δ (t + 1) g) := by
  unfold kept
  rw [show (Finset.Ico p g).filter stays = insert t ((Finset.Ico (t + 1) g).filter stays) by
      ext x
      simp only [Finset.mem_filter, Finset.mem_Ico, Finset.mem_insert]
      constructor
      · rintro ⟨⟨h1, h2⟩, h3⟩
        rcases lt_trichotomy x t with hx | hx | hx
        · exact absurd h3 (h.2.2.2 x (Finset.mem_Ico.2 ⟨h1, hx⟩))
        · exact .inl hx
        · exact .inr ⟨⟨hx, h2⟩, h3⟩
      · rintro (rfl | ⟨⟨h1, h2⟩, h3⟩)
        · exact ⟨⟨h.1, h.2.1⟩, h.2.2.1⟩
        · exact ⟨⟨by omega, h2⟩, h3⟩,
    bigSep_insert (by rw [Finset.mem_filter, Finset.mem_Ico]; omega)]
  exact .rfl

/-- Direction `δ` moves from `V δ` to `v`; the other stays. -/
def Moves (δ : Bool) (V V' : Bool → Ctr) (v : Ctr) : Prop := V' δ = v ∧ V' (!δ) = V (!δ)

/-- The next send. -/
theorem step_send (δ : Bool) (V V' : Bool → Ctr) {α : Type} {Q : α → sProp 𝕄} {k : PUnit → Prog (TpuEff nD τ sig (Elt F) Λ₀ .tc) α}
    {src dst : Memref sig .tc .vmem S512x256 .bf16} {sS q : DmaSem sig} {n : Dev nD}
    {hsrc : src.view.WordExact} {hsc : dst.view.ref.isScScratch = false} {hdst : dst.view.WordExact}
    {hsem : DmaTarget.Typed .vmem (.dma q) (DmaTarget.remote (Dev.tc n : Thread nD τ) dst (.dma sS) hsc)}
    (hV : Moves δ V V' {V δ with a := (V δ).a + 1}) (t : ℕ) (ht : tt (V δ).a = t) (hn : n = dn δ c)
    (hsrc' : src = slotM δ (sl t)) (hdst' : dst = slotM δ (sl (t + 2))) (hS : sS = semS δ (sl t)) (hq : q = semR δ (sl (t + 2)))
    (h : (V δ).a < 45 ∧ (V δ).w < 46 ∧ t < (V δ).q + 6 ∧ t < tt (V δ).w + 8) :
    Run B K ι c V
      ⊢ iprop(slotAt c δ t fullShare (piece B δ c t) -∗ ((Run B K ι c V' ∗ out B c δ (V δ).a) -∗ run c (k ⟨⟩) Q)
          -∗ run c (.op (.enqueueDma src (.remote (Dev.tc n : Thread nD τ) dst (.dma sS) hsc) (.dma q) hsrc hdst hsem) k) Q) := by
  subst ht
  iintro HR Hs Hk
  ihave HR := (Run_split δ V) $$ HR
  icases HR with ⟨#HC, HS, HS', %W, HO⟩
  iapply (send_core (B := B) (K := K) (ι := ι) (c := c) (δ := δ) (v := V δ) n hn src dst sS q _ rfl hsrc' hdst' hS hq
    h.1 h.2.2.1 h.2.2.2 h.2.1 (owed c (!δ) (V (!δ)).a (V (!δ)).g) W) $$ [HS Hs HO]
  · isplitr; · iexact HC
    isplitl [HS]; · iexact HS
    isplitl [Hs]; · iexact Hs
    iexact HO
  iintro ⟨HS, Hl, Hf, HO⟩
  iapply Hk
  isplitl [HS HS' HO]
  · iapply (Run_join δ V')
    rw [hV.1, hV.2]
    isplitr; · iexact HC
    isplitl [HS]; · iexact HS
    isplitl [HS']; · iexact HS'
    iexists W; iexact HO
  · unfold out
    isplitl [Hl]; · iexact Hl
    iexact Hf

/-- The wait for the next arrival. -/
theorem step_recv (δ : Bool) (V V' : Bool → Ctr) {α : Type} {Q : α → sProp 𝕄} {k : PUnit → Prog (TpuEff nD τ sig (Elt F) Λ₀ .tc) α}
    {sp sp' : Space} {s s' : Shape} {e e' : EltTy} {q : DmaSem sig} {m1 : Memref sig .tc sp s e} {m2 : Memref sig .tc sp' s' e'}
    {h1 : m1.view.WordExact} {h2 : m2.view.WordExact}
    (hV : Moves δ V V' {V δ with r := (V δ).r + 1}) (t : ℕ) (ht : tt (V δ).r + 2 = t) (hq : q = semR δ (sl t)) (hN : m2.view.dmaCredit = N)
    (h : (V δ).r < 45 ∧ (V δ).Over (4 * t - 5) ∧ (V (!δ)).Over (4 * t - 5)) :
    Run B K ι c V
      ⊢ iprop(((Run B K ι c V' ∗ slotAt c δ t fullShare (piece B δ c t)) -∗ run c (k ⟨⟩) Q)
          -∗ run c (.op (.waitDma2 q m1 m2 h1 h2) k) Q) := by
  iintro HR Hk
  ihave HR := (Run_split δ V) $$ HR
  icases HR with ⟨#HC, HS, HS', %W, HO⟩
  have hO : Over (4 * tt (V δ).r + 3) (owed c δ (V δ).a (V δ).g + owed c (!δ) (V (!δ)).a (V (!δ)).g) := by
    rw [show 4 * tt (V δ).r + 3 = 4 * t - 5 by omega]; exact owed_over_two c δ V _ h.2
  iapply (recv_core (B := B) (K := K) (ι := ι) (c := c) (δ := δ) (v := V δ) q m1 m2 t ht hq hN h.1
    _ hO W) $$ [HS HO]
  · isplitr; · iexact HC
    isplitl [HS]; · iexact HS
    iexact HO
  iintro ⟨HS, Hs, HO⟩
  iapply Hk
  isplitl [HS HS' HO]
  · iapply (Run_join δ V')
    rw [hV.1, hV.2]
    isplitr; · iexact HC
    isplitl [HS]; · iexact HS
    isplitl [HS']; · iexact HS'
    iexact HO
  · iexact Hs

/-- The wait for the next departure. -/
theorem step_sent (δ : Bool) (V V' : Bool → Ctr) {α : Type} {Q : α → sProp 𝕄} {k : PUnit → Prog (TpuEff nD τ sig (Elt F) Λ₀ .tc) α}
    {sp sp' : Space} {s s' : Shape} {e e' : EltTy} {q : DmaSem sig} {m1 : Memref sig .tc sp s e} {m2 : Memref sig .tc sp' s' e'}
    {h1 : m1.view.WordExact} {h2 : m2.view.WordExact}
    (hV : Moves δ V V' {V δ with w := (V δ).w + 1}) (n t : ℕ) (hn : n = (V δ).w) (ht : tt n = t) (hq : q = semS δ (sl t)) (hN : m2.view.dmaCredit = N)
    (h : n < 45) :
    Run B K ι c V
      ⊢ iprop(out B c δ n -∗ ((Run B K ι c V' ∗ slotAt c δ t fullShare (piece B δ c t)) -∗ run c (k ⟨⟩) Q)
          -∗ run c (.op (.waitDma2 q m1 m2 h1 h2) k) Q) := by
  subst hn ht
  iintro HR Hs Hk
  ihave HR := (Run_split δ V) $$ HR
  icases HR with ⟨#HC, HS, HS', %W, HO⟩
  unfold out
  icases Hs with ⟨Hl, Hf⟩
  iapply (sent_core (B := B) (K := K) (ι := ι) (c := c) (δ := δ) (v := V δ) q m1 m2 _ rfl hq hN h
    _ (owed_over_two c δ V 0 ⟨⟨fun _ => by omega, fun _ => by omega⟩, ⟨fun _ => by omega, fun _ => by omega⟩⟩) W) $$ [HS HO Hl Hf]
  · isplitr; · iexact HC
    isplitl [HS]; · iexact HS
    isplitl [Hl]; · iexact Hl
    isplitl [Hf]; · iexact Hf
    iexact HO
  iintro ⟨HS, Hs, HO⟩
  iapply Hk
  isplitl [HS HS' HO]
  · iapply (Run_join δ V')
    rw [hV.1, hV.2]
    isplitr; · iexact HC
    isplitl [HS]; · iexact HS
    isplitl [HS']; · iexact HS'
    iexact HO
  · iexact Hs

/-- The next credit given. -/
theorem step_give (δ : Bool) (V V' : Bool → Ctr) {α : Type} {Q : α → sProp 𝕄} {k : PUnit → Prog (TpuEff nD τ sig (Elt F) Λ₀ .tc) α}
    {n : Dev nD} {s : Sem sig}
    (hV : Moves δ V V' {V δ with g := (V δ).g + 1}) (t : ℕ) (ht : (V δ).g = t) (hn : n = up δ c) (hs : s = semC δ)
    (h : t < 43 ∧ t < tt (V δ).r + 2 ∧ (V δ).r < 46 ∧ (V δ).p ≤ t) :
    Run B K ι c V
      ⊢ iprop(free c δ t -∗ (Run B K ι c V' -∗ run c (k ⟨⟩) Q)
          -∗ run c (.op (.semSignal (Dev.tc n : Thread nD τ) s 1) k) Q) := by
  subst ht
  iintro HR Hs Hk
  ihave HR := (Run_split δ V) $$ HR
  icases HR with ⟨#HC, HS, HS', %W, HO⟩
  iapply (give_core (B := B) (K := K) (ι := ι) (c := c) (δ := δ) (v := V δ) n hn s hs _ rfl h.1 h.2.1 h.2.2.1 h.2.2.2
    (owed c (!δ) (V (!δ)).a (V (!δ)).g) W) $$ [HS HO Hs]
  · isplitr; · iexact HC
    isplitl [HS]; · iexact HS
    isplitl [Hs]; · iexact Hs
    iexact HO
  iintro ⟨HS, HO⟩
  iapply Hk
  iapply (Run_join δ V')
  rw [hV.1, hV.2]
  isplitr; · iexact HC
  isplitl [HS]; · iexact HS
  isplitl [HS']; · iexact HS'
  iexists W; iexact HO

/-- The next credits taken. -/
theorem step_take (δ : Bool) (V V' : Bool → Ctr) {α : Type} {Q : α → sProp 𝕄} {k : PUnit → Prog (TpuEff nD τ sig (Elt F) Λ₀ .tc) α}
    {s : Sem sig} (m : ℕ) (hV : Moves δ V V' {V δ with q := (V δ).q + m}) (hs : s = semC δ)
    (h : 0 < m ∧ (V δ).q + m ≤ 43 ∧ (V δ).Over (4 * ((V δ).q + m - 1) + 8) ∧ (V (!δ)).Over (4 * ((V δ).q + m - 1) + 8)) :
    Run B K ι c V
      ⊢ iprop((Run B K ι c V' -∗ run c (k ⟨⟩) Q) -∗ run c (.op (.semWait s m) k) Q) := by
  iintro HR Hk
  ihave HR := (Run_split δ V) $$ HR
  icases HR with ⟨#HC, HS, HS', %W, HO⟩
  iapply (take_core (B := B) (K := K) (ι := ι) (c := c) (δ := δ) (v := V δ) s hs m h.1 h.2.1 _ (owed_over_two c δ V _ h.2.2) W) $$ [HS HO]
  · isplitr; · iexact HC
    isplitl [HS]; · iexact HS
    iexact HO
  iintro ⟨HS, HO⟩
  iapply Hk
  iapply (Run_join δ V')
  rw [hV.1, hV.2]
  isplitr; · iexact HC
  isplitl [HS]; · iexact HS
  isplitl [HS']; · iexact HS'
  iexact HO

/-- A slot of the last positions, whose consumption gives no credit. -/
theorem step_retire (δ : Bool) (V V' : Bool → Ctr) (hV : Moves δ V V' {V δ with g := (V δ).g + 1}) (t : ℕ) (ht : (V δ).g = t)
    (h : 43 ≤ t ∧ (V δ).p ≤ t) : iprop(Run B K ι c V ∗ free c δ t) ⊢ Run B K ι c V' := by
  subst ht
  iintro ⟨HR, Hs⟩
  ihave HR := (Run_split δ V) $$ HR
  icases HR with ⟨#HC, HS, HS', %W, HO⟩
  ihave HS := (St_retire δ c (V δ) h.1 h.2) $$ [HS Hs]
  · isplitl [HS] <;> iassumption
  iapply (Run_join δ V')
  rw [hV.1, hV.2]
  isplitr; · iexact HC
  isplitl [HS]; · iexact HS
  isplitl [HS']; · iexact HS'
  iexists W
  rw [owed_retire c δ (V δ).a (V δ).g h.1]
  iexact HO

/-- The next slot that stayed, taken up for a position packed here. -/
theorem step_pick (δ : Bool) (V V' : Bool → Ctr) (t : ℕ) (hV : Moves δ V V' {V δ with p := t + 1})
    (h : (V δ).p ≤ t ∧ t < (V δ).g ∧ stays t ∧ ∀ k ∈ Finset.Ico (V δ).p t, ¬stays k) :
    Run B K ι c V ⊢ iprop(Run B K ι c V' ∗ free c δ (t + 8)) := by
  rw [free_add8]
  iintro HR
  ihave HR := (Run_split δ V) $$ HR
  icases HR with ⟨#HC, HS, HS', %W, HO⟩
  unfold St
  icases HS with ⟨Hts, Htg, Hrc, Hcc, Hsa, Hra, Hca, Hf0, Hf, Hkp⟩
  ihave Hkp := (kept_pick c δ _ _ t h) $$ Hkp
  icases Hkp with ⟨Hs, Hkp⟩
  isplitr [Hs]
  · iapply (Run_join δ V')
    rw [hV.1, hV.2]
    unfold St
    dsimp only
    isplitr; · iexact HC
    isplitl [Hts Htg Hrc Hcc Hsa Hra Hca Hf0 Hf Hkp]
    · isplitl [Hts]; · iexact Hts
      isplitl [Htg]; · iexact Htg
      isplitl [Hrc]; · iexact Hrc
      isplitl [Hcc]; · iexact Hcc
      isplitl [Hsa]; · iexact Hsa
      isplitl [Hra]; · iexact Hra
      isplitl [Hca]; · iexact Hca
      isplitl [Hf0]; · iexact Hf0
      isplitl [Hf]; · iexact Hf
      iexact Hkp
    isplitl [HS']; · iexact HS'
    iexists W; iexact HO
  · iexact Hs

end Cert.Mlp

end
-- ==== Proof.Slots.lean ====
/-
# Loads and stores

Reading and writing the buffers of one device: whole buffers, the windows of the weights, and the slots of the two rings.
-/
module

public import proofs.«01_k».proof.Proof.Moves
public import Idealize.ShloMosaic.Lib.Pipeline.Value

@[expose] public section

set_option maxRecDepth 16384

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable {c : Dev nD}

/-! ## Buffers read and written as they are -/

/-- A buffer of device `c` with contents `X`. -/
abbrev holds (c : Dev nD) {sh : Shape} {e : EltTy} (m : Memref sig .tc .vmem sh e) (X : Vec F sh e) : sProp 𝕄 :=
  owns (c : Thread nD τ) m fullShare X

/-- A load through a rectangle. -/
theorem ld_rect {sh : Shape} {e : EltTy} {m : Memref sig .tc .vmem sh e} {X : Vec F sh e} {r : Rect sh} {hl : m.view.LoadsAt r.toLoadRect}
    {α : Type} {Q : α → sProp 𝕄} {k : Vec F r.shape e → Prog (TpuEff nD τ sig (Elt F) Λ₀ .tc) α} :
    holds c m X ⊢ iprop((holds c m X -∗ run c (k fun i => X (r.emb i)) Q) -∗ run c (.op (.load m r.toLoadRect hl) k) Q) := by
  unfold holds owns
  iintro ⟨%f, %hf, H⟩ Hk
  iapply (wp_load_rect 𝒱₀ (c : Thread nD τ) none Set.univ (m := m) (r := r) (S := m.view.set) (View.set_slice_subset _ _)) $$ H
  iintro H
  have e : (m.access r).read (Elt F) f = fun i => X (r.emb i) := by rw [← hf]; rfl
  rw [e]
  iapply Hk
  iexists f
  isplitr; · ipureintro; exact hf
  iexact H

/-- A load of everything. -/
theorem ld_all {sh : Shape} {e : EltTy} {m : Memref sig .tc .vmem sh e} (X : Vec F sh e) {off : Fin sh.rank → ℕ}
    {inb : ∀ a, off a + sh.size a ≤ sh.size a} (h : off = fun _ => 0)
    {hl : m.view.LoadsAt (Rect.unit off sh.size inb).toLoadRect}
    {α : Type} {Q : α → sProp 𝕄} {k : Vec F sh e → Prog (TpuEff nD τ sig (Elt F) Λ₀ .tc) α} :
    holds c m X ⊢ iprop((holds c m X -∗ run c (k X) Q) -∗ run c (.op (.load m (Rect.unit off sh.size inb).toLoadRect hl) k) Q) := by
  have e : (fun i => X ((Rect.unit off sh.size inb).emb i)) = X := View.ld_unit_zero h inb X
  have := ld_rect (c := c) (m := m) (X := X) (r := Rect.unit off sh.size inb) (hl := hl) (Q := Q) (k := k)
  rw [e] at this
  exact this

/-- A store of everything. -/
theorem st_all {sh : Shape} {e : EltTy} {m : Memref sig .tc .vmem sh e} (X : Vec F sh e) {off : Fin sh.rank → ℕ}
    {inb : ∀ a, off a + sh.size a ≤ sh.size a} (h : off = fun _ => 0) {w : Vec F sh e}
    {hx : (m.access (Rect.unit off sh.size inb)).Stores Finset.univ} {hm}
    {α : Type} {Q : α → sProp 𝕄} {k : PUnit → Prog (TpuEff nD τ sig (Elt F) Λ₀ .tc) α} :
    holds c m X ⊢ iprop((holds c m w -∗ run c (k ⟨⟩) Q)
      -∗ run c (.op (.store m (Rect.unit off sh.size inb) w Finset.univ hx hm) k) Q) := by
  subst h
  unfold holds owns
  iintro ⟨%f, %hf, H⟩ Hk
  iapply (wp_store 𝒱₀ (c : Thread nD τ) none Set.univ (m := m) (r := Rect.unit (fun _ => 0) sh.size inb) (S := m.view.set) (by rw [View.setOn_univ]; exact View.set_slice_subset _ _)) $$ H
  iintro H
  iapply Hk
  iexists _
  isplitr [H]; rotate_left; · iexact H
  ipureintro
  funext i
  have := View.read_slice_write_emb (v := m.view) (Val := Elt F) (Rect.whole sh) f w (M := Finset.univ) (x := i) (Finset.mem_univ _)
  rw [Rect.emb_whole_apply] at this
  exact this

/-! ## Slots -/

theorem plane : S512x256.ShapeCasts S1x512x256 := by decide
/-- A slot's contents as the one plane of the buffer. -/
def lift (X : Vec F S512x256 .bf16) : Vec F S1x512x256 .bf16 := shapeCast S1x512x256 X plane

/-- The element of a ring buffer under index `i` of slot `j`. -/
def slotIx (j : Fin 8) (i : S512x256.Idx) : S8x512x256.Idx :=
  (Rect.unit (s := S8x512x256) ![j.val, 0, 0] S1x512x256.size (slot_inb j)).emb (Shape.reshapeEquiv plane.symm i)

theorem flat_plane (i : S512x256.Idx) : Shape.reshapeEquiv (s := S1x512x256) (s' := S512x256) plane.symm i
    = (fun a => match a with | 0 => (0 : Fin 1) | 1 => i 0 | 2 => i 1 : S1x512x256.Idx) := by
  apply Shape.reshapeEquiv_eq_of_rowMajor
  rw [Shape.rowMajor_val_two, Shape.rowMajor_val_three]
  show (0 * _ + (i 0).val) * _ + (i 1).val = _
  rw [Nat.zero_mul, Nat.zero_add]
  rfl

theorem slotIx_0 (j : Fin 8) (i : S512x256.Idx) : (slotIx j i 0).val = j.val := by
  unfold slotIx; rw [Rect.emb_apply, flat_plane]; show j.val + 1 * 0 = _; omega
theorem slotIx_1 (j : Fin 8) (i : S512x256.Idx) : (slotIx j i 1).val = (i 0).val := by
  unfold slotIx; rw [Rect.emb_apply, flat_plane]; show 0 + 1 * (i 0).val = _; omega
theorem slotIx_2 (j : Fin 8) (i : S512x256.Idx) : (slotIx j i 2).val = (i 1).val := by
  unfold slotIx; rw [Rect.emb_apply, flat_plane]; show 0 + 1 * (i 1).val = _; omega

theorem slot_read (δ : Bool) (j : Fin 8) (f : (slotM δ j).view.ty.Contents (Elt F)) (i : S512x256.Idx) :
    (slotM δ j).view.read (Elt F) f i = (bM δ).view.read (Elt F) f (slotIx j i) := rfl

/-- A load of a slot. -/
theorem ld_slot (δ : Bool) (t : ℕ) {q : PosShare TreeShare} {X : Vec F S512x256 .bf16} {m : Memref sig .tc .vmem S8x512x256 .bf16} (hm : m = bM δ)
    {off : Fin 3 → ℕ} {inb : ∀ a, off a + S1x512x256.size a ≤ S8x512x256.size a} (ho : off = ![t % 8, 0, 0])
    {hl : m.view.LoadsAt (Rect.unit (s := S8x512x256) off S1x512x256.size inb).toLoadRect}
    {α : Type} {Q : α → sProp 𝕄} {k : Vec F S1x512x256 .bf16 → Prog (TpuEff nD τ sig (Elt F) Λ₀ .tc) α} :
    slotAt c δ t q X ⊢ iprop((slotAt c δ t q X -∗ run c (k (lift X)) Q)
      -∗ run c (.op (.load m (Rect.unit (s := S8x512x256) off S1x512x256.size inb).toLoadRect hl) k) Q) := by
  subst hm ho
  unfold slotAt owns
  iintro ⟨%f, %hf, H⟩ Hk
  have hs : (slotM δ (sl t)).view.set = ((bM δ).access (Rect.unit (s := S8x512x256) ![t % 8, 0, 0] S1x512x256.size inb)).set :=
    View.set_reshape _ _
  iapply (wp_load_rect 𝒱₀ (c : Thread nD τ) none Set.univ (m := bM δ)
    (r := Rect.unit (s := S8x512x256) ![t % 8, 0, 0] S1x512x256.size inb) (S := (slotM δ (sl t)).view.set) (le_of_eq hs.symm)) $$ H
  iintro H
  have e : ((bM δ).access (Rect.unit (s := S8x512x256) ![t % 8, 0, 0] S1x512x256.size inb)).read (Elt F) f = lift X := by
    rw [← hf]; funext i
    show _ = (slotM δ (sl t)).view.read (Elt F) f (Shape.reshapeEquiv _ i)
    rw [slot_read]; unfold slotIx
    rw [Shape.reshapeEquiv_reshapeEquiv, Shape.reshapeEquiv_self]
    rfl
  rw [e]
  iapply Hk
  iexists f
  isplitr; · ipureintro; exact hf
  iexact H

/-- A half of 256 rows put into a slot's contents from row `h` on. -/
def put (h : ℕ) (a : Vec F S256x256 .bf16) (X : Vec F S512x256 .bf16) : Vec F S512x256 .bf16 := fun i =>
  if hh : h ≤ (i 0).val ∧ (i 0).val < h + 256 then a (ix ⟨(i 0).val - h, by omega⟩ (i 1)) else X i

theorem put_put (a b : Vec F S256x256 .bf16) (X : Vec F S512x256 .bf16) : put 256 b (put 0 a X) = pack a b := by
  funext i
  have hi : (i 0).val < 512 := (i 0).isLt
  unfold put pack
  by_cases h : (i 0).val < 256
  · rw [dif_neg (by omega), dif_pos (by omega), dif_pos h]; rfl
  · rw [dif_pos (by omega), dif_neg h]

theorem half_in (j h : ℕ) (hj : j < 8) (hh : h ≤ 256) : ∀ a, (![j, h, 0] : Fin 3 → ℕ) a + S1x256x256.size a ≤ S8x512x256.size a := by
  intro a
  match a with
  | 0 => show j + 1 ≤ 8; omega
  | 1 => show h + 256 ≤ 512; omega
  | 2 => show 0 + 256 ≤ 256; omega

theorem flat_half (i : S256x256.Idx) {h : S256x256.numel = S1x256x256.numel} : Shape.reshapeEquiv h i
    = (fun a => match a with | 0 => (0 : Fin 1) | 1 => i 0 | 2 => i 1 : S1x256x256.Idx) := by
  apply Shape.reshapeEquiv_eq_of_rowMajor
  rw [Shape.rowMajor_val_two, Shape.rowMajor_val_three]
  show (0 * _ + (i 0).val) * _ + (i 1).val = _
  rw [Nat.zero_mul, Nat.zero_add]
  rfl

/-- The half of a slot lies in the slot. -/
theorem half_sub (δ : Bool) (t h : ℕ) (hh : h ≤ 256) (inb : ∀ a, (![t % 8, h, 0] : Fin 3 → ℕ) a + S1x256x256.size a ≤ S8x512x256.size a) :
    ((bM δ).access (Rect.unit (s := S8x512x256) ![t % 8, h, 0] S1x256x256.size inb)).set ⊆ (slotM δ (sl t)).view.set := by
  rw [show (slotM δ (sl t)).view.set = ((bM δ).access (Rect.unit (s := S8x512x256) ![t % 8, 0, 0] S1x512x256.size (slot_inb (sl t)))).set from
    View.set_reshape _ _]
  unfold Memref.access
  rw [View.set_slice, View.set_slice]
  refine Finset.map_subset_map.2 fun x hx => ?_
  have hx := Rect.mem_set_unit.1 hx
  refine Rect.mem_set_unit.2 fun a => ?_
  have := hx a
  match a with
  | 0 => exact this
  | 1 =>
    have h2 : (x 1).val < 512 := (x 1).isLt
    exact ⟨Nat.zero_le _, by show (x 1).val < 0 + 512; omega⟩
  | 2 => exact this

/-- A load of a half of a slot, whatever it holds. -/
theorem ld_half (δ : Bool) (t h : ℕ) (hh : h ≤ 256) {q : PosShare TreeShare} {X : Vec F S512x256 .bf16} {m : Memref sig .tc .vmem S8x512x256 .bf16} (hm : m = bM δ)
    {off : Fin 3 → ℕ} {inb : ∀ a, off a + S1x256x256.size a ≤ S8x512x256.size a} (ho : off = ![t % 8, h, 0])
    {hl : m.view.LoadsAt (Rect.unit (s := S8x512x256) off S1x256x256.size inb).toLoadRect}
    {α : Type} {Q : α → sProp 𝕄} {k : Vec F S1x256x256 .bf16 → Prog (TpuEff nD τ sig (Elt F) Λ₀ .tc) α} :
    slotAt c δ t q X ⊢ iprop((∀ v, slotAt c δ t q X -∗ run c (k v) Q)
      -∗ run c (.op (.load m (Rect.unit (s := S8x512x256) off S1x256x256.size inb).toLoadRect hl) k) Q) := by
  subst hm ho
  unfold slotAt owns
  iintro ⟨%f, %hf, H⟩ Hk
  iapply (wp_load_rect 𝒱₀ (c : Thread nD τ) none Set.univ (m := bM δ)
    (r := Rect.unit (s := S8x512x256) ![t % 8, h, 0] S1x256x256.size inb) (S := (slotM δ (sl t)).view.set) (half_sub δ t h hh inb)) $$ H
  iintro H
  iapply Hk
  iexists f
  isplitr; · ipureintro; exact hf
  iexact H

/-- A store of a half of a slot. -/
theorem st_half (δ : Bool) (t h : ℕ) (hh : h ≤ 256) {X : Vec F S512x256 .bf16} {m : Memref sig .tc .vmem S8x512x256 .bf16} (hm : m = bM δ)
    {off : Fin 3 → ℕ} {inb : ∀ a, off a + S1x256x256.size a ≤ S8x512x256.size a} (ho : off = ![t % 8, h, 0])
    {w : Vec F S1x256x256 .bf16} (a : Vec F S256x256 .bf16) (hw : w = shapeCast S1x256x256 a shapeCasts_S256x256_S1x256x256)
    {hx : (m.access (Rect.unit (s := S8x512x256) off S1x256x256.size inb)).Stores Finset.univ} {hst}
    {α : Type} {Q : α → sProp 𝕄} {k : PUnit → Prog (TpuEff nD τ sig (Elt F) Λ₀ .tc) α} :
    slotAt c δ t fullShare X ⊢ iprop((slotAt c δ t fullShare (put h a X) -∗ run c (k ⟨⟩) Q)
      -∗ run c (.op (.store m (Rect.unit (s := S8x512x256) off S1x256x256.size inb) w Finset.univ hx hst) k) Q) := by
  subst hm ho hw
  unfold slotAt owns
  iintro ⟨%f, %hf, H⟩ Hk
  iapply (wp_store 𝒱₀ (c : Thread nD τ) none Set.univ (m := bM δ)
    (r := Rect.unit (s := S8x512x256) ![t % 8, h, 0] S1x256x256.size inb) (S := (slotM δ (sl t)).view.set)
    (by rw [View.setOn_univ]; exact half_sub δ t h hh inb)) $$ H
  iintro H
  iapply Hk
  iexists _
  isplitr [H]; rotate_left; · iexact H
  ipureintro
  funext i
  rw [slot_read]
  unfold Memref.access put
  split
  · rename_i hi
    have e : slotIx (sl t) i = (Rect.unit (s := S8x512x256) ![t % 8, h, 0] S1x256x256.size inb).emb
        (Shape.reshapeEquiv (s := S1x256x256) (s' := S256x256) shapeCasts_S256x256_S1x256x256.symm
          (ix ⟨(i 0).val - h, by omega⟩ (i 1))) := by
      rw [flat_half]
      funext a
      apply Fin.ext
      rw [Rect.emb_apply]
      match a with
      | 0 => rw [slotIx_0]; show t % 8 = t % 8 + 1 * 0; omega
      | 1 => rw [slotIx_1]; show (i 0).val = h + 1 * ((i 0).val - h); omega
      | 2 => rw [slotIx_2]; show (i 1).val = 0 + 1 * (i 1).val; omega
    rw [e, View.read_slice_write_emb _ _ _ (Finset.mem_univ _)]
    unfold shapeCast
    rw [Shape.reshapeEquiv_reshapeEquiv, Shape.reshapeEquiv_self]
  · rename_i hi
    rw [View.read_slice_write_of_not_mem, ← slot_read, hf]
    intro hmem
    obtain ⟨x, -, hx⟩ := Finset.mem_map.1 hmem
    have := congrArg Fin.val (congrFun hx 1)
    rw [slotIx_1, Rect.emb_apply] at this
    have h2 : (x 1).val < 256 := (x 1).isLt
    have h3 : (i 0).val = h + 1 * (x 1).val := this.symm
    omega

/-- A free slot holds something. -/
theorem free_slotAt (δ : Bool) (t : ℕ) : free (F := F) c δ t ⊢ iprop(∃ X, slotAt c δ t fullShare X) := by
  unfold free slotAt slot owns
  iintro ⟨%f, H⟩
  iexists _; iexists f
  isplitr [H]; · ipureintro; rfl
  iexact H

/-! ## Semaphores and slots by their offsets -/

theorem slot_of (δ : Bool) (t : ℕ) {m : Memref sig .tc .vmem S8x512x256 .bf16} (hm : m = bM δ) {off : Fin 3 → ℕ}
    {inb : ∀ a, off a + S1x512x256.size a ≤ S8x512x256.size a} (ho : off = ![t % 8, 0, 0]) {h1 h2} :
    (m.slice (Rect.unit (s := S8x512x256) off S1x512x256.size inb) h1).squeeze S512x256 h2 = slotM δ (sl t) := by
  subst hm ho; rfl

theorem credit_of {m : Memref sig .tc .vmem S8x512x256 .bf16} (δ : Bool) (hm : m = bM δ) {off : Fin 3 → ℕ}
    {inb : ∀ a, off a + S1x512x256.size a ≤ S8x512x256.size a} {h1 h2} :
    ((m.slice (Rect.unit (s := S8x512x256) off S1x512x256.size inb) h1).squeeze S512x256 h2).view.dmaCredit = N := by
  subst hm; cases δ <;> rfl

end Cert.Mlp

end
-- ==== Proof.Ops.lean ====
/-
# The kernel's buffers

The staged blocks, the activations, the running sum and the result of one device as one resource, and the slots and
semaphores named by their offsets.
-/
module

public import proofs.«01_k».proof.Proof.Slots

@[expose] public section

set_option maxRecDepth 16384

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-- A program over the kernel's buffers and semaphores, given them. -/
abbrev on {β : Sort _} (f : (arg0 : Memref sig .tc .vmem S512x256 .bf16) → arg0.IsWhole →
      (arg1 : Memref sig .tc .vmem S256x512 .bf16) → arg1.IsWhole →
      (arg2 : Memref sig .tc .vmem S512x256 .bf16) → arg2.IsWhole →
      (arg3 : Memref sig .tc .vmem S256x512 .bf16) → arg3.IsWhole →
      (arg4 : Memref sig .tc .vmem S512x256 .bf16) → arg4.IsWhole →
      (arg5 : Memref sig .tc .vmem S256x512 .bf16) → arg5.IsWhole →
      (arg6 : Memref sig .tc .vmem S512x256 .bf16) → arg6.IsWhole →
      (arg7 : Memref sig .tc .vmem S512x256 .f32) → arg7.IsWhole →
      (arg8 : Memref sig .tc .vmem S512x256 .bf16) → arg8.IsWhole →
      (arg9 : Memref sig .tc .vmem S512x256 .f32) → arg9.IsWhole →
      (arg10 : Memref sig .tc .vmem S8x512x256 .bf16) → arg10.IsWhole →
      (arg11 : Memref sig .tc .vmem S8x512x256 .bf16) → arg11.IsWhole →
      DmaSems sig S8 → DmaSems sig S8 → DmaSems sig S8 → DmaSems sig S8 → Sems sig S_ → Sems sig S_ → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8 cc0_scratch9

variable {B : Blocks F} {c : Dev nD}

/-! ## The buffers that are not rings -/

/-- The blocks given to the device, its activations `X`, its sum `A`, its result `O`. -/
def Reg (B : Blocks F) (c : Dev nD) (X : Vec F S512x256 .bf16) (A O : Vec F S512x256 .f32) : sProp 𝕄 :=
  iprop(holds c (Memref.whole cc0_stg0_0) (B.x c)
    ∗ holds c (Memref.whole cc0_stg1_0) (B.wi 0 c) ∗ holds c (Memref.whole cc0_stg2_0) (B.wo 0 c)
    ∗ holds c (Memref.whole cc0_stg3_0) (B.wi 1 c) ∗ holds c (Memref.whole cc0_stg4_0) (B.wo 1 c)
    ∗ holds c (Memref.whole cc0_stg5_0) (B.wi 2 c) ∗ holds c (Memref.whole cc0_stg6_0) (B.wo 2 c)
    ∗ holds c (Memref.whole cc0_stg7_0) O ∗ holds c (Memref.whole cc0_scratch0) X ∗ holds c (Memref.whole cc0_scratch1) A)

theorem Reg_x (X : Vec F S512x256 .bf16) (A O : Vec F S512x256 .f32) : Reg B c X A O
    ⊢ iprop(holds c (Memref.whole cc0_stg0_0) (B.x c) ∗ (holds c (Memref.whole cc0_stg0_0) (B.x c) -∗ Reg B c X A O)) := by
  unfold Reg
  iintro ⟨h0, h1, h2, h3, h4, h5, h6, h7, h8, h9⟩
  isplitl [h0]; · iexact h0
  iintro H
  isplitl [H]; · iexact H
  isplitl [h1]; · iexact h1
  isplitl [h2]; · iexact h2
  isplitl [h3]; · iexact h3
  isplitl [h4]; · iexact h4
  isplitl [h5]; · iexact h5
  isplitl [h6]; · iexact h6
  isplitl [h7]; · iexact h7
  isplitl [h8]; · iexact h8
  iexact h9

theorem Reg_wi0 (X : Vec F S512x256 .bf16) (A O : Vec F S512x256 .f32) : Reg B c X A O
    ⊢ iprop(holds c (Memref.whole cc0_stg1_0) (B.wi 0 c) ∗ (holds c (Memref.whole cc0_stg1_0) (B.wi 0 c) -∗ Reg B c X A O)) := by
  unfold Reg
  iintro ⟨h0, h1, h2, h3, h4, h5, h6, h7, h8, h9⟩
  isplitl [h1]; · iexact h1
  iintro H
  isplitl [h0]; · iexact h0
  isplitl [H]; · iexact H
  isplitl [h2]; · iexact h2
  isplitl [h3]; · iexact h3
  isplitl [h4]; · iexact h4
  isplitl [h5]; · iexact h5
  isplitl [h6]; · iexact h6
  isplitl [h7]; · iexact h7
  isplitl [h8]; · iexact h8
  iexact h9

theorem Reg_wo0 (X : Vec F S512x256 .bf16) (A O : Vec F S512x256 .f32) : Reg B c X A O
    ⊢ iprop(holds c (Memref.whole cc0_stg2_0) (B.wo 0 c) ∗ (holds c (Memref.whole cc0_stg2_0) (B.wo 0 c) -∗ Reg B c X A O)) := by
  unfold Reg
  iintro ⟨h0, h1, h2, h3, h4, h5, h6, h7, h8, h9⟩
  isplitl [h2]; · iexact h2
  iintro H
  isplitl [h0]; · iexact h0
  isplitl [h1]; · iexact h1
  isplitl [H]; · iexact H
  isplitl [h3]; · iexact h3
  isplitl [h4]; · iexact h4
  isplitl [h5]; · iexact h5
  isplitl [h6]; · iexact h6
  isplitl [h7]; · iexact h7
  isplitl [h8]; · iexact h8
  iexact h9

theorem Reg_wi1 (X : Vec F S512x256 .bf16) (A O : Vec F S512x256 .f32) : Reg B c X A O
    ⊢ iprop(holds c (Memref.whole cc0_stg3_0) (B.wi 1 c) ∗ (holds c (Memref.whole cc0_stg3_0) (B.wi 1 c) -∗ Reg B c X A O)) := by
  unfold Reg
  iintro ⟨h0, h1, h2, h3, h4, h5, h6, h7, h8, h9⟩
  isplitl [h3]; · iexact h3
  iintro H
  isplitl [h0]; · iexact h0
  isplitl [h1]; · iexact h1
  isplitl [h2]; · iexact h2
  isplitl [H]; · iexact H
  isplitl [h4]; · iexact h4
  isplitl [h5]; · iexact h5
  isplitl [h6]; · iexact h6
  isplitl [h7]; · iexact h7
  isplitl [h8]; · iexact h8
  iexact h9

theorem Reg_wo1 (X : Vec F S512x256 .bf16) (A O : Vec F S512x256 .f32) : Reg B c X A O
    ⊢ iprop(holds c (Memref.whole cc0_stg4_0) (B.wo 1 c) ∗ (holds c (Memref.whole cc0_stg4_0) (B.wo 1 c) -∗ Reg B c X A O)) := by
  unfold Reg
  iintro ⟨h0, h1, h2, h3, h4, h5, h6, h7, h8, h9⟩
  isplitl [h4]; · iexact h4
  iintro H
  isplitl [h0]; · iexact h0
  isplitl [h1]; · iexact h1
  isplitl [h2]; · iexact h2
  isplitl [h3]; · iexact h3
  isplitl [H]; · iexact H
  isplitl [h5]; · iexact h5
  isplitl [h6]; · iexact h6
  isplitl [h7]; · iexact h7
  isplitl [h8]; · iexact h8
  iexact h9

theorem Reg_wi2 (X : Vec F S512x256 .bf16) (A O : Vec F S512x256 .f32) : Reg B c X A O
    ⊢ iprop(holds c (Memref.whole cc0_stg5_0) (B.wi 2 c) ∗ (holds c (Memref.whole cc0_stg5_0) (B.wi 2 c) -∗ Reg B c X A O)) := by
  unfold Reg
  iintro ⟨h0, h1, h2, h3, h4, h5, h6, h7, h8, h9⟩
  isplitl [h5]; · iexact h5
  iintro H
  isplitl [h0]; · iexact h0
  isplitl [h1]; · iexact h1
  isplitl [h2]; · iexact h2
  isplitl [h3]; · iexact h3
  isplitl [h4]; · iexact h4
  isplitl [H]; · iexact H
  isplitl [h6]; · iexact h6
  isplitl [h7]; · iexact h7
  isplitl [h8]; · iexact h8
  iexact h9

theorem Reg_wo2 (X : Vec F S512x256 .bf16) (A O : Vec F S512x256 .f32) : Reg B c X A O
    ⊢ iprop(holds c (Memref.whole cc0_stg6_0) (B.wo 2 c) ∗ (holds c (Memref.whole cc0_stg6_0) (B.wo 2 c) -∗ Reg B c X A O)) := by
  unfold Reg
  iintro ⟨h0, h1, h2, h3, h4, h5, h6, h7, h8, h9⟩
  isplitl [h6]; · iexact h6
  iintro H
  isplitl [h0]; · iexact h0
  isplitl [h1]; · iexact h1
  isplitl [h2]; · iexact h2
  isplitl [h3]; · iexact h3
  isplitl [h4]; · iexact h4
  isplitl [h5]; · iexact h5
  isplitl [H]; · iexact H
  isplitl [h7]; · iexact h7
  isplitl [h8]; · iexact h8
  iexact h9

theorem Reg_out (X : Vec F S512x256 .bf16) (A O : Vec F S512x256 .f32) : Reg B c X A O
    ⊢ iprop(holds c (Memref.whole cc0_stg7_0) (O) ∗ (∀ O', holds c (Memref.whole cc0_stg7_0) O' -∗ Reg B c X A O')) := by
  unfold Reg
  iintro ⟨h0, h1, h2, h3, h4, h5, h6, h7, h8, h9⟩
  isplitl [h7]; · iexact h7
  iintro %O' H
  isplitl [h0]; · iexact h0
  isplitl [h1]; · iexact h1
  isplitl [h2]; · iexact h2
  isplitl [h3]; · iexact h3
  isplitl [h4]; · iexact h4
  isplitl [h5]; · iexact h5
  isplitl [h6]; · iexact h6
  isplitl [H]; · iexact H
  isplitl [h8]; · iexact h8
  iexact h9

theorem Reg_xb (X : Vec F S512x256 .bf16) (A O : Vec F S512x256 .f32) : Reg B c X A O
    ⊢ iprop(holds c (Memref.whole cc0_scratch0) (X) ∗ (∀ X', holds c (Memref.whole cc0_scratch0) X' -∗ Reg B c X' A O)) := by
  unfold Reg
  iintro ⟨h0, h1, h2, h3, h4, h5, h6, h7, h8, h9⟩
  isplitl [h8]; · iexact h8
  iintro %X' H
  isplitl [h0]; · iexact h0
  isplitl [h1]; · iexact h1
  isplitl [h2]; · iexact h2
  isplitl [h3]; · iexact h3
  isplitl [h4]; · iexact h4
  isplitl [h5]; · iexact h5
  isplitl [h6]; · iexact h6
  isplitl [h7]; · iexact h7
  isplitl [H]; · iexact H
  iexact h9

theorem Reg_acc (X : Vec F S512x256 .bf16) (A O : Vec F S512x256 .f32) : Reg B c X A O
    ⊢ iprop(holds c (Memref.whole cc0_scratch1) (A) ∗ (∀ A', holds c (Memref.whole cc0_scratch1) A' -∗ Reg B c X A' O)) := by
  unfold Reg
  iintro ⟨h0, h1, h2, h3, h4, h5, h6, h7, h8, h9⟩
  isplitl [h9]; · iexact h9
  iintro %A' H
  isplitl [h0]; · iexact h0
  isplitl [h1]; · iexact h1
  isplitl [h2]; · iexact h2
  isplitl [h3]; · iexact h3
  isplitl [h4]; · iexact h4
  isplitl [h5]; · iexact h5
  isplitl [h6]; · iexact h6
  isplitl [h7]; · iexact h7
  isplitl [h8]; · iexact h8
  iexact H

/-- A load from one of these buffers, through a rectangle. -/
theorem reg_ld {R : sProp 𝕄} {sh : Shape} {e : EltTy} {m : Memref sig .tc .vmem sh e} {Y : Vec F sh e} (hR : R ⊢ iprop(holds c m Y ∗ (holds c m Y -∗ R)))
    {r : Rect sh} (v : Vec F r.shape e) (hv : (fun i => Y (r.emb i)) = v) {hl : m.view.LoadsAt r.toLoadRect}
    {α : Type} {Q : α → sProp 𝕄} {k : Vec F r.shape e → Prog (TpuEff nD τ sig (Elt F) Λ₀ .tc) α} :
    R ⊢ iprop((R -∗ run c (k v) Q) -∗ run c (.op (.load m r.toLoadRect hl) k) Q) := by
  subst hv
  iintro HR Hk
  ihave HR := hR $$ HR
  icases HR with ⟨H, HR⟩
  iapply (ld_rect (c := c) (m := m) (X := Y) (r := r)) $$ H
  iintro H
  iapply Hk
  iapply HR
  iexact H

theorem z2 : (![0, 0] : Fin 2 → ℕ) = fun _ => 0 := by funext a; fin_cases a <;> rfl

/-- The sum, read. -/
theorem ld_acc (X : Vec F S512x256 .bf16) (A O : Vec F S512x256 .f32) {inb : ∀ a, (![0, 0] : Fin 2 → ℕ) a + S512x256.size a ≤ S512x256.size a}
    {hl : (Memref.whole cc0_scratch1).view.LoadsAt (Rect.unit (s := S512x256) ![0, 0] S512x256.size inb).toLoadRect}
    {α : Type} {Q : α → sProp 𝕄} {k : Vec F S512x256 .f32 → Prog (TpuEff nD τ sig (Elt F) Λ₀ .tc) α} :
    Reg B c X A O ⊢ iprop((Reg B c X A O -∗ run c (k A) Q)
      -∗ run c (.op (.load (Memref.whole cc0_scratch1) (Rect.unit (s := S512x256) ![0, 0] S512x256.size inb).toLoadRect hl) k) Q) := by
  iintro HR Hk
  ihave HR := (Reg_acc X A O) $$ HR
  icases HR with ⟨H, HR⟩
  iapply (ld_all (c := c) (m := Memref.whole cc0_scratch1) A z2) $$ H
  iintro H
  iapply Hk
  iapply HR
  iexact H
/-- The sum, written. -/
theorem st_acc (X : Vec F S512x256 .bf16) (A O : Vec F S512x256 .f32) {inb : ∀ a, (![0, 0] : Fin 2 → ℕ) a + S512x256.size a ≤ S512x256.size a}
    {w : Vec F S512x256 .f32} (w' : Vec F S512x256 .f32) (hw : w = w')
    {hx : ((Memref.whole cc0_scratch1).access (Rect.unit (s := S512x256) ![0, 0] S512x256.size inb)).Stores Finset.univ} {hm}
    {α : Type} {Q : α → sProp 𝕄} {k : PUnit → Prog (TpuEff nD τ sig (Elt F) Λ₀ .tc) α} :
    Reg B c X A O ⊢ iprop((Reg B c X w' O -∗ run c (k ⟨⟩) Q)
      -∗ run c (.op (.store (Memref.whole cc0_scratch1) (Rect.unit (s := S512x256) ![0, 0] S512x256.size inb) w Finset.univ hx hm) k) Q) := by
  subst hw
  iintro HR Hk
  ihave HR := (Reg_acc X A O) $$ HR
  icases HR with ⟨H, HR⟩
  iapply (st_all (c := c) (m := Memref.whole cc0_scratch1) A z2) $$ H
  iintro H
  iapply Hk
  iapply HR
  iexact H
/-- The activations, read. -/
theorem ld_xb (X : Vec F S512x256 .bf16) (A O : Vec F S512x256 .f32) {inb : ∀ a, (![0, 0] : Fin 2 → ℕ) a + S512x256.size a ≤ S512x256.size a}
    {hl : (Memref.whole cc0_scratch0).view.LoadsAt (Rect.unit (s := S512x256) ![0, 0] S512x256.size inb).toLoadRect}
    {α : Type} {Q : α → sProp 𝕄} {k : Vec F S512x256 .bf16 → Prog (TpuEff nD τ sig (Elt F) Λ₀ .tc) α} :
    Reg B c X A O ⊢ iprop((Reg B c X A O -∗ run c (k X) Q)
      -∗ run c (.op (.load (Memref.whole cc0_scratch0) (Rect.unit (s := S512x256) ![0, 0] S512x256.size inb).toLoadRect hl) k) Q) := by
  iintro HR Hk
  ihave HR := (Reg_xb X A O) $$ HR
  icases HR with ⟨H, HR⟩
  iapply (ld_all (c := c) (m := Memref.whole cc0_scratch0) X z2) $$ H
  iintro H
  iapply Hk
  iapply HR
  iexact H
/-- The activations, written. -/
theorem st_xb (X : Vec F S512x256 .bf16) (A O : Vec F S512x256 .f32) {inb : ∀ a, (![0, 0] : Fin 2 → ℕ) a + S512x256.size a ≤ S512x256.size a}
    {w : Vec F S512x256 .bf16} (w' : Vec F S512x256 .bf16) (hw : w = w')
    {hx : ((Memref.whole cc0_scratch0).access (Rect.unit (s := S512x256) ![0, 0] S512x256.size inb)).Stores Finset.univ} {hm}
    {α : Type} {Q : α → sProp 𝕄} {k : PUnit → Prog (TpuEff nD τ sig (Elt F) Λ₀ .tc) α} :
    Reg B c X A O ⊢ iprop((Reg B c w' A O -∗ run c (k ⟨⟩) Q)
      -∗ run c (.op (.store (Memref.whole cc0_scratch0) (Rect.unit (s := S512x256) ![0, 0] S512x256.size inb) w Finset.univ hx hm) k) Q) := by
  subst hw
  iintro HR Hk
  ihave HR := (Reg_xb X A O) $$ HR
  icases HR with ⟨H, HR⟩
  iapply (st_all (c := c) (m := Memref.whole cc0_scratch0) X z2) $$ H
  iintro H
  iapply Hk
  iapply HR
  iexact H
/-- The result, read. -/
theorem ld_out (X : Vec F S512x256 .bf16) (A O : Vec F S512x256 .f32) {inb : ∀ a, (![0, 0] : Fin 2 → ℕ) a + S512x256.size a ≤ S512x256.size a}
    {hl : (Memref.whole cc0_stg7_0).view.LoadsAt (Rect.unit (s := S512x256) ![0, 0] S512x256.size inb).toLoadRect}
    {α : Type} {Q : α → sProp 𝕄} {k : Vec F S512x256 .f32 → Prog (TpuEff nD τ sig (Elt F) Λ₀ .tc) α} :
    Reg B c X A O ⊢ iprop((Reg B c X A O -∗ run c (k O) Q)
      -∗ run c (.op (.load (Memref.whole cc0_stg7_0) (Rect.unit (s := S512x256) ![0, 0] S512x256.size inb).toLoadRect hl) k) Q) := by
  iintro HR Hk
  ihave HR := (Reg_out X A O) $$ HR
  icases HR with ⟨H, HR⟩
  iapply (ld_all (c := c) (m := Memref.whole cc0_stg7_0) O z2) $$ H
  iintro H
  iapply Hk
  iapply HR
  iexact H
/-- The result, written. -/
theorem st_out (X : Vec F S512x256 .bf16) (A O : Vec F S512x256 .f32) {inb : ∀ a, (![0, 0] : Fin 2 → ℕ) a + S512x256.size a ≤ S512x256.size a}
    {w : Vec F S512x256 .f32} (w' : Vec F S512x256 .f32) (hw : w = w')
    {hx : ((Memref.whole cc0_stg7_0).access (Rect.unit (s := S512x256) ![0, 0] S512x256.size inb)).Stores Finset.univ} {hm}
    {α : Type} {Q : α → sProp 𝕄} {k : PUnit → Prog (TpuEff nD τ sig (Elt F) Λ₀ .tc) α} :
    Reg B c X A O ⊢ iprop((Reg B c X A w' -∗ run c (k ⟨⟩) Q)
      -∗ run c (.op (.store (Memref.whole cc0_stg7_0) (Rect.unit (s := S512x256) ![0, 0] S512x256.size inb) w Finset.univ hx hm) k) Q) := by
  subst hw
  iintro HR Hk
  ihave HR := (Reg_out X A O) $$ HR
  icases HR with ⟨H, HR⟩
  iapply (st_all (c := c) (m := Memref.whole cc0_stg7_0) O z2) $$ H
  iintro H
  iapply Hk
  iapply HR
  iexact H

/-! ## Semaphores by their place in an array -/

/-- The departure and arrival semaphores of a direction. -/
abbrev arrS : Bool → DmaSems sig S8
  | false => cc0_scratch4
  | true => cc0_scratch6
abbrev arrR : Bool → DmaSems sig S8
  | false => cc0_scratch5
  | true => cc0_scratch7

theorem sem_inb (j : Fin 8) : ∀ a, (![j.val] : Fin 1 → ℕ) a + S1.size a ≤ S8.size a := by revert j; decide
theorem semS_at : ∀ (δ : Bool) (j : Fin 8),
    (((arrS δ).slice (Rect.unit (s := S8) ![j.val] S1.size (sem_inb j))).squeeze S_ squeezes_S1_S_).sem = semS δ j := by decide +kernel
theorem semR_at : ∀ (δ : Bool) (j : Fin 8),
    (((arrR δ).slice (Rect.unit (s := S8) ![j.val] S1.size (sem_inb j))).squeeze S_ squeezes_S1_S_).sem = semR δ j := by decide +kernel

theorem semS_of (δ : Bool) (t : ℕ) {A : DmaSems sig S8} (hA : A = arrS δ) {off : Fin 1 → ℕ} {inb : ∀ a, off a + S1.size a ≤ S8.size a}
    (ho : off = ![t % 8]) {h} : ((A.slice (Rect.unit (s := S8) off S1.size inb)).squeeze S_ h).sem = semS δ (sl t) := by
  subst hA ho; exact semS_at δ (sl t)
theorem semR_of (δ : Bool) (t : ℕ) {A : DmaSems sig S8} (hA : A = arrR δ) {off : Fin 1 → ℕ} {inb : ∀ a, off a + S1.size a ≤ S8.size a}
    (ho : off = ![t % 8]) {h} : ((A.slice (Rect.unit (s := S8) off S1.size inb)).squeeze S_ h).sem = semR δ (sl t) := by
  subst hA ho; exact semR_at δ (sl t)

/-! ## Steps as the program writes them -/

/-- Slot `t % 8` holds what position `t` brings. -/
abbrev hold (B : Blocks F) (c : Dev nD) (δ : Bool) (t : ℕ) : sProp 𝕄 := slotAt c δ t fullShare (piece B δ c t)

section Steps

variable {K : Dev nD × Cid → ℕ} {ι : Key → ℕ} {m : Memref sig .tc .vmem S8x512x256 .bf16} {A A' : DmaSems sig S8}
  {o o' : Fin 3 → ℕ} {p p' : Fin 1 → ℕ}
  {i : ∀ a, o a + S1x512x256.size a ≤ S8x512x256.size a} {i' : ∀ a, o' a + S1x512x256.size a ≤ S8x512x256.size a}
  {j : ∀ a, p a + S1.size a ≤ S8.size a} {j' : ∀ a, p' a + S1.size a ≤ S8.size a}

/-- Position `t`, the next to go, is sent on from its slot. -/
theorem send (δ : Bool) (t : ℕ) (V V' : Bool → Ctr) {α : Type} {Q : α → sProp 𝕄} {k : PUnit → Prog (TpuEff nD τ sig (Elt F) Λ₀ .tc) α} {n : Dev nD} {u1 u2 u3 u4 u5 u6}
    {hsc w1 w2} {w3 : DmaTarget.Typed .vmem (.dma ((A'.slice (Rect.unit (s := S8) p' S1.size j')).squeeze S_ u6).sem)
      (.remote (Dev.tc n : Thread nD τ) ((m.slice (Rect.unit (s := S8x512x256) o' S1x512x256.size i') u3).squeeze S512x256 u4)
        (.dma ((A.slice (Rect.unit (s := S8) p S1.size j)).squeeze S_ u5).sem) hsc)}
    (hn : n = dn δ c) (hV : Moves δ V V' {V δ with a := (V δ).a + 1})
    (h : tt (V δ).a = t ∧ (V δ).a < 45 ∧ (V δ).w < 46 ∧ t < (V δ).q + 6 ∧ t < tt (V δ).w + 8)
    (hm : m = bM δ := by rfl) (ho : o = ![t % 8, 0, 0] := by rfl) (ho' : o' = ![(t + 2) % 8, 0, 0] := by rfl)
    (hA : A = arrS δ := by rfl) (hp : p = ![t % 8] := by rfl) (hA' : A' = arrR δ := by rfl) (hp' : p' = ![(t + 2) % 8] := by rfl) :
    Run B K ι c V ⊢ iprop(hold B c δ t -∗ ((Run B K ι c V' ∗ out B c δ (V δ).a) -∗ run c (k ⟨⟩) Q)
      -∗ run c (.op (.enqueueDma ((m.slice (Rect.unit (s := S8x512x256) o S1x512x256.size i) u1).squeeze S512x256 u2)
          (.remote (Dev.tc n : Thread nD τ) ((m.slice (Rect.unit (s := S8x512x256) o' S1x512x256.size i') u3).squeeze S512x256 u4)
            (.dma ((A.slice (Rect.unit (s := S8) p S1.size j)).squeeze S_ u5).sem) hsc)
          (.dma ((A'.slice (Rect.unit (s := S8) p' S1.size j')).squeeze S_ u6).sem) w1 w2 w3) k) Q) :=
  step_send δ V V' hV t h.1 hn (slot_of δ t hm ho) (slot_of δ (t + 2) hm ho') (semS_of δ t hA hp) (semR_of δ (t + 2) hA' hp') h.2

/-- The arrival of position `t` is waited for. -/
theorem recv (δ : Bool) (t : ℕ) (V V' : Bool → Ctr) {α : Type} {Q : α → sProp 𝕄} {k : PUnit → Prog (TpuEff nD τ sig (Elt F) Λ₀ .tc) α}
    {sp : Space} {sh : Shape} {e : EltTy} {m1 : Memref sig .tc sp sh e} {u1 u2 u5 w1 w2}
    (hV : Moves δ V V' {V δ with r := (V δ).r + 1})
    (h : tt (V δ).r + 2 = t ∧ (V δ).r < 45 ∧ (V δ).Over (4 * t - 5) ∧ (V (!δ)).Over (4 * t - 5))
    (hm : m = bM δ := by rfl) (hA : A = arrR δ := by rfl) (hp : p = ![t % 8] := by rfl) :
    Run B K ι c V ⊢ iprop(((Run B K ι c V' ∗ hold B c δ t) -∗ run c (k ⟨⟩) Q)
      -∗ run c (.op (.waitDma2 ((A.slice (Rect.unit (s := S8) p S1.size j)).squeeze S_ u5).sem m1
          ((m.slice (Rect.unit (s := S8x512x256) o S1x512x256.size i) u1).squeeze S512x256 u2) w1 w2) k) Q) :=
  step_recv δ V V' hV t h.1 (semR_of δ t hA hp) (credit_of δ hm) h.2

/-- The departure of position `t` is waited for. -/
theorem sent (δ : Bool) (t n : ℕ) (V V' : Bool → Ctr) {α : Type} {Q : α → sProp 𝕄} {k : PUnit → Prog (TpuEff nD τ sig (Elt F) Λ₀ .tc) α}
    {sp : Space} {sh : Shape} {e : EltTy} {m1 : Memref sig .tc sp sh e} {u1 u2 u5 w1 w2}
    (hV : Moves δ V V' {V δ with w := (V δ).w + 1}) (h : n = (V δ).w ∧ tt n = t ∧ n < 45)
    (hm : m = bM δ := by rfl) (hA : A = arrS δ := by rfl) (hp : p = ![t % 8] := by rfl) :
    Run B K ι c V ⊢ iprop(out B c δ n -∗ ((Run B K ι c V' ∗ hold B c δ t) -∗ run c (k ⟨⟩) Q)
      -∗ run c (.op (.waitDma2 ((A.slice (Rect.unit (s := S8) p S1.size j)).squeeze S_ u5).sem m1
          ((m.slice (Rect.unit (s := S8x512x256) o S1x512x256.size i) u1).squeeze S512x256 u2) w1 w2) k) Q) :=
  step_sent δ V V' hV n t h.1 h.2.1 (semS_of δ t hA hp) (credit_of δ hm) h.2.2

/-- The slot of position `t` is done with, and the credit goes upstream. -/
theorem give (δ : Bool) (t : ℕ) (V V' : Bool → Ctr) {α : Type} {Q : α → sProp 𝕄} {k : PUnit → Prog (TpuEff nD τ sig (Elt F) Λ₀ .tc) α} {n : Dev nD} {s : Sem sig}
    (hn : n = up δ c) (hV : Moves δ V V' {V δ with g := (V δ).g + 1})
    (h : (V δ).g = t ∧ t < 43 ∧ t < tt (V δ).r + 2 ∧ (V δ).r < 46 ∧ (V δ).p ≤ t) (hs : s = semC δ := by rfl) :
    Run B K ι c V ⊢ iprop(hold B c δ t -∗ (Run B K ι c V' -∗ run c (k ⟨⟩) Q)
      -∗ run c (.op (.semSignal (Dev.tc n : Thread nD τ) s 1) k) Q) := by
  iintro HR Hs
  iapply (step_give δ V V' hV t h.1 hn hs h.2) $$ HR
  iapply (slotAt_free c δ t _)
  iexact Hs

/-- `x` more credits are waited for. -/
theorem take (δ : Bool) (x : ℕ) (V V' : Bool → Ctr) {α : Type} {Q : α → sProp 𝕄} {k : PUnit → Prog (TpuEff nD τ sig (Elt F) Λ₀ .tc) α} {s : Sem sig}
    (hV : Moves δ V V' {V δ with q := (V δ).q + x})
    (h : 0 < x ∧ (V δ).q + x ≤ 43 ∧ (V δ).Over (4 * ((V δ).q + x - 1) + 8) ∧ (V (!δ)).Over (4 * ((V δ).q + x - 1) + 8))
    (hs : s = semC δ := by rfl) :
    Run B K ι c V ⊢ iprop((Run B K ι c V' -∗ run c (k ⟨⟩) Q) -∗ run c (.op (.semWait s x) k) Q) :=
  step_take δ V V' x hV hs h

end Steps

/-- A slot of this device's own blocks: two halves stored one above the other. -/
theorem fill (δ : Bool) (t : ℕ) (a b : Vec F S256x256 .bf16) {α : Type} {Q : α → sProp 𝕄} {k : PUnit → Prog (TpuEff nD τ sig (Elt F) Λ₀ .tc) α}
    {m : Memref sig .tc .vmem S8x512x256 .bf16} {o o' : Fin 3 → ℕ} {i : ∀ a, o a + S1x256x256.size a ≤ S8x512x256.size a}
    {i' : ∀ a, o' a + S1x256x256.size a ≤ S8x512x256.size a} {w w' : Vec F S1x256x256 .bf16}
    {hl : m.view.LoadsAt (Rect.unit (s := S8x512x256) o S1x256x256.size i).toLoadRect}
    {hl' : m.view.LoadsAt (Rect.unit (s := S8x512x256) o' S1x256x256.size i').toLoadRect}
    {hx : (m.access (Rect.unit (s := S8x512x256) o S1x256x256.size i)).Stores Finset.univ} {hst}
    {hx' : (m.access (Rect.unit (s := S8x512x256) o' S1x256x256.size i')).Stores Finset.univ} {hst'}
    (hm : m = bM δ := by rfl) (ho : o = ![t % 8, 0, 0] := by rfl) (ho' : o' = ![t % 8, 256, 0] := by rfl)
    (hw : w = shapeCast S1x256x256 a shapeCasts_S256x256_S1x256x256 := by rfl) (hw' : w' = shapeCast S1x256x256 b shapeCasts_S256x256_S1x256x256 := by rfl)
    (hp : pack a b = piece B δ c t := by rfl) :
    free c δ t ⊢ iprop((hold B c δ t -∗ run c (k ⟨⟩) Q)
      -∗ run c (.op (.load m (Rect.unit (s := S8x512x256) o S1x256x256.size i).toLoadRect hl) fun _ =>
          .op (.store m (Rect.unit (s := S8x512x256) o S1x256x256.size i) w Finset.univ hx hst) fun _ =>
          .op (.load m (Rect.unit (s := S8x512x256) o' S1x256x256.size i').toLoadRect hl') fun _ =>
          .op (.store m (Rect.unit (s := S8x512x256) o' S1x256x256.size i') w' Finset.univ hx' hst') k) Q) := by
  iintro Hf Hk
  ihave Hf := (free_slotAt (F := F) (c := c) δ t) $$ Hf
  icases Hf with ⟨%X, H⟩
  iapply (ld_half δ t 0 (by omega) hm ho) $$ H
  iintro %_ H
  iapply (st_half δ t 0 (by omega) hm ho a hw) $$ H
  iintro H
  iapply (ld_half δ t 256 (by omega) hm ho') $$ H
  iintro %_ H
  iapply (st_half δ t 256 (by omega) hm ho' b hw') $$ H
  iintro H
  iapply Hk
  unfold hold
  rw [← hp, ← put_put a b X]
  iexact H

/-! ## The values of one step -/

/-- The sum after both directions' blocks `P` and `P'` of one step. -/
def stp (X : Vec F S512x256 .bf16) (A : Vec F S512x256 .f32) (P P' : Vec F S512x256 .bf16) : Vec F S512x256 .f32 :=
  k0_pay27 (k0_pay1 A (lift P) X) (k0_pay3 (lift P')) (k0_pay4 (lift P')) X (constant S512x256 .f32 0x00000000#32)

/-- A device's own contribution to a layer. -/
def own (X : Vec F S512x256 .bf16) (W : Vec F S256x512 .bf16) (V : Vec F S512x256 .bf16) : Vec F S512x256 .f32 := k0_pay26 W V X

/-- The next layer's activations. -/
def nextX (A : Vec F S512x256 .f32) : Vec F S512x256 .bf16 := k0_pay46 A

end Cert.Mlp

end
-- ==== Proof.Parts1.lean ====
/-
# The first layer up to its ring steps

The device packs its own blocks into two slots per direction, sends them on, adds its own contribution, and gives both
slots up.
-/
module

public import proofs.«01_k».proof.Proof.Ops

@[expose] public section

set_option maxRecDepth 16384

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable {B : Blocks F} {K : Dev nD × Cid → ℕ} {ι : Key → ℕ} {c : Dev nD}

/-- The device's halves of layer `l`. -/
abbrev wi (B : Blocks F) (c : Dev nD) (l : ℕ) (q : Fin 2) : Vec F S256x256 .bf16 := wiHalf q (B.wi l c)
abbrev wo (B : Blocks F) (c : Dev nD) (l : ℕ) (q : Fin 2) : Vec F S256x256 .bf16 := woHalf q (B.wo l c)

theorem part8 {α : Type} {Q : α → sProp 𝕄} (kk : PUnit → Prog (TpuEff nD τ sig (Elt F) Λ₀ .tc) α) (v5 v7 : BitVec 32) :
    iprop(Run B K ι c (pr ⟨0, 0, 0, 0, 0, 0⟩ ⟨0, 0, 0, 0, 0, 0⟩) ∗ free c false 0 ∗ free c true 0)
      ⊢ iprop(((Run B K ι c (pr ⟨1, 0, 0, 0, 0, 0⟩ ⟨0, 0, 0, 0, 0, 0⟩) ∗ out B c false 0 ∗ hold B c true 0) -∗ run c (kk ⟨⟩) Q)
        -∗ run c (on (k0_part8 (F := F)) c v5 v7 (wi B c 0 0) (wo B c 0 0) (wi B c 0 1) (wo B c 0 1) >>= kk) Q) := by
  rw [k0_part8_eq_skeleton]
  unfold k0_part8_skel
  simp only [Prog.lift, Prog.bind_op, Prog.bind_ret, Prog.pure_eq_ret, Prog.bind_assoc]
  iintro ⟨HR, Hf, Ht⟩ Hk
  iapply (fill (B := B) false 0 (wi B c 0 0) (wo B c 0 0)) $$ Hf
  iintro Hf
  iapply (fill (B := B) true 0 (wi B c 0 1) (wo B c 0 1)) $$ Ht
  iintro Ht
  iapply (send false 0 (pr ⟨0, 0, 0, 0, 0, 0⟩ ⟨0, 0, 0, 0, 0, 0⟩) (pr ⟨1, 0, 0, 0, 0, 0⟩ ⟨0, 0, 0, 0, 0, 0⟩) (Fin.ext (k0_dev3_eq c)) ⟨rfl, rfl⟩ (by decide)) $$ HR Hf
  iintro ⟨HR, Hf⟩
  iapply Hk
  isplitl [HR]; · iexact HR
  isplitl [Hf] <;> iassumption

theorem part9 {α : Type} {Q : α → sProp 𝕄} (kk : PUnit → Prog (TpuEff nD τ sig (Elt F) Λ₀ .tc) α) (v7 : BitVec 32) :
    iprop(Run B K ι c (pr ⟨1, 0, 0, 0, 0, 0⟩ ⟨0, 0, 0, 0, 0, 0⟩) ∗ hold B c true 0 ∗ free c false 1 ∗ free c true 1)
      ⊢ iprop(((Run B K ι c (pr ⟨2, 0, 0, 0, 0, 0⟩ ⟨1, 0, 0, 0, 0, 0⟩) ∗ out B c true 0 ∗ out B c false 1 ∗ hold B c true 1) -∗ run c (kk ⟨⟩) Q)
        -∗ run c (on (k0_part9 (F := F)) c v7 (wi B c 0 0) (wo B c 0 0) (wi B c 0 1) (wo B c 0 1) >>= kk) Q) := by
  rw [k0_part9_eq_skeleton]
  unfold k0_part9_skel
  simp only [Prog.lift, Prog.bind_op, Prog.bind_ret, Prog.pure_eq_ret, Prog.bind_assoc]
  iintro ⟨HR, Ht, Hf1, Ht1⟩ Hk
  iapply (send true 0 (pr ⟨1, 0, 0, 0, 0, 0⟩ ⟨0, 0, 0, 0, 0, 0⟩) (pr ⟨1, 0, 0, 0, 0, 0⟩ ⟨1, 0, 0, 0, 0, 0⟩) (Fin.ext (k0_dev4_eq c)) ⟨rfl, rfl⟩ (by decide)) $$ HR Ht
  iintro ⟨HR, Ht⟩
  iapply (fill (B := B) false 1 (wi B c 0 1) (wo B c 0 1)) $$ Hf1
  iintro Hf1
  iapply (fill (B := B) true 1 (wi B c 0 0) (wo B c 0 0)) $$ Ht1
  iintro Ht1
  iapply (send false 1 (pr ⟨1, 0, 0, 0, 0, 0⟩ ⟨1, 0, 0, 0, 0, 0⟩) (pr ⟨2, 0, 0, 0, 0, 0⟩ ⟨1, 0, 0, 0, 0, 0⟩) (Fin.ext (k0_dev5_eq c)) ⟨rfl, rfl⟩ (by decide)) $$ HR Hf1
  iintro ⟨HR, Hf1⟩
  iapply Hk
  isplitl [HR]; · iexact HR
  isplitl [Ht]; · iexact Ht
  isplitl [Hf1] <;> iassumption

theorem part10 {α : Type} {Q : α → sProp 𝕄} (kk : PUnit → Prog (TpuEff nD τ sig (Elt F) Λ₀ .tc) α) (v5 : BitVec 32)
    (X : Vec F S512x256 .bf16) (A O : Vec F S512x256 .f32) :
    iprop(Run B K ι c (pr ⟨2, 0, 0, 0, 0, 0⟩ ⟨1, 0, 0, 0, 0, 0⟩) ∗ Reg B c X A O
        ∗ out B c false 0 ∗ hold B c true 1)
      ⊢ iprop(((Run B K ι c (pr ⟨2, 0, 1, 0, 0, 0⟩ ⟨2, 0, 0, 0, 0, 0⟩) ∗ Reg B c X (own X (B.wi 0 c) (B.wo 0 c)) O
            ∗ hold B c false 0 ∗ out B c true 1) -∗ run c (kk ⟨⟩) Q)
        -∗ run c (on (k0_part10 (F := F)) c v5 >>= kk) Q) := by
  rw [k0_part10_eq_skeleton]
  unfold k0_part10_skel
  simp only [Prog.lift, Prog.bind_op, Prog.bind_ret, Prog.pure_eq_ret, Prog.bind_assoc]
  iintro ⟨HR, HG, Hf, Ht⟩ Hk
  iapply (send true 1 (pr ⟨2, 0, 0, 0, 0, 0⟩ ⟨1, 0, 0, 0, 0, 0⟩) (pr ⟨2, 0, 0, 0, 0, 0⟩ ⟨2, 0, 0, 0, 0, 0⟩) (Fin.ext (k0_dev6_eq c)) ⟨rfl, rfl⟩ (by decide)) $$ HR Ht
  iintro ⟨HR, Ht⟩
  iapply (reg_ld (Reg_wi0 _ _ _) (B.wi 0 c) (View.ld_unit_zero z2 _ _)) $$ HG
  iintro HG
  iapply (reg_ld (Reg_wo0 _ _ _) (B.wo 0 c) (View.ld_unit_zero z2 _ _)) $$ HG
  iintro HG
  iapply (ld_xb X A O) $$ HG
  iintro HG
  iapply (ld_acc X A O) $$ HG
  iintro HG
  iapply (st_acc X A O (own X (B.wi 0 c) (B.wo 0 c)) rfl) $$ HG
  iintro HG
  iapply (sent false 0 0 (pr ⟨2, 0, 0, 0, 0, 0⟩ ⟨2, 0, 0, 0, 0, 0⟩) (pr ⟨2, 0, 1, 0, 0, 0⟩ ⟨2, 0, 0, 0, 0, 0⟩) ⟨rfl, rfl⟩ (by decide)) $$ HR Hf
  iintro ⟨HR, Hf⟩
  iapply Hk
  isplitl [HR]; · iexact HR
  isplitl [HG]; · iexact HG
  isplitl [Hf]; · iexact Hf
  iexact Ht

theorem part11 {α : Type} {Q : α → sProp 𝕄} (kk : PUnit → Prog (TpuEff nD τ sig (Elt F) Λ₀ .tc) α) (v5 v7 : BitVec 32) :
    iprop(Run B K ι c (pr ⟨2, 0, 1, 0, 0, 0⟩ ⟨2, 0, 0, 0, 0, 0⟩) ∗ hold B c false 0 ∗ out B c true 0 ∗ out B c false 1 ∗ out B c true 1)
      ⊢ iprop(((Run B K ι c (pr ⟨2, 0, 2, 1, 0, 0⟩ ⟨2, 0, 2, 1, 0, 0⟩) ∗ hold B c false 1 ∗ hold B c true 1) -∗ run c (kk ⟨⟩) Q)
        -∗ run c (on (k0_part11 (F := F)) c v5 v7 >>= kk) Q) := by
  rw [k0_part11_eq_skeleton]
  unfold k0_part11_skel
  simp only [semSignalWord, Prog.lift, Prog.bind_op, Prog.bind_ret, Prog.pure_eq_ret, Prog.bind_assoc]
  iintro ⟨HR, Hf, Ht, Hf1, Ht1⟩ Hk
  iapply (sent true 0 0 (pr ⟨2, 0, 1, 0, 0, 0⟩ ⟨2, 0, 0, 0, 0, 0⟩) (pr ⟨2, 0, 1, 0, 0, 0⟩ ⟨2, 0, 1, 0, 0, 0⟩) ⟨rfl, rfl⟩ (by decide)) $$ HR Ht
  iintro ⟨HR, Ht⟩
  iapply (sent false 1 1 (pr ⟨2, 0, 1, 0, 0, 0⟩ ⟨2, 0, 1, 0, 0, 0⟩) (pr ⟨2, 0, 2, 0, 0, 0⟩ ⟨2, 0, 1, 0, 0, 0⟩) ⟨rfl, rfl⟩ (by decide)) $$ HR Hf1
  iintro ⟨HR, Hf1⟩
  iapply (sent true 1 1 (pr ⟨2, 0, 2, 0, 0, 0⟩ ⟨2, 0, 1, 0, 0, 0⟩) (pr ⟨2, 0, 2, 0, 0, 0⟩ ⟨2, 0, 2, 0, 0, 0⟩) ⟨rfl, rfl⟩ (by decide)) $$ HR Ht1
  iintro ⟨HR, Ht1⟩
  iapply (give false 0 (pr ⟨2, 0, 2, 0, 0, 0⟩ ⟨2, 0, 2, 0, 0, 0⟩) (pr ⟨2, 0, 2, 1, 0, 0⟩ ⟨2, 0, 2, 0, 0, 0⟩) (Fin.ext (k0_dev7_eq c)) ⟨rfl, rfl⟩ (by decide)) $$ HR Hf
  iintro HR
  iapply (give true 0 (pr ⟨2, 0, 2, 1, 0, 0⟩ ⟨2, 0, 2, 0, 0, 0⟩) (pr ⟨2, 0, 2, 1, 0, 0⟩ ⟨2, 0, 2, 1, 0, 0⟩) (Fin.ext (k0_dev8_eq c)) ⟨rfl, rfl⟩ (by decide)) $$ HR Ht
  iintro HR
  iapply Hk
  isplitl [HR]; · iexact HR
  isplitl [Hf1] <;> iassumption

end Cert.Mlp

end
-- ==== Proof.Start.lean ====
/-
# The start: the barrier with both neighbours

Before its first message a device gives the six later slots of each ring up, tells the neighbour that will write them,
and waits to be told the same by both neighbours. It then takes its rows as the activations of the first layer.
-/
module

public import proofs.«01_k».proof.Proof.Parts1

@[expose] public section

set_option maxRecDepth 16384
set_option maxHeartbeats 1000000

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable {B : Blocks F} {K : Dev nD × Cid → ℕ} {ι : Key → ℕ} {c : Dev nD}

/-- The barrier's debts. -/
def barOwed (c : Dev nD) (δ : Bool) : CellTallies nD τ sig ℕ := tallyAt (cell (up δ c) .bar) 1 1

/-- All a device owes at the start. -/
def O₀ (c : Dev nD) : CellTallies nD τ sig ℕ := owed c false 0 0 + owed c true 0 0 + barOwed c true + barOwed c false

/-- What a device is given of one direction: the tokens of what it will send and give, the credits of what it will be
    sent and given, its places at its own semaphores, and the slots' reader counts. -/
def Lin (c : Dev nD) (δ : Bool) : sProp 𝕄 :=
  iprop(bigSep (Finset.Ico 0 45) (toSend c δ) ∗ bigSep (Finset.Ico 0 43) (toGive c δ)
    ∗ bigSep (Finset.Ico 0 45) (rcvCred c δ) ∗ bigSep (Finset.Ico 0 43) (crdCred c δ)
    ∗ (bigSep Finset.univ fun j : Fin 8 => atPos ER (cell c (.snd δ j)) 0 ∅ 0)
    ∗ (bigSep Finset.univ fun j : Fin 8 => atPos ER (cell c (.rcv δ j)) 0 ∅ 0)
    ∗ atPos ER (cell c (.crd δ)) 0 ∅ 0
    ∗ (bigSep (Finset.Ico 2 8) fun u => readerAt ES (c, δ, u) 0)
    ∗ dutyTok ER (cell (up δ c) .bar) 0 δ.toNat)

theorem cnt_zero (o : ℕ) (j : Fin 8) : cnt o 0 j = 0 := rfl

/-- Each cell's first round is open from the start. -/
theorem at_start {I : Type} [DecidableEq I] (S : Finset I) (f : I → Cid) :
    iprop(Ctx B K ι ∗ bigSep S fun j => atPos ER (cell c (f j)) 0 ∅ 0)
      ⊢ (bigSep S fun j => iprop(atPos ER (cell c (f j)) 0 ∅ 0 ∗ reached ER (cell c (f j)) 0) : sProp 𝕄) := by
  refine bigSep_with_persistent fun j _ => ?_
  iintro ⟨#HC, H⟩
  ihave #HI := (Ctx_cell c (f j)) $$ HC
  icases HI with ⟨-, HI⟩
  isplitl [H]; · iexact H
  iexact HI

theorem snd_start (δ : Bool) : iprop(Ctx B K ι ∗ bigSep Finset.univ fun j : Fin 8 => atPos ER (cell c (.snd δ j)) 0 ∅ 0) ⊢ sndAt (F := F) c δ 0 :=
  at_start Finset.univ fun j => .snd δ j
theorem rcv_start (δ : Bool) : iprop(Ctx B K ι ∗ bigSep Finset.univ fun j : Fin 8 => atPos ER (cell c (.rcv δ j)) 0 ∅ 0) ⊢ rcvAt (F := F) c δ 0 :=
  at_start Finset.univ fun j => .rcv δ j

theorem early : ∀ u, 2 ≤ u → u < 8 → cnt 2 (num (u - 2)) (sl u) = 0 := by
  have h : ∀ u < 8, 2 ≤ u → cnt 2 (num (u - 2)) (sl u) = 0 := by decide +kernel
  exact fun u h1 h2 => h u h2 h1

/-- The first slots given up. -/
theorem first_facts (δ : Bool) (k : ℕ) (hk : 2 + k ≤ 8) : iprop(Ctx B K ι ∗ rcvAt c δ 0
      ∗ (bigSep (Finset.Ico 2 (2 + k)) fun u => readerAt ES (c, δ, u) 0) ∗ bigSep (Finset.Ico 2 (2 + k)) fun u => free c δ u)
    ⊢ (|={Set.univ}=> (rcvAt c δ 0 ∗ bigSep (Finset.Ico 2 (2 + k)) fun u => fact c δ u) : sProp 𝕄) := by
  induction k with
  | zero =>
    rw [Nat.add_zero, Finset.Ico_self, bigSep_empty, bigSep_empty, bigSep_empty]
    iintro ⟨-, H, -, -⟩
    imodintro
    isplitl [H]; · iexact H
    iempintro
  | succ k ih =>
    have e : ∀ Φ : ℕ → sProp 𝕄, bigSep (Finset.Ico 2 (2 + (k + 1))) Φ = iprop(Φ (2 + k) ∗ bigSep (Finset.Ico 2 (2 + k)) Φ) := fun Φ => by
      rw [show Finset.Ico 2 (2 + (k + 1)) = insert (2 + k) (Finset.Ico 2 (2 + k)) by ext x; simp only [Finset.mem_Ico, Finset.mem_insert]; omega,
        bigSep_insert (by rw [Finset.mem_Ico]; omega)]; rfl
    rw [e, e, e]
    iintro ⟨#HC, Hra, ⟨Hr, Hrs⟩, Hf, Hfs⟩
    imod (ih (by omega)) $$ [Hra Hrs Hfs] with ⟨Hra, #HF⟩
    · isplitr; · iexact HC
      isplitl [Hra]; · iexact Hra
      isplitl [Hrs] <;> iassumption
    imod (release_fact δ c (2 + k) 0 (by omega) (by rw [early (2 + k) (by omega) (by omega)]; exact Nat.zero_le _)) $$ [Hra Hr Hf] with ⟨Hra, #HF'⟩
    · isplitr; · iexact HC
      isplitl [Hr]; · iexact Hr
      isplitl [Hra] <;> iassumption
    imodintro
    isplitl [Hra]; · iexact Hra
    isplitr; · iexact HF'
    iexact HF

/-- What the neighbours learn. -/
theorem pay_bar (δ : Bool) : (Rd B).payload ((up δ c : Thread nD τ), SemLoc.reg semB) 0 δ.toNat = facts₀ c δ := by
  show (Rd B).payload (cell (up δ c) .bar) 0 δ.toNat = _
  rw [Rd_payload]
  dsimp only [payOf]
  cases δ
  · exact (if_pos rfl).trans (congrArg (fun d => facts₀ (F := F) d false) (dn_up false c))
  · exact (if_neg (by decide)).trans (congrArg (fun d => facts₀ (F := F) d true) (dn_up true c))
theorem duty_bar (c : Dev nD) (δ : Bool) : δ.toNat ∈ (Rd B).duties (cell c .bar) 0 := by
  rw [Rd_duties]; dsimp only [dutiesOf]; rw [if_pos rfl, Finset.mem_range]; cases δ <;> decide
theorem rest_bar : bigSep ((Rd B).duties ((c : Thread nD τ), SemLoc.reg semB) 0 \ ∅) (fun d => (Rd B).payload ((c : Thread nD τ), SemLoc.reg semB) 0 d)
    = iprop(facts₀ (dn false c) false ∗ facts₀ (dn true c) true) := by
  show bigSep ((Rd B).duties (cell c .bar) 0 \ ∅) (fun d => (Rd B).payload (cell c .bar) 0 d) = _
  rw [Finset.sdiff_empty, Rd_duties]; dsimp only [dutiesOf]
  rw [if_pos rfl, show Finset.range 2 = {0, 1} from rfl, bigSep_insert (by decide), bigSep_singleton, Rd_payload, Rd_payload]
  dsimp only [payOf]
  rw [if_pos rfl, if_neg (by decide)]; rfl

/-- A signal to a neighbour's barrier: it brings the facts of the slots the neighbour will write. -/
theorem signal_bar {α : Type} {Q : α → sProp 𝕄} {k : PUnit → Prog (TpuEff nD τ sig (Elt F) Λ₀ .tc) α} (δ : Bool)
    {n : Dev nD} (hn : n = up δ c) {s : Sem sig} (hs : s = semB) (O : CellTallies nD τ sig ℕ) (W : Waits sig ℕ) :
    iprop(Ctx B K ι ∗ owes (c : Thread nD τ) (O + barOwed c δ) W ∗ dutyTok ER (cell (up δ c) .bar) 0 δ.toNat ∗ facts₀ c δ)
      ⊢ iprop((owes (c : Thread nD τ) O W -∗ run c (k ⟨⟩) Q) -∗ run c (.op (.semSignal (Dev.tc n : Thread nD τ) s 1) k) Q) := by
  subst hn hs
  iintro ⟨#HC, HO, Htok, #HF⟩ Hk
  ihave #HI := (Ctx_cell (up δ c) .bar) $$ HC
  icases HI with ⟨HI, HR⟩
  iapply (Rounds.wp_signal 𝒱₀ ER (Rd B) (c : Thread nD τ) none (dst := (up δ c : Thread nD τ)) (κ := K (up δ c, .bar)) (r := 0)
      (d := δ.toNat) (duty_bar (up δ c) δ) (Rd_amount B (up δ c) .bar 0 δ.toNat) 1 O rfl) $$ [HO Htok]
  · isplitr; · iexact HI
    isplitl [HO]; · iexact HO
    isplitl [Htok]; · iexact Htok
    isplitr
    · ihave Hp := (Entails.of_eq (pay_bar (B := B) (c := c) δ).symm) $$ HF
      iexact Hp
    · iexact HR
  iexact Hk

/-- The barrier's wait. -/
theorem wait_bar {α : Type} {Q : α → sProp 𝕄} {k : PUnit → Prog (TpuEff nD τ sig (Elt F) Λ₀ .tc) α}
    {s : Sem sig} (hs : s = semB) (O : CellTallies nD τ sig ℕ) (hO : Over 1 O) (W : Waits sig ℕ) :
    iprop(Ctx B K ι ∗ owes (c : Thread nD τ) O W ∗ cred (tallyAt (cell c .bar) 1 2) ∗ atPos ER (cell c .bar) 0 ∅ 0)
      ⊢ iprop((((∃ W, owes (c : Thread nD τ) O W) ∗ atPos ER (cell c .bar) 1 ∅ 0 ∗ facts₀ (dn false c) false ∗ facts₀ (dn true c) true) -∗ run c (k ⟨⟩) Q)
        -∗ run c (.op (.semWait s 2) k) Q) := by
  subst hs
  iintro ⟨#HC, HO, Hc, Hat⟩ Hk
  ihave #HI := (Ctx_cell c .bar) $$ HC
  icases HI with ⟨HI, -⟩
  ihave #Hlev := (Ctx_lev (B := B) (K := K) (ι := ι)) $$ HC
  have hex : (Rd B).expect (cell c .bar) 0 = 2 := (Rd_expect B c .bar 0).trans (by dsimp only [dutiesOf, amountOf]; rw [if_pos rfl, Finset.card_range])
  iapply (Rounds.wp_wait_rest_token 𝒱₀ ER (Rd B) (c : Thread nD τ) none (κ := K (c, .bar))
      (wpE_semWait_eq 𝒱₀ (c : Thread nD τ) none Set.univ) (Set.mem_univ _) 1 (O := O) (W := W) (R := 0) (m := 0) (T := ∅)
      (by rw [Nat.zero_add]; exact hex.symm)) $$ [HO Hc Hat]
  · isplitr; · iexact HI
    isplitl [Hc]; · iexact Hc
    isplitl [HO]; · iexact HO
    isplitr; · iapply (mayWait c _ 1 (by decide) O hO); iexact Hlev
    iexact Hat
  iintro ⟨HO, Hat, -, Hpay⟩
  iapply Hk
  isplitl [HO]; · iexists _; iexact HO
  isplitl [Hat]; · iexact Hat
  iapply (Entails.of_eq (rest_bar (B := B) (c := c))); iexact Hpay

/-- Direction `δ` once both neighbours' facts are known. -/
theorem St_start (δ : Bool) :
    iprop(bigSep (Finset.Ico 0 45) (toSend c δ) ∗ bigSep (Finset.Ico 0 43) (toGive c δ)
      ∗ bigSep (Finset.Ico 0 45) (rcvCred c δ) ∗ bigSep (Finset.Ico 0 43) (crdCred c δ)
      ∗ sndAt c δ 0 ∗ rcvAt c δ 0 ∗ atPos ER (cell c (.crd δ)) 0 ∅ 0 ∗ facts₀ (dn δ c) δ)
    ⊢ (St c δ ⟨0, 0, 0, 0, 0, 0⟩ : sProp 𝕄) := by
  unfold St
  iintro ⟨H1, H2, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]
  · unfold crdAt
    iexists (∅ : Finset ℕ)
    isplitr; · ipureintro; exact ⟨Finset.empty_subset _, Nat.zero_le _⟩
    isplitl [H7]; · iexact H7
    rw [bigSep_empty]; iempintro
  isplitl [H8]; · iexact H8
  isplitr
  · unfold facts; rw [show min (Ctr.g ⟨0, 0, 0, 0, 0, 0⟩) 43 = 0 from rfl, Finset.range_zero, bigSep_empty]; iempintro
  · unfold kept; dsimp only; rw [Finset.Ico_self, Finset.filter_empty, bigSep_empty]; iempintro

/-- Eight slots: the first two, and the six given up. -/
theorem slots_two (δ : Bool) : (bigSep (Finset.range 8) fun t => free (F := F) c δ t)
    = iprop(free c δ 0 ∗ free c δ 1 ∗ bigSep (Finset.Ico 2 8) fun t => free c δ t) := by
  rw [show Finset.range 8 = insert 0 (insert 1 (Finset.Ico 2 8)) from by decide, bigSep_insert (by decide), bigSep_insert (by decide)]; rfl

theorem pay13_eq (v : Vec F S512x256 .bf16) : k0_pay13 (F := F) v = v := (shapeCast_self _ _).trans (shapeCast_self _ _)
theorem pay14_eq (v : Vec F S256x256 .bf16) : k0_pay14 (F := F) v = v := shapeCast_self _ _
theorem pay15_eq (v : Vec F S256x256 .bf16) : k0_pay15 (F := F) v = v := shapeCast_self _ _
theorem pay16_eq (v : Vec F S256x256 .bf16) : k0_pay16 (F := F) v = v := shapeCast_self _ _
theorem pay17_eq (v : Vec F S256x256 .bf16) : k0_pay17 (F := F) v = v := shapeCast_self _ _

theorem part7 {α : Type} {Q : α → sProp 𝕄} {X : Vec F S512x256 .bf16} {A O : Vec F S512x256 .f32}
    (kk : (Σ' (_ : Dev nD) (_ : BitVec 32) (_ : BitVec 32) (_ : FVec F S256x256 .bf16) (_ : FVec F S256x256 .bf16) (_ : FVec F S256x256 .bf16), FVec F S256x256 .bf16)
      → Prog (TpuEff nD τ sig (Elt F) Λ₀ .tc) α) :
    iprop(Ctx B K ι ∗ Lin c false ∗ Lin c true ∗ atPos ER (cell c .bar) 0 ∅ 0 ∗ cred (tallyAt (cell c .bar) 1 2)
        ∗ (∃ W, owes (c : Thread nD τ) (O₀ c) W)
        ∗ (bigSep (Finset.range 8) fun t => free c false t) ∗ (bigSep (Finset.range 8) fun t => free c true t)
        ∗ Reg B c X A O)
      ⊢ iprop((∀ v5 v7, (Run B K ι c (pr ⟨0, 0, 0, 0, 0, 0⟩ ⟨0, 0, 0, 0, 0, 0⟩)
            ∗ Reg B c (B.x c) A O
            ∗ free c false 0 ∗ free c true 0 ∗ free c false 1 ∗ free c true 1
            ∗ atPos ER (cell c .bar) 1 ∅ 0) -∗ run c (kk ⟨c, v5, v7, wi B c 0 0, wo B c 0 0, wi B c 0 1, wo B c 0 1⟩) Q)
        -∗ run c (on (k0_part7 (F := F)) >>= kk) Q) := by
  rw [k0_part7_eq_skeleton]
  unfold k0_part7_skel
  simp only [on, semSignalWord, semWaitWord, Prog.lift, Prog.bind_op, Prog.bind_ret, Prog.pure_eq_ret, Prog.bind_assoc, pay13_eq, pay14_eq, pay15_eq, pay16_eq, pay17_eq]
  unfold run
  rw [wp_deviceId]
  unfold Lin
  rw [slots_two, slots_two]
  iintro ⟨#HC, ⟨Ha1, Ha2, Ha3, Ha4, Ha5, Ha6, Ha7, Ha8, Ha9⟩, ⟨Hb1, Hb2, Hb3, Hb4, Hb5, Hb6, Hb7, Hb8, Hb9⟩, Hbar, Hbc, ⟨%W, HO⟩, ⟨Hf0, Hf1, Hfs⟩, ⟨Ht0, Ht1, Hts⟩, HG⟩ Hk
  ihave Ha5 := (snd_start (B := B) (K := K) (ι := ι) false) $$ [Ha5]
  · isplitr; · iexact HC
    iexact Ha5
  ihave Ha6 := (rcv_start (B := B) (K := K) (ι := ι) false) $$ [Ha6]
  · isplitr; · iexact HC
    iexact Ha6
  ihave Hb5 := (snd_start (B := B) (K := K) (ι := ι) true) $$ [Hb5]
  · isplitr; · iexact HC
    iexact Hb5
  ihave Hb6 := (rcv_start (B := B) (K := K) (ι := ι) true) $$ [Hb6]
  · isplitr; · iexact HC
    iexact Hb6
  imod (first_facts (B := B) (K := K) (ι := ι) false 6 (by decide)) $$ [Ha6 Ha8 Hfs] with ⟨Ha6, #HFf⟩
  · isplitr; · iexact HC
    isplitl [Ha6]; · iexact Ha6
    isplitl [Ha8] <;> iassumption
  imod (first_facts (B := B) (K := K) (ι := ι) true 6 (by decide)) $$ [Hb6 Hb8 Hts] with ⟨Hb6, #HFt⟩
  · isplitr; · iexact HC
    isplitl [Hb6]; · iexact Hb6
    isplitl [Hb8] <;> iassumption
  unfold O₀
  iapply (signal_bar (B := B) (K := K) (ι := ι) false (Fin.ext (k0_dev1_eq c)) rfl _ W) $$ [HO Ha9]
  · isplitr; · iexact HC
    isplitl [HO]; · iexact HO
    isplitl [Ha9]; · iexact Ha9
    unfold facts₀; iexact HFf
  iintro HO
  iapply (signal_bar (B := B) (K := K) (ι := ι) true (Fin.ext (k0_dev2_eq c)) rfl _ W) $$ [HO Hb9]
  · isplitr; · iexact HC
    isplitl [HO]; · iexact HO
    isplitl [Hb9]; · iexact Hb9
    unfold facts₀; iexact HFt
  iintro HO
  iapply (wait_bar (B := B) (K := K) (ι := ι) rfl (owed c false 0 0 + owed c true 0 0)
    ((owed_over c false ⟨0, 0, 0, 0, 0, 0⟩ 1 (by decide)).add (owed_over c true ⟨0, 0, 0, 0, 0, 0⟩ 1 (by decide))) W) $$ [HO Hbar Hbc]
  · isplitr; · iexact HC
    isplitl [HO]; · iexact HO
    isplitl [Hbc] <;> iassumption
  iintro ⟨HO, Hbar, HFa, HFb⟩
  iapply (reg_ld (Reg_x _ _ _) (B.x c) (View.ld_unit_zero z2 _ _)) $$ HG
  iintro HG
  iapply (ld_xb _ _ _) $$ HG
  iintro HG
  iapply (st_xb _ _ _ (B.x c) rfl) $$ HG
  iintro HG
  iapply (reg_ld (Reg_wi0 _ _ _) (wi B c 0 0) rfl) $$ HG
  iintro HG
  iapply (reg_ld (Reg_wo0 _ _ _) (wo B c 0 0) rfl) $$ HG
  iintro HG
  iapply (reg_ld (Reg_wi0 _ _ _) (wi B c 0 1) rfl) $$ HG
  iintro HG
  iapply (reg_ld (Reg_wo0 _ _ _) (wo B c 0 1) rfl) $$ HG
  iintro HG
  iapply Hk
  isplitl [Ha1 Ha2 Ha3 Ha4 Ha5 Ha6 Ha7 Hb1 Hb2 Hb3 Hb4 Hb5 Hb6 Hb7 HO HFa HFb]
  · unfold Run
    isplitr; · iexact HC
    isplitl [Ha1 Ha2 Ha3 Ha4 Ha5 Ha6 Ha7 HFa]
    · iapply (St_start false)
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7] <;> iassumption
    isplitl [Hb1 Hb2 Hb3 Hb4 Hb5 Hb6 Hb7 HFb]
    · iapply (St_start true)
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7] <;> iassumption
    iexact HO
  isplitl [HG]; · iexact HG
  isplitl [Hf0]; · iexact Hf0
  isplitl [Ht0]; · iexact Ht0
  isplitl [Hf1]; · iexact Hf1
  isplitl [Ht1] <;> iassumption

end Cert.Mlp

end
-- ==== Proof.Deal.lean ====
/-
# The tokens and slot counts dealt over the ring

At the launch all tokens of all cells and all counts of all slots come in one heap. Each device is handed the tokens of
the transfers it will make and the credits it will give, which are tokens of its neighbours' cells.
-/
module

public import proofs.«01_k».proof.Proof.Start

@[expose] public section

set_option maxRecDepth 16384
set_option maxHeartbeats 1000000

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Families -/

/-- A device and a direction. -/
abbrev Pt : Type := Dev nD × Bool
/-- The point one step along its own direction. -/
def ringP : Pt ≃ Pt where
  toFun p := (dn p.2 p.1, p.2)
  invFun p := (up p.2 p.1, p.2)
  left_inv p := by simp only [up_dn]
  right_inv p := by simp only [dn_up]

theorem fin_Ico (n : ℕ) (Φ : ℕ → sProp 𝕄) : (bigSep (Finset.Ico 0 n) Φ : sProp 𝕄) = bigSep Finset.univ fun k : Fin n => Φ k.val := by
  rw [show Finset.Ico 0 n = Finset.univ.image fun k : Fin n => k.val from by
    ext x
    rw [Finset.mem_Ico, Finset.mem_image]
    exact ⟨fun h => ⟨⟨x, h.2⟩, Finset.mem_univ _, rfl⟩, fun ⟨k, _, h⟩ => ⟨Nat.zero_le _, h ▸ k.isLt⟩⟩]
  exact bigSep_image_of_injOn (fun a _ b _ h => Fin.ext h) Φ

theorem bigSep_times {I J : Type} [DecidableEq I] [DecidableEq J] (s : Finset I) (t : Finset J) (Φ : I × J → sProp 𝕄) :
    (bigSep (s ×ˢ t) Φ : sProp 𝕄) = bigSep s fun i => bigSep t fun j => Φ (i, j) := by
  induction s using Finset.induction_on with
  | empty => rw [Finset.empty_product]; rfl
  | insert i s hi ih =>
    rw [show insert i s ×ˢ t = t.image (fun j => (i, j)) ∪ s ×ˢ t from by
      ext ⟨a, b⟩
      simp only [Finset.mem_product, Finset.mem_insert, Finset.mem_union, Finset.mem_image, Prod.mk.injEq]
      constructor
      · rintro ⟨rfl | h, h'⟩
        · exact .inl ⟨b, h', rfl, rfl⟩
        · exact .inr ⟨h, h'⟩
      · rintro (⟨j, hj, rfl, rfl⟩ | ⟨h, h'⟩)
        · exact ⟨.inl rfl, hj⟩
        · exact ⟨.inr h, h'⟩, bigSep_union (Finset.disjoint_left.mpr fun x hx hy => by
        obtain ⟨j, -, rfl⟩ := Finset.mem_image.mp hx
        exact hi (Finset.mem_product.mp hy).1),
      bigSep_image_of_injOn (fun a _ b _ h => congrArg Prod.snd h), ih, bigSep_insert hi]

theorem fold_sep {I : Type} (S : Finset I) (Φ Ψ : I → sProp 𝕄) :
    (iprop(bigSep S Φ ∗ bigSep S Ψ) : sProp 𝕄) = bigSep S fun i => iprop(Φ i ∗ Ψ i) := (bigSep_sep' S Φ Ψ).symm

/-- The names, family by family. -/
theorem bigSep_Cid (Φ : Cid → sProp 𝕄) : (bigSep Finset.univ Φ : sProp 𝕄)
    = iprop((bigSep Finset.univ fun δ : Bool => bigSep Finset.univ fun j : Fin 8 => Φ (.snd δ j))
      ∗ (bigSep Finset.univ fun δ : Bool => bigSep Finset.univ fun j : Fin 8 => Φ (.rcv δ j))
      ∗ (bigSep Finset.univ fun δ : Bool => Φ (.crd δ)) ∗ Φ .bar) := by
  rw [bigSep_univ_equiv cids, bigSep_univ_sum, bigSep_univ_sum, bigSep_univ_sum, bigSep_univ_prod, bigSep_univ_prod,
    show (Finset.univ : Finset Unit) = {()} from rfl, bigSep_singleton]
  rfl

/-! ## Tokens -/

/-- The duties of a direction on a device's cells: departures, arrivals, credits, and the barrier's. -/
abbrev Duty : Type := Fin 45 ⊕ Fin 45 ⊕ Fin 43 ⊕ Unit

def dutyOf (p : Pt) : Duty → (Dev nD × Cid) × ℕ × ℕ
  | .inl n => ((p.1, .snd p.2 (sl (tt n.val))), cnt 0 n.val (sl (tt n.val)), 0)
  | .inr (.inl n) => ((p.1, .rcv p.2 (sl (tt n.val + 2))), cnt 2 n.val (sl (tt n.val + 2)), 0)
  | .inr (.inr (.inl k)) => ((p.1, .crd p.2), 0, k.val)
  | .inr (.inr (.inr _)) => ((p.1, .bar), 0, p.2.toNat)

theorem dutyOf_inj : Function.Injective fun x : Pt × Duty => dutyOf x.1 x.2 := by
  rintro ⟨⟨c, δ⟩, d⟩ ⟨⟨c', δ'⟩, d'⟩ h
  rcases d with n | n | k | u <;> rcases d' with n' | n' | k' | u' <;>
    simp only [dutyOf, Prod.mk.injEq, Cid.snd.injEq, Cid.rcv.injEq, Cid.crd.injEq, reduceCtorEq, and_false, false_and] at h
  · obtain ⟨⟨rfl, rfl, hj⟩, hr, -⟩ := h
    have hn : n.val = n'.val := by rw [← nth_cnt0 n.val n.isLt, ← nth_cnt0 n'.val n'.isLt, hr, hj]
    rw [Fin.ext hn]
  · obtain ⟨⟨rfl, rfl, hj⟩, hr, -⟩ := h
    have hn : n.val = n'.val := by rw [← nth_cnt2 n.val n.isLt, ← nth_cnt2 n'.val n'.isLt, hr, hj]
    rw [Fin.ext hn]
  · obtain ⟨⟨rfl, rfl⟩, -, hk⟩ := h
    rw [Fin.ext hk]
  · obtain ⟨⟨rfl, -⟩, -, hk⟩ := h
    have : δ = δ' := by revert δ δ'; decide
    rw [this]

def cellOf (x : Dev nD × Cid) : GSem nD τ sig := cell x.1 x.2
theorem cellOf_injective : Function.Injective cellOf := fun x y h => Prod.ext (cell_inj h).1 (cell_inj h).2

def tokOf (x : Pt × Duty) : GSem nD τ sig × ℕ × ℕ := (cellOf (dutyOf x.1 x.2).1, (dutyOf x.1 x.2).2)
theorem tokOf_injective : Function.Injective tokOf := fun x y h => dutyOf_inj (Prod.ext (cellOf_injective (congrArg (fun t : GSem nD τ sig × ℕ × ℕ => t.1) h)) (congrArg (fun t : GSem nD τ sig × ℕ × ℕ => t.2) h))

/-- Every cell and every token of the kernel. -/
def allCells : Finset (GSem nD τ sig) := Finset.univ.map ⟨cellOf, cellOf_injective⟩
def allToks : Finset (GSem nD τ sig × ℕ × ℕ) := Finset.univ.map ⟨tokOf, tokOf_injective⟩

theorem bigSep_cells (Φ : GSem nD τ sig → sProp 𝕄) : (bigSep allCells Φ : sProp 𝕄) = bigSep Finset.univ fun x : Dev nD × Cid => Φ (cell x.1 x.2) := by
  unfold allCells; rw [bigSep_map]; rfl

/-- The tokens by kind, the ones for a neighbour's cell numbered by the device that uses them. -/
theorem toks_around : (bigSep allToks fun x => (dutyTok ER x.1 x.2.1 x.2.2 : sProp 𝕄))
    = bigSep Finset.univ fun p : Pt => iprop(
      (bigSep (Finset.Ico 0 45) fun n => dutyTok ER (cell p.1 (.snd p.2 (sl (tt n)))) (cnt 0 n (sl (tt n))) 0)
      ∗ (bigSep (Finset.Ico 0 45) fun n => dutyTok ER (cell (dn p.2 p.1) (.rcv p.2 (sl (tt n + 2)))) (cnt 2 n (sl (tt n + 2))) 0)
      ∗ (bigSep (Finset.Ico 0 43) fun k => dutyTok ER (cell (up p.2 p.1) (.crd p.2)) 0 k)
      ∗ dutyTok ER (cell (up p.2 p.1) .bar) 0 p.2.toNat) := by
  unfold allToks
  rw [bigSep_map, bigSep_univ_prod]
  show (bigSep Finset.univ fun p : Pt => bigSep Finset.univ fun d : Duty => (dutyTok ER (tokOf (p, d)).1 (tokOf (p, d)).2.1 (tokOf (p, d)).2.2 : sProp 𝕄)) = _
  rw [show (fun p : Pt => bigSep Finset.univ fun d : Duty => (dutyTok ER (tokOf (p, d)).1 (tokOf (p, d)).2.1 (tokOf (p, d)).2.2 : sProp 𝕄))
      = fun p => iprop((bigSep (Finset.Ico 0 45) fun n => dutyTok ER (cell p.1 (.snd p.2 (sl (tt n)))) (cnt 0 n (sl (tt n))) 0)
        ∗ (bigSep (Finset.Ico 0 45) fun n => dutyTok ER (cell p.1 (.rcv p.2 (sl (tt n + 2)))) (cnt 2 n (sl (tt n + 2))) 0)
        ∗ (bigSep (Finset.Ico 0 43) fun k => dutyTok ER (cell p.1 (.crd p.2)) 0 k)
        ∗ dutyTok ER (cell p.1 .bar) 0 p.2.toNat) from funext fun p => by
    rw [bigSep_univ_sum, bigSep_univ_sum, bigSep_univ_sum, show (Finset.univ : Finset Unit) = {()} from rfl, bigSep_singleton,
      fin_Ico, fin_Ico, fin_Ico]; rfl]
  rw [bigSep_sep', bigSep_sep', bigSep_sep', bigSep_sep', bigSep_sep', bigSep_sep',
    bigSep_univ_equiv ringP (fun p : Pt => (bigSep (Finset.Ico 0 45) fun n => dutyTok ER (cell p.1 (.rcv p.2 (sl (tt n + 2)))) (cnt 2 n (sl (tt n + 2))) 0 : sProp 𝕄)),
    bigSep_univ_equiv ringP.symm (fun p : Pt => (bigSep (Finset.Ico 0 43) fun k => dutyTok ER (cell p.1 (.crd p.2)) 0 k : sProp 𝕄)),
    bigSep_univ_equiv ringP.symm (fun p : Pt => (dutyTok ER (cell p.1 .bar) 0 p.2.toNat : sProp 𝕄))]
  rfl

/-! ## Slots -/

/-- The positions received. -/
def awaited : Finset ℕ := (Finset.range 51).filter fun u => 2 ≤ u ∧ 2 ≤ u % 17

theorem keys_eq : keys = Finset.univ ×ˢ (Finset.univ ×ˢ awaited) := by
  ext ⟨c, δ, u⟩
  rw [Finset.mem_product, Finset.mem_product]
  constructor
  · intro h
    unfold keys at h
    rw [Finset.mem_filter, Finset.mem_image] at h
    obtain ⟨⟨x, -, hx⟩, h1, h2⟩ := h
    have hu : u < 51 := by have := congrArg (fun y : Key => y.2.2) hx; dsimp only at this; rw [← this]; exact x.2.isLt
    exact ⟨Finset.mem_univ _, Finset.mem_univ _, by unfold awaited; rw [Finset.mem_filter, Finset.mem_range]; exact ⟨hu, h1, h2⟩⟩
  · rintro ⟨-, -, h⟩
    unfold awaited at h
    rw [Finset.mem_filter, Finset.mem_range] at h
    exact mem_keys c δ u ⟨h.2.1, h.2.2, h.1⟩

theorem bigSep_keys (Φ : Key → sProp 𝕄) : (bigSep keys Φ : sProp 𝕄) = bigSep Finset.univ fun p : Pt => bigSep awaited fun u => Φ (p.1, p.2, u) := by
  rw [keys_eq, bigSep_times, bigSep_univ_prod]
  exact bigSep_congr fun c _ => bigSep_times _ _ _

theorem awaited_sends : awaited = Finset.univ.image fun n : Fin 45 => tt n.val + 2 := by decide +kernel
theorem awaited_reads : awaited = Finset.Ico 2 8 ∪ ((Finset.range 43).filter fun k => ¬stays k).image fun k => k + 8 := by decide +kernel

theorem awaited_writer (Φ : ℕ → sProp 𝕄) : (bigSep awaited Φ : sProp 𝕄) = bigSep (Finset.Ico 0 45) fun n => Φ (tt n + 2) := by
  rw [awaited_sends, bigSep_image_of_injOn (fun a _ b _ h => Fin.ext (by
    have h1 := num_tt a.val a.isLt
    have h2 := num_tt b.val b.isLt
    have h : tt a.val + 2 = tt b.val + 2 := h
    rw [← h1, ← h2, Nat.add_right_cancel h])), fin_Ico]
theorem awaited_reader (Φ : ℕ → sProp 𝕄) : (bigSep awaited Φ : sProp 𝕄)
    = iprop((bigSep (Finset.Ico 2 8) Φ) ∗ bigSep (Finset.Ico 0 43) fun k => if stays k then iprop(emp) else Φ (k + 8)) := by
  rw [awaited_reads, bigSep_union (Finset.disjoint_left.mpr fun x hx hy => by
      rw [Finset.mem_Ico] at hx
      obtain ⟨k, -, rfl⟩ := Finset.mem_image.mp hy
      omega),
    bigSep_image_of_injOn (fun a _ b _ h => Nat.add_right_cancel h), bigSep_filter, ← Finset.range_eq_Ico]
  exact congrArg (fun X : sProp 𝕄 => iprop((bigSep (Finset.Ico 2 8) Φ) ∗ X)) (bigSep_congr fun k _ => by
    by_cases h : stays k
    · rw [if_neg (not_not.mpr h), if_pos h]; rfl
    · rw [if_pos h, if_neg h])

/-! ## A device's share -/

/-- What a device is given of one direction, apart from the credits. -/
def Lin₀ (c : Dev nD) (δ : Bool) : sProp 𝕄 :=
  iprop(bigSep (Finset.Ico 0 45) (toSend c δ) ∗ bigSep (Finset.Ico 0 43) (toGive c δ)
    ∗ (bigSep Finset.univ fun j : Fin 8 => atPos ER (cell c (.snd δ j)) 0 ∅ 0)
    ∗ (bigSep Finset.univ fun j : Fin 8 => atPos ER (cell c (.rcv δ j)) 0 ∅ 0)
    ∗ atPos ER (cell c (.crd δ)) 0 ∅ 0
    ∗ (bigSep (Finset.Ico 2 8) fun u => readerAt ES (c, δ, u) 0)
    ∗ dutyTok ER (cell (up δ c) .bar) 0 δ.toNat)

theorem Lin_intro (c : Dev nD) (δ : Bool) :
    iprop(Lin₀ c δ ∗ bigSep (Finset.Ico 0 45) (rcvCred c δ) ∗ bigSep (Finset.Ico 0 43) (crdCred c δ)) ⊢ (Lin c δ : sProp 𝕄) := by
  unfold Lin₀ Lin
  iintro ⟨⟨H1, H2, H3, H4, H5, H6, H7⟩, H8, H9⟩
  isplitl [H1]; · iexact H1
  isplitl [H2]; · iexact H2
  isplitl [H8]; · iexact H8
  isplitl [H9]; · iexact H9
  isplitl [H3]; · iexact H3
  isplitl [H4]; · iexact H4
  isplitl [H5]; · iexact H5
  isplitl [H6]; · iexact H6
  iexact H7

/-- All positions at the start, all tokens and all counts are the shares of all devices. -/
theorem deal :
    iprop((bigSep Finset.univ fun x : Dev nD × Cid => atPos ER (cell x.1 x.2) 0 ∅ 0)
        ∗ (bigSep allToks fun x => dutyTok ER x.1 x.2.1 x.2.2)
        ∗ (bigSep keys fun k => readerAt ES k 0)
        ∗ (bigSep (keys ×ˢ Finset.range 1) fun x => writeTok ES x.1 (x.2 + 1)))
      ⊢ (bigSep Finset.univ fun c : Dev nD => iprop((bigSep Finset.univ fun δ : Bool => Lin₀ c δ) ∗ atPos ER (cell c .bar) 0 ∅ 0) : sProp 𝕄) := by
  have hw : (bigSep (keys ×ˢ Finset.range 1) fun x => (writeTok ES x.1 (x.2 + 1) : sProp 𝕄))
      = bigSep Finset.univ fun p : Pt => bigSep (Finset.Ico 0 45) fun n => writeTok ES (dn p.2 p.1, p.2, tt n + 2) 1 := by
    rw [bigSep_times]
    simp only [Finset.range_one, bigSep_singleton]
    rw [bigSep_keys, bigSep_univ_equiv ringP]
    exact bigSep_congr fun p _ => awaited_writer _
  have hr : (bigSep keys fun k => (readerAt ES k 0 : sProp 𝕄))
      = bigSep Finset.univ fun p : Pt => iprop((bigSep (Finset.Ico 2 8) fun u => readerAt ES (p.1, p.2, u) 0)
        ∗ bigSep (Finset.Ico 0 43) fun k => if stays k then iprop(emp) else readerAt ES (p.1, p.2, k + 8) 0) := by
    rw [bigSep_keys]
    exact bigSep_congr fun p _ => awaited_reader _
  have ha : (bigSep Finset.univ fun x : Dev nD × Cid => (atPos ER (cell x.1 x.2) 0 ∅ 0 : sProp 𝕄))
      = iprop((bigSep Finset.univ fun p : Pt => bigSep Finset.univ fun j : Fin 8 => atPos ER (cell p.1 (.snd p.2 j)) 0 ∅ 0)
        ∗ (bigSep Finset.univ fun p : Pt => bigSep Finset.univ fun j : Fin 8 => atPos ER (cell p.1 (.rcv p.2 j)) 0 ∅ 0)
        ∗ (bigSep Finset.univ fun p : Pt => atPos ER (cell p.1 (.crd p.2)) 0 ∅ 0)
        ∗ bigSep Finset.univ fun c : Dev nD => atPos ER (cell c .bar) 0 ∅ 0) := by
    rw [bigSep_univ_prod, bigSep_congr (s := Finset.univ) (fun c _ => bigSep_Cid _), bigSep_sep', bigSep_sep', bigSep_sep',
      bigSep_univ_prod, bigSep_univ_prod, bigSep_univ_prod]
  have hl (p : Pt) : (Lin₀ p.1 p.2 : sProp 𝕄) = iprop(((bigSep (Finset.Ico 0 45) fun n => dutyTok ER (cell p.1 (.snd p.2 (sl (tt n)))) (cnt 0 n (sl (tt n))) 0)
        ∗ (bigSep (Finset.Ico 0 45) fun n => dutyTok ER (cell (dn p.2 p.1) (.rcv p.2 (sl (tt n + 2)))) (cnt 2 n (sl (tt n + 2))) 0)
        ∗ bigSep (Finset.Ico 0 45) fun n => writeTok ES (dn p.2 p.1, p.2, tt n + 2) 1)
      ∗ ((bigSep (Finset.Ico 0 43) fun k => dutyTok ER (cell (up p.2 p.1) (.crd p.2)) 0 k)
        ∗ bigSep (Finset.Ico 0 43) fun k => if stays k then iprop(emp) else readerAt ES (p.1, p.2, k + 8) 0)
      ∗ (bigSep Finset.univ fun j : Fin 8 => atPos ER (cell p.1 (.snd p.2 j)) 0 ∅ 0)
      ∗ (bigSep Finset.univ fun j : Fin 8 => atPos ER (cell p.1 (.rcv p.2 j)) 0 ∅ 0)
      ∗ atPos ER (cell p.1 (.crd p.2)) 0 ∅ 0
      ∗ (bigSep (Finset.Ico 2 8) fun u => readerAt ES (p.1, p.2, u) 0)
      ∗ dutyTok ER (cell (up p.2 p.1) .bar) 0 p.2.toNat) := by
    unfold Lin₀ toSend toGive
    rw [bigSep_sep', bigSep_sep', bigSep_sep']
  rw [hw, hr, ha, toks_around, bigSep_sep' _ (fun c : Dev nD => bigSep Finset.univ fun δ : Bool => (Lin₀ c δ : sProp 𝕄)),
    ← bigSep_univ_prod (fun p : Pt => (Lin₀ p.1 p.2 : sProp 𝕄)), bigSep_congr (s := Finset.univ) (fun p _ => hl p)]
  simp only [bigSep_sep']
  iintro ⟨⟨A1, A2, A3, A4⟩, ⟨T1, T2, T3, T4⟩, ⟨R1, R2⟩, W⟩
  isplitr [A4]
  · isplitl [T1 T2 W]
    · isplitl [T1]; · iexact T1
      isplitl [T2]; · iexact T2
      iexact W
    isplitl [T3 R2]
    · isplitl [T3]; · iexact T3
      iexact R2
    isplitl [A1]; · iexact A1
    isplitl [A2]; · iexact A2
    isplitl [A3]; · iexact A3
    isplitl [R1]; · iexact R1
    iexact T4
  · iexact A4

end Cert.Mlp

end
-- ==== Proof.Loop1.lean ====
/-
# The ring steps of the first layer
-/
module

public import proofs.«01_k».proof.Proof.Ops

@[expose] public section

set_option maxRecDepth 16384

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable {B : Blocks F} {K : Dev nD × Cid → ℕ} {ι : Key → ℕ} {c : Dev nD}

theorem pr_f (v v' : Ctr) : pr v v' false = v := rfl
theorem pr_t (v v' : Ctr) : pr v v' true = v' := rfl
theorem pr_nf (v v' : Ctr) : pr v v' (!false) = v' := rfl
theorem pr_nt (v v' : Ctr) : pr v v' (!true) = v := rfl

theorem Run_eq {V V' : Bool → Ctr} (h : V = V') : Run B K ι c V ⊢ Run B K ι c V' := Entails.of_eq (by rw [h])

theorem run_ret {α : Type} {Q : α → sProp 𝕄} (x : α) : Q x ⊢ run c (.ret x : Prog (TpuEff nD τ sig (Elt F) Λ₀ .tc) α) Q := by
  unfold run
  rw [wp_ret]
  iintro H
  imodintro
  iexact H

theorem at_eq {P : ℕ → sProp 𝕄} {m n : ℕ} (h : m = n) : P m ⊢ P n := Entails.of_eq (by rw [h])

/-- What is still on its way out when trip `k` of a layer's loop begins; `n` is the first message the loop sends. -/
def back (B : Blocks F) (c : Dev nD) (n : ℕ) : ℕ → sProp 𝕄
  | 0 => iprop(emp)
  | k + 1 => iprop(out B c false (k + n) ∗ out B c true (k + n))

theorem back_succ (n k : ℕ) : back B c n (k + 1) = iprop(out B c false (k + n) ∗ out B c true (k + n)) := rfl

theorem back_pos {n k : ℕ} (h : 1 ≤ k) : back B c n k = iprop(out B c false (k - 1 + n) ∗ out B c true (k - 1 + n)) := by
  obtain ⟨j, rfl⟩ : ∃ j, k = j + 1 := ⟨k - 1, by omega⟩
  rfl

theorem back_zero {n k : ℕ} (h : ¬1 ≤ k) : back B c n k = iprop(emp) := by
  obtain rfl : k = 0 := by omega
  rfl

/-- The accumulator of layer `l` after `k` ring steps, the device's block of the layer's input being `X`. -/
def accV (B : Blocks F) (c : Dev nD) (l : ℕ) (X : Vec F S512x256 .bf16) : ℕ → Vec F S512x256 .f32
  | 0 => own X (B.wi l c) (B.wo l c)
  | k + 1 => stp X (accV B c l X k) (piece B false c (17 * l + k + 2)) (piece B true c (17 * l + k + 2))

/-- While a message is on its way its sender still reads its slot. -/
theorem ld_fly (δ : Bool) (n t : ℕ) (h : tt n = t) {m : Memref sig .tc .vmem S8x512x256 .bf16} (hm : m = bM δ)
    {off : Fin 3 → ℕ} {inb : ∀ a, off a + S1x512x256.size a ≤ S8x512x256.size a} (ho : off = ![t % 8, 0, 0])
    {hl : m.view.LoadsAt (Rect.unit (s := S8x512x256) off S1x512x256.size inb).toLoadRect}
    {α : Type} {Q : α → sProp 𝕄} {k : Vec F S1x512x256 .bf16 → Prog (TpuEff nD τ sig (Elt F) Λ₀ .tc) α} :
    out B c δ n ⊢ iprop((out B c δ n -∗ run c (k (lift (piece B δ c t))) Q)
      -∗ run c (.op (.load m (Rect.unit (s := S8x512x256) off S1x512x256.size inb).toLoadRect hl) k) Q) := by
  subst h
  unfold out
  iintro ⟨Hs, Hf⟩ Hk
  iapply (ld_slot δ (tt n) hm ho) $$ Hs
  iintro Hs
  iapply Hk
  isplitl [Hs] <;> iassumption

theorem cond1 : ∀ k : Fin k0_t1_loop.trips,
    (Scalar.cmpi .ne (Scalar.extui (Scalar.cmpi .sge (Scf.iv 2#32 1#32 k.val) 6#32) : BitVec 32) 0#32 = 1#1) ↔ 4 ≤ k.val := by
  decide +kernel

theorem cond3 : ∀ k : Fin k0_t1_loop.trips, k0_cond3 k = 1#1 ↔ 1 ≤ k.val := by decide +kernel
theorem cond4 : ∀ k : Fin k0_t1_loop.trips, k0_cond4 k = 1#1 ↔ 1 ≤ k.val := by decide +kernel

theorem part1 {α : Type} {Q : α → sProp 𝕄} (kk : (Σ' (_ : BitVec 32), BitVec 32) → Prog (TpuEff nD τ sig (Elt F) Λ₀ .tc) α) (v5 v7 : BitVec 32)
    (k : Fin k0_t1_loop.trips) :
    iprop(Run B K ι c (pr ⟨k + 2, k, 2 + (k - 1), 2 + (k - 1), k - 4, 0⟩ ⟨k + 2, k, 2 + (k - 1), 2 + (k - 1), k - 4, 0⟩))
      ⊢ iprop((∀ x, Run B K ι c (pr ⟨k + 3, k + 1, 2 + (k - 1), 2 + (k - 1), k - 3, 0⟩ ⟨k + 2, k, 2 + (k - 1), 2 + (k - 1), k - 3, 0⟩)
          -∗ out B c false (k + 2) -∗ run c (kk x) Q)
        -∗ run c (on (k0_part1 (F := F)) c v5 v7 2#32 1#32 k >>= kk) Q) := by
  have hk := Nat.lt_of_lt_of_le k.isLt k0_t1_abs.2.1
  rw [k0_part1_eq_skeleton]
  unfold k0_part1_skel
  by_cases h4 : 4 ≤ k.val
  · have hc := (cond1 k).2 h4
    simp only [on, semWaitWord, Prog.lift, Prog.bind_op, Prog.bind_ret, Prog.pure_eq_ret, Prog.bind_assoc, dif_pos hc]
    iintro HR Hk
    iapply (take false 1 (pr ⟨k + 2, k, 2 + (k - 1), 2 + (k - 1), k - 4, 0⟩ ⟨k + 2, k, 2 + (k - 1), 2 + (k - 1), k - 4, 0⟩)
      (pr ⟨k + 2, k, 2 + (k - 1), 2 + (k - 1), k - 3, 0⟩ ⟨k + 2, k, 2 + (k - 1), 2 + (k - 1), k - 4, 0⟩)
      ⟨by simp only [pr_f, pr_t, Ctr.mk.injEq, true_and, and_true]; omega, rfl⟩ (by simp only [pr_f, pr_t, pr_nf, pr_nt, tt, Ctr.Over]; omega)) $$ HR
    iintro HR
    iapply (take true 1 (pr ⟨k + 2, k, 2 + (k - 1), 2 + (k - 1), k - 3, 0⟩ ⟨k + 2, k, 2 + (k - 1), 2 + (k - 1), k - 4, 0⟩)
      (pr ⟨k + 2, k, 2 + (k - 1), 2 + (k - 1), k - 3, 0⟩ ⟨k + 2, k, 2 + (k - 1), 2 + (k - 1), k - 3, 0⟩)
      ⟨by simp only [pr_f, pr_t, Ctr.mk.injEq, true_and, and_true]; omega, rfl⟩ (by simp only [pr_f, pr_t, pr_nf, pr_nt, tt, Ctr.Over]; omega)) $$ HR
    iintro HR
    iapply (recv false (k + 2) (pr ⟨k + 2, k, 2 + (k - 1), 2 + (k - 1), k - 3, 0⟩ ⟨k + 2, k, 2 + (k - 1), 2 + (k - 1), k - 3, 0⟩)
      (pr ⟨k + 2, k + 1, 2 + (k - 1), 2 + (k - 1), k - 3, 0⟩ ⟨k + 2, k, 2 + (k - 1), 2 + (k - 1), k - 3, 0⟩)
      ⟨rfl, rfl⟩ (by simp only [pr_f, pr_t, pr_nf, pr_nt, tt, Ctr.Over]; omega) (hp := k0_off1_eq k)) $$ HR
    iintro ⟨HR, Ht⟩
    iapply (send false (k + 2) (pr ⟨k + 2, k + 1, 2 + (k - 1), 2 + (k - 1), k - 3, 0⟩ ⟨k + 2, k, 2 + (k - 1), 2 + (k - 1), k - 3, 0⟩)
      (pr ⟨k + 3, k + 1, 2 + (k - 1), 2 + (k - 1), k - 3, 0⟩ ⟨k + 2, k, 2 + (k - 1), 2 + (k - 1), k - 3, 0⟩)
      (Fin.ext (k0_dev11_eq c)) ⟨rfl, rfl⟩ (by simp only [pr_f, pr_t, pr_nf, pr_nt, tt, Ctr.Over]; omega)
      (ho := k0_off2_eq k) (ho' := k0_off4_eq k) (hp := k0_off1_eq k) (hp' := k0_off3_eq k)) $$ HR Ht
    iintro ⟨HR, Ht⟩
    iapply Hk $$ [HR] [Ht] <;> iassumption
  · have hc := mt (cond1 k).1 h4
    have h3 : k - 4 = (k - 3 : ℕ) := by omega
    simp only [on, semWaitWord, Prog.lift, Prog.bind_op, Prog.bind_ret, Prog.pure_eq_ret, Prog.bind_assoc, dif_neg hc, h3]
    iintro HR Hk
    iapply (recv false (k + 2) (pr ⟨k + 2, k, 2 + (k - 1), 2 + (k - 1), k - 3, 0⟩ ⟨k + 2, k, 2 + (k - 1), 2 + (k - 1), k - 3, 0⟩)
      (pr ⟨k + 2, k + 1, 2 + (k - 1), 2 + (k - 1), k - 3, 0⟩ ⟨k + 2, k, 2 + (k - 1), 2 + (k - 1), k - 3, 0⟩)
      ⟨rfl, rfl⟩ (by simp only [pr_f, pr_t, pr_nf, pr_nt, tt, Ctr.Over]; omega) (hp := k0_off1_eq k)) $$ HR
    iintro ⟨HR, Ht⟩
    iapply (send false (k + 2) (pr ⟨k + 2, k + 1, 2 + (k - 1), 2 + (k - 1), k - 3, 0⟩ ⟨k + 2, k, 2 + (k - 1), 2 + (k - 1), k - 3, 0⟩)
      (pr ⟨k + 3, k + 1, 2 + (k - 1), 2 + (k - 1), k - 3, 0⟩ ⟨k + 2, k, 2 + (k - 1), 2 + (k - 1), k - 3, 0⟩)
      (Fin.ext (k0_dev11_eq c)) ⟨rfl, rfl⟩ (by simp only [pr_f, pr_t, pr_nf, pr_nt, tt, Ctr.Over]; omega)
      (ho := k0_off2_eq k) (ho' := k0_off4_eq k) (hp := k0_off1_eq k) (hp' := k0_off3_eq k)) $$ HR Ht
    iintro ⟨HR, Ht⟩
    iapply Hk $$ [HR] [Ht] <;> iassumption

theorem part2 {α : Type} {Q : α → sProp 𝕄} {X : Vec F S512x256 .bf16} {A O : Vec F S512x256 .f32}
    (kk : (Σ' (v755 : Vec F S512x256 .f32) (v759 : FVec F S256x256 .bf16) (v760 : FVec F S256x256 .bf16) (v761 : Vec F S512x256 .bf16), FVec F S512x256 .f32) → Prog (TpuEff nD τ sig (Elt F) Λ₀ .tc) α)
    (v5 v697 : BitVec 32) (k : Fin k0_t1_loop.trips) :
    iprop(Run B K ι c (pr ⟨k + 3, k + 1, 2 + (k - 1), 2 + (k - 1), k - 3, 0⟩ ⟨k + 2, k, 2 + (k - 1), 2 + (k - 1), k - 3, 0⟩)
        ∗ out B c false (k + 2) ∗ Reg B c X A O)
      ⊢ iprop(((Run B K ι c (pr ⟨k + 3, k + 1, 2 + (k - 1), 2 + (k - 1), k - 3, 0⟩ ⟨k + 3, k + 1, 2 + (k - 1), 2 + (k - 1), k - 3, 0⟩)
          ∗ out B c false (k + 2) ∗ out B c true (k + 2) ∗ Reg B c X A O)
          -∗ run c (kk ⟨k0_pay1 A (lift (piece B false c (k + 2))) X, k0_pay3 (lift (piece B true c (k + 2))),
              k0_pay4 (lift (piece B true c (k + 2))), X, constant S512x256 .f32 0x00000000#32⟩) Q)
        -∗ run c (on (k0_part2 (F := F)) c v5 k v697 >>= kk) Q) := by
  have hk := Nat.lt_of_lt_of_le k.isLt k0_t1_abs.2.1
  rw [k0_part2_eq_skeleton]
  unfold k0_part2_skel
  simp only [on, Prog.lift, Prog.bind_op, Prog.bind_ret, Prog.pure_eq_ret, Prog.bind_assoc]
  iintro ⟨HR, Ho, HG⟩ Hk
  iapply (recv true (k + 2) (pr ⟨k + 3, k + 1, 2 + (k - 1), 2 + (k - 1), k - 3, 0⟩ ⟨k + 2, k, 2 + (k - 1), 2 + (k - 1), k - 3, 0⟩)
    (pr ⟨k + 3, k + 1, 2 + (k - 1), 2 + (k - 1), k - 3, 0⟩ ⟨k + 2, k + 1, 2 + (k - 1), 2 + (k - 1), k - 3, 0⟩)
    ⟨rfl, rfl⟩ (by simp only [pr_f, pr_t, pr_nf, pr_nt, tt, Ctr.Over]; omega) (hp := k0_off1_eq k)) $$ HR
  iintro ⟨HR, Ht⟩
  iapply (send true (k + 2) (pr ⟨k + 3, k + 1, 2 + (k - 1), 2 + (k - 1), k - 3, 0⟩ ⟨k + 2, k + 1, 2 + (k - 1), 2 + (k - 1), k - 3, 0⟩)
    (pr ⟨k + 3, k + 1, 2 + (k - 1), 2 + (k - 1), k - 3, 0⟩ ⟨k + 3, k + 1, 2 + (k - 1), 2 + (k - 1), k - 3, 0⟩)
    (Fin.ext (k0_dev12_eq c)) ⟨rfl, rfl⟩ (by simp only [pr_f, pr_t, pr_nf, pr_nt, tt, Ctr.Over]; omega)
    (ho := k0_off2_eq k) (ho' := k0_off4_eq k) (hp := k0_off1_eq k) (hp' := k0_off3_eq k)) $$ HR Ht
  iintro ⟨HR, Ht⟩
  iapply (ld_acc X A O) $$ HG
  iintro HG
  iapply (ld_fly (B := B) false (k + 2) (k + 2) (by unfold tt; omega) rfl (k0_off5_eq k)) $$ Ho
  iintro Ho
  iapply (ld_xb X A O) $$ HG
  iintro HG
  iapply (ld_fly (B := B) true (k + 2) (k + 2) (by unfold tt; omega) rfl (k0_off5_eq k)) $$ Ht
  iintro Ht
  iapply (ld_xb X A O) $$ HG
  iintro HG
  iapply Hk
  isplitl [HR]; · iexact HR
  isplitl [Ho]; · iexact Ho
  isplitl [Ht] <;> iassumption

/-- The counters of both directions when trip `k` of the first layer's loop begins. -/
abbrev ctr1 (k : ℕ) : Bool → Ctr :=
  pr ⟨k + 2, k, 2 + (k - 1), 2 + (k - 1), k - 4, 0⟩ ⟨k + 2, k, 2 + (k - 1), 2 + (k - 1), k - 4, 0⟩

set_option maxHeartbeats 1000000 in
/-- One ring step of the first layer: a slot is received and sent on in each direction, both are added to the
accumulator, and the previous step's two slots are given up once their messages have left. -/
theorem body1 {X : Vec F S512x256 .bf16} {O : Vec F S512x256 .f32} (v5 v7 : BitVec 32) (k : Fin k0_t1_loop.trips) (u : Unit) :
    iprop(Run B K ι c (ctr1 k) ∗ Reg B c X (accV B c 0 X k) O ∗ back B c 2 k)
      ⊢ run c (on (k0_t1_body (F := F)) c v5 v7 k u)
          (fun _ => iprop(Run B K ι c (ctr1 (k.val + 1)) ∗ Reg B c X (accV B c 0 X (k.val + 1)) O ∗ back B c 2 (k.val + 1))) := by
  have hk := Nat.lt_of_lt_of_le k.isLt k0_t1_abs.2.1
  by_cases h1 : 1 ≤ k.val
  · rw [back_pos h1]
    simp only [on, k0_t1_body, dif_pos ((cond3 k).2 h1), dif_pos ((cond4 k).2 h1)]
    iintro ⟨HR, HG, Hb, Hb'⟩
    iapply (part1 (B := B) _ v5 v7 k) $$ HR
    iintro %x HR Ho
    iapply (part2 (B := B) (X := X) (A := accV B c 0 X k) (O := O) _ v5 _ k) $$ [HR Ho HG]
    · isplitl [HR]; · iexact HR
      isplitl [Ho] <;> iassumption
    iintro ⟨HR, Ho, Ho', HG⟩
    simp only [semSignalWord, Prog.lift, Prog.bind_op, Prog.bind_ret, Prog.pure_eq_ret, Prog.bind_assoc]
    iapply (ld_acc X (accV B c 0 X k) O) $$ HG
    iintro HG
    iapply (st_acc X (accV B c 0 X k) O (accV B c 0 X (k.val + 1)) (by simp only [accV, Nat.mul_zero, Nat.zero_add, stp])) $$ HG
    iintro HG
    have e : 2 + (k.val - 1) = k + 1 := by omega
    have e' : k.val - 3 = k.val + 1 - 4 := by omega
    ihave HR := (Run_eq (V' := pr ⟨k + 3, k + 1, k + 1, k + 1, k + 1 - 4, 0⟩ ⟨k + 3, k + 1, k + 1, k + 1, k + 1 - 4, 0⟩) (by rw [e, e'])) $$ HR
    iapply (sent false (k + 1) (k - 1 + 2) (pr ⟨k + 3, k + 1, k + 1, k + 1, k + 1 - 4, 0⟩ ⟨k + 3, k + 1, k + 1, k + 1, k + 1 - 4, 0⟩)
      (pr ⟨k + 3, k + 1, k + 2, k + 1, k + 1 - 4, 0⟩ ⟨k + 3, k + 1, k + 1, k + 1, k + 1 - 4, 0⟩)
      ⟨rfl, rfl⟩ (by simp only [pr_f, tt, true_and]; omega) (hp := k0_off6_eq k)) $$ HR Hb
    iintro ⟨HR, Hb⟩
    iapply (sent true (k + 1) (k - 1 + 2) (pr ⟨k + 3, k + 1, k + 2, k + 1, k + 1 - 4, 0⟩ ⟨k + 3, k + 1, k + 1, k + 1, k + 1 - 4, 0⟩)
      (pr ⟨k + 3, k + 1, k + 2, k + 1, k + 1 - 4, 0⟩ ⟨k + 3, k + 1, k + 2, k + 1, k + 1 - 4, 0⟩)
      ⟨rfl, rfl⟩ (by simp only [pr_t, tt, true_and]; omega) (hp := k0_off6_eq k)) $$ HR Hb'
    iintro ⟨HR, Hb'⟩
    iapply (give false (k + 1) (pr ⟨k + 3, k + 1, k + 2, k + 1, k + 1 - 4, 0⟩ ⟨k + 3, k + 1, k + 2, k + 1, k + 1 - 4, 0⟩)
      (pr ⟨k + 3, k + 1, k + 2, k + 2, k + 1 - 4, 0⟩ ⟨k + 3, k + 1, k + 2, k + 1, k + 1 - 4, 0⟩)
      (Fin.ext (k0_dev13_eq c)) ⟨rfl, rfl⟩ (by simp only [pr_f, tt, true_and]; omega)) $$ HR Hb
    iintro HR
    iapply (give true (k + 1) (pr ⟨k + 3, k + 1, k + 2, k + 2, k + 1 - 4, 0⟩ ⟨k + 3, k + 1, k + 2, k + 1, k + 1 - 4, 0⟩)
      (pr ⟨k + 3, k + 1, k + 2, k + 2, k + 1 - 4, 0⟩ ⟨k + 3, k + 1, k + 2, k + 2, k + 1 - 4, 0⟩)
      (Fin.ext (k0_dev14_eq c)) ⟨rfl, rfl⟩ (by simp only [pr_t, tt, true_and]; omega)) $$ HR Hb'
    iintro HR
    iapply (run_ret)
    isplitl [HR]
    · iapply (Run_eq (V' := ctr1 (k.val + 1)) (by unfold ctr1; rw [show 2 + (k.val + 1 - 1) = k + 2 by omega])) $$ HR
    isplitl [HG]; · iexact HG
    rw [back_succ]
    isplitl [Ho] <;> iassumption
  · rw [back_zero h1]
    simp only [on, k0_t1_body, dif_neg (mt (cond3 k).1 h1), dif_neg (mt (cond4 k).1 h1)]
    iintro ⟨HR, HG, -⟩
    iapply (part1 (B := B) _ v5 v7 k) $$ HR
    iintro %x HR Ho
    iapply (part2 (B := B) (X := X) (A := accV B c 0 X k) (O := O) _ v5 _ k) $$ [HR Ho HG]
    · isplitl [HR]; · iexact HR
      isplitl [Ho] <;> iassumption
    iintro ⟨HR, Ho, Ho', HG⟩
    simp only [semSignalWord, Prog.lift, Prog.bind_op, Prog.bind_ret, Prog.pure_eq_ret, Prog.bind_assoc]
    iapply (ld_acc X (accV B c 0 X k) O) $$ HG
    iintro HG
    iapply (st_acc X (accV B c 0 X k) O (accV B c 0 X (k.val + 1)) (by simp only [accV, Nat.mul_zero, Nat.zero_add, stp])) $$ HG
    iintro HG
    iapply (run_ret)
    isplitl [HR]
    · iapply (Run_eq (V' := ctr1 (k.val + 1)) (by
        unfold ctr1; rw [show 2 + (k.val - 1) = 2 + (k.val + 1 - 1) by omega, show k.val - 3 = k.val + 1 - 4 by omega])) $$ HR
    isplitl [HG]; · iexact HG
    rw [back_succ]
    isplitl [Ho] <;> iassumption

/-- All thirteen ring steps of the layer. -/
theorem loop1 {X : Vec F S512x256 .bf16} {O : Vec F S512x256 .f32} (v5 v7 : BitVec 32) {α : Type} {Q : α → sProp 𝕄}
    {kk : PUnit → Prog (TpuEff nD τ sig (Elt F) Λ₀ .tc) α} :
    iprop(Run B K ι c (pr ⟨2, 0, 2, 2, 0, 0⟩ ⟨2, 0, 2, 2, 0, 0⟩) ∗ Reg B c X (accV B c 0 X 0) O)
      ⊢ iprop(((Run B K ι c (pr ⟨15, 13, 14, 14, 9, 0⟩ ⟨15, 13, 14, 14, 9, 0⟩) ∗ Reg B c X (accV B c 0 X 13) O
            ∗ out B c false 14 ∗ out B c true 14) -∗ run c (kk ⟨⟩) Q)
        -∗ run c (Scf.Loop.for k0_t1_loop k0_t1_ok ⟨⟩ (on (k0_t1_body (F := F)) c v5 v7) >>= kk) Q) := by
  have e : k0_t1_loop.trips = 13 := by decide +kernel
  have hl := Scf.wp_for_bind frame (wpE (defs₀ (F := F)) 𝒱₀ (c : Thread nD τ) none) Set.univ _ _ _ k0_t1_ok ⟨⟩
    (on (k0_t1_body (F := F)) c v5 v7) (fun k _ => iprop(Run B K ι c (ctr1 k) ∗ Reg B c X (accV B c 0 X k) O ∗ back B c 2 k))
    (fun k u => body1 v5 v7 k u) (kk := kk) (Q := Q)
  iintro ⟨HR, HG⟩ Hk
  iapply hl $$ [HR HG]
  · isplitl [HR]; · iexact HR
    isplitl [HG]; · iexact HG
    rw [back_zero (by decide)]
    itrivial
  iintro %_ H
  ihave H := (at_eq (P := fun k => iprop(Run B K ι c (ctr1 k) ∗ Reg B c X (accV B c 0 X k) O ∗ back B c 2 k)) e) $$ H
  icases H with ⟨HR, HG, Hb⟩
  iapply Hk
  isplitl [HR]; · iexact HR
  isplitl [HG]; · iexact HG
  iapply (Entails.of_eq (back_succ (B := B) (c := c) 2 12)) $$ Hb

end Cert.Mlp

end
-- ==== Proof.Loop2.lean ====
/-
# The ring steps of the second layer
-/
module

public import proofs.«01_k».proof.Proof.Loop1

@[expose] public section

set_option maxRecDepth 16384

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable {B : Blocks F} {K : Dev nD × Cid → ℕ} {ι : Key → ℕ} {c : Dev nD}

theorem cond5 : ∀ k : Fin k0_t2_loop.trips, k0_cond5 k = 1#1 ↔ 1 ≤ k.val := by decide +kernel
theorem cond6 : ∀ k : Fin k0_t2_loop.trips, k0_cond6 k = 1#1 ↔ 1 ≤ k.val := by decide +kernel

theorem part3 {α : Type} {Q : α → sProp 𝕄} (kk : (Σ' (_ : BitVec 32), BitVec 32) → Prog (TpuEff nD τ sig (Elt F) Λ₀ .tc) α) (v5 v7 : BitVec 32)
    (k : Fin k0_t2_loop.trips) :
    iprop(Run B K ι c (pr ⟨k + 17, k + 15, 17 + (k - 1), 19 + (k - 1), k + 13, 11⟩ ⟨k + 17, k + 15, 17 + (k - 1), 19 + (k - 1), k + 13, 11⟩))
      ⊢ iprop((∀ x, Run B K ι c (pr ⟨k + 18, k + 16, 17 + (k - 1), 19 + (k - 1), k + 14, 11⟩ ⟨k + 17, k + 15, 17 + (k - 1), 19 + (k - 1), k + 14, 11⟩)
          -∗ out B c false (k + 17) -∗ run c (kk x) Q)
        -∗ run c (on (k0_part3 (F := F)) c v5 v7 2#32 1#32 k >>= kk) Q) := by
  have hk := Nat.lt_of_lt_of_le k.isLt k0_t2_abs.2.1
  rw [k0_part3_eq_skeleton]
  unfold k0_part3_skel
  simp only [on, semWaitWord, Prog.lift, Prog.bind_op, Prog.bind_ret, Prog.pure_eq_ret, Prog.bind_assoc]
  iintro HR Hk
  iapply (take false 1 (pr ⟨k + 17, k + 15, 17 + (k - 1), 19 + (k - 1), k + 13, 11⟩ ⟨k + 17, k + 15, 17 + (k - 1), 19 + (k - 1), k + 13, 11⟩)
    (pr ⟨k + 17, k + 15, 17 + (k - 1), 19 + (k - 1), k + 14, 11⟩ ⟨k + 17, k + 15, 17 + (k - 1), 19 + (k - 1), k + 13, 11⟩)
    ⟨rfl, rfl⟩ (by simp only [pr_f, pr_t, pr_nf, pr_nt, tt, Ctr.Over]; omega)) $$ HR
  iintro HR
  iapply (take true 1 (pr ⟨k + 17, k + 15, 17 + (k - 1), 19 + (k - 1), k + 14, 11⟩ ⟨k + 17, k + 15, 17 + (k - 1), 19 + (k - 1), k + 13, 11⟩)
    (pr ⟨k + 17, k + 15, 17 + (k - 1), 19 + (k - 1), k + 14, 11⟩ ⟨k + 17, k + 15, 17 + (k - 1), 19 + (k - 1), k + 14, 11⟩)
    ⟨rfl, rfl⟩ (by simp only [pr_f, pr_t, pr_nf, pr_nt, tt, Ctr.Over]; omega)) $$ HR
  iintro HR
  iapply (recv false (k + 19) (pr ⟨k + 17, k + 15, 17 + (k - 1), 19 + (k - 1), k + 14, 11⟩ ⟨k + 17, k + 15, 17 + (k - 1), 19 + (k - 1), k + 14, 11⟩)
    (pr ⟨k + 17, k + 16, 17 + (k - 1), 19 + (k - 1), k + 14, 11⟩ ⟨k + 17, k + 15, 17 + (k - 1), 19 + (k - 1), k + 14, 11⟩)
    ⟨rfl, rfl⟩ (by simp only [pr_f, pr_t, pr_nf, pr_nt, tt, Ctr.Over]; omega) (hp := k0_off8_eq k)) $$ HR
  iintro ⟨HR, Ht⟩
  iapply (send false (k + 19) (pr ⟨k + 17, k + 16, 17 + (k - 1), 19 + (k - 1), k + 14, 11⟩ ⟨k + 17, k + 15, 17 + (k - 1), 19 + (k - 1), k + 14, 11⟩)
    (pr ⟨k + 18, k + 16, 17 + (k - 1), 19 + (k - 1), k + 14, 11⟩ ⟨k + 17, k + 15, 17 + (k - 1), 19 + (k - 1), k + 14, 11⟩)
    (Fin.ext (k0_dev29_eq c)) ⟨rfl, rfl⟩ (by simp only [pr_f, pr_t, pr_nf, pr_nt, tt, Ctr.Over]; omega)
    (ho := k0_off9_eq k) (ho' := k0_off11_eq k) (hp := k0_off8_eq k) (hp' := k0_off10_eq k)) $$ HR Ht
  iintro ⟨HR, Ht⟩
  iapply Hk $$ [HR] [Ht] <;> iassumption

theorem part4 {α : Type} {Q : α → sProp 𝕄} {X : Vec F S512x256 .bf16} {A O : Vec F S512x256 .f32}
    (kk : (Σ' (_ : FVec F S512x256 .f32) (_ : FVec F S256x256 .bf16) (_ : FVec F S512x256 .bf16), FVec F S512x256 .f32) → Prog (TpuEff nD τ sig (Elt F) Λ₀ .tc) α)
    (v5 v697 : BitVec 32) (k : Fin k0_t2_loop.trips) :
    iprop(Run B K ι c (pr ⟨k + 18, k + 16, 17 + (k - 1), 19 + (k - 1), k + 14, 11⟩ ⟨k + 17, k + 15, 17 + (k - 1), 19 + (k - 1), k + 14, 11⟩)
        ∗ out B c false (k + 17) ∗ Reg B c X A O)
      ⊢ iprop(((Run B K ι c (pr ⟨k + 18, k + 16, 17 + (k - 1), 19 + (k - 1), k + 14, 11⟩ ⟨k + 18, k + 16, 17 + (k - 1), 19 + (k - 1), k + 14, 11⟩)
          ∗ out B c false (k + 17) ∗ out B c true (k + 17) ∗ Reg B c X A O)
          -∗ run c (kk ⟨k0_pay5 A (lift (piece B false c (k + 19))) X, k0_pay7 (lift (piece B true c (k + 19))),
              k0_pay8 (lift (piece B true c (k + 19))) X, constant S512x256 .f32 0x00000000#32⟩) Q)
        -∗ run c (on (k0_part4 (F := F)) c v5 k v697 >>= kk) Q) := by
  have hk := Nat.lt_of_lt_of_le k.isLt k0_t2_abs.2.1
  rw [k0_part4_eq_skeleton]
  unfold k0_part4_skel
  simp only [on, Prog.lift, Prog.bind_op, Prog.bind_ret, Prog.pure_eq_ret, Prog.bind_assoc]
  iintro ⟨HR, Ho, HG⟩ Hk
  iapply (recv true (k + 19) (pr ⟨k + 18, k + 16, 17 + (k - 1), 19 + (k - 1), k + 14, 11⟩ ⟨k + 17, k + 15, 17 + (k - 1), 19 + (k - 1), k + 14, 11⟩)
    (pr ⟨k + 18, k + 16, 17 + (k - 1), 19 + (k - 1), k + 14, 11⟩ ⟨k + 17, k + 16, 17 + (k - 1), 19 + (k - 1), k + 14, 11⟩)
    ⟨rfl, rfl⟩ (by simp only [pr_f, pr_t, pr_nf, pr_nt, tt, Ctr.Over]; omega) (hp := k0_off8_eq k)) $$ HR
  iintro ⟨HR, Ht⟩
  iapply (send true (k + 19) (pr ⟨k + 18, k + 16, 17 + (k - 1), 19 + (k - 1), k + 14, 11⟩ ⟨k + 17, k + 16, 17 + (k - 1), 19 + (k - 1), k + 14, 11⟩)
    (pr ⟨k + 18, k + 16, 17 + (k - 1), 19 + (k - 1), k + 14, 11⟩ ⟨k + 18, k + 16, 17 + (k - 1), 19 + (k - 1), k + 14, 11⟩)
    (Fin.ext (k0_dev30_eq c)) ⟨rfl, rfl⟩ (by simp only [pr_f, pr_t, pr_nf, pr_nt, tt, Ctr.Over]; omega)
    (ho := k0_off9_eq k) (ho' := k0_off11_eq k) (hp := k0_off8_eq k) (hp' := k0_off10_eq k)) $$ HR Ht
  iintro ⟨HR, Ht⟩
  iapply (ld_acc X A O) $$ HG
  iintro HG
  iapply (ld_fly (B := B) false (k + 17) (k + 19) (by unfold tt; omega) rfl (k0_off12_eq k)) $$ Ho
  iintro Ho
  iapply (ld_xb X A O) $$ HG
  iintro HG
  iapply (ld_fly (B := B) true (k + 17) (k + 19) (by unfold tt; omega) rfl (k0_off12_eq k)) $$ Ht
  iintro Ht
  iapply (ld_xb X A O) $$ HG
  iintro HG
  iapply Hk
  isplitl [HR]; · iexact HR
  isplitl [Ho]; · iexact Ho
  isplitl [Ht] <;> iassumption

/-- The counters of both directions when trip `k` of the second layer's loop begins. -/
abbrev ctr2 (k : ℕ) : Bool → Ctr :=
  pr ⟨k + 17, k + 15, 17 + (k - 1), 19 + (k - 1), k + 13, 11⟩ ⟨k + 17, k + 15, 17 + (k - 1), 19 + (k - 1), k + 13, 11⟩

set_option maxHeartbeats 1000000 in
/-- One ring step of the second layer, as in the first. -/
theorem body2 {X : Vec F S512x256 .bf16} {O : Vec F S512x256 .f32} (v5 v7 : BitVec 32) (k : Fin k0_t2_loop.trips) (u : Unit) :
    iprop(Run B K ι c (ctr2 k) ∗ Reg B c X (accV B c 1 X k) O ∗ back B c 17 k)
      ⊢ run c (on (k0_t2_body (F := F)) c v5 v7 k u)
          (fun _ => iprop(Run B K ι c (ctr2 (k.val + 1)) ∗ Reg B c X (accV B c 1 X (k.val + 1)) O ∗ back B c 17 (k.val + 1))) := by
  have hk := Nat.lt_of_lt_of_le k.isLt k0_t2_abs.2.1
  by_cases h1 : 1 ≤ k.val
  · rw [back_pos h1]
    simp only [on, k0_t2_body, dif_pos ((cond5 k).2 h1), dif_pos ((cond6 k).2 h1)]
    iintro ⟨HR, HG, Hb, Hb'⟩
    iapply (part3 (B := B) _ v5 v7 k) $$ HR
    iintro %x HR Ho
    iapply (part4 (B := B) (X := X) (A := accV B c 1 X k) (O := O) _ v5 _ k) $$ [HR Ho HG]
    · isplitl [HR]; · iexact HR
      isplitl [Ho] <;> iassumption
    iintro ⟨HR, Ho, Ho', HG⟩
    simp only [semSignalWord, Prog.lift, Prog.bind_op, Prog.bind_ret, Prog.pure_eq_ret, Prog.bind_assoc]
    iapply (ld_acc X (accV B c 1 X k) O) $$ HG
    iintro HG
    iapply (st_acc X (accV B c 1 X k) O (accV B c 1 X (k.val + 1)) (by
      simp only [accV, show 17 * 1 + k.val + 2 = k + 19 by omega]; rfl)) $$ HG
    iintro HG
    ihave HR := (Run_eq (V' := pr ⟨k + 18, k + 16, k + 16, k + 18, k + 14, 11⟩ ⟨k + 18, k + 16, k + 16, k + 18, k + 14, 11⟩)
      (by rw [show 17 + (k.val - 1) = k + 16 by omega, show 19 + (k.val - 1) = k + 18 by omega])) $$ HR
    iapply (sent false (k + 18) (k - 1 + 17) (pr ⟨k + 18, k + 16, k + 16, k + 18, k + 14, 11⟩ ⟨k + 18, k + 16, k + 16, k + 18, k + 14, 11⟩)
      (pr ⟨k + 18, k + 16, k + 17, k + 18, k + 14, 11⟩ ⟨k + 18, k + 16, k + 16, k + 18, k + 14, 11⟩)
      ⟨rfl, rfl⟩ (by simp only [pr_f, tt, true_and]; omega) (hp := k0_off13_eq k)) $$ HR Hb
    iintro ⟨HR, Hb⟩
    iapply (sent true (k + 18) (k - 1 + 17) (pr ⟨k + 18, k + 16, k + 17, k + 18, k + 14, 11⟩ ⟨k + 18, k + 16, k + 16, k + 18, k + 14, 11⟩)
      (pr ⟨k + 18, k + 16, k + 17, k + 18, k + 14, 11⟩ ⟨k + 18, k + 16, k + 17, k + 18, k + 14, 11⟩)
      ⟨rfl, rfl⟩ (by simp only [pr_t, tt, true_and]; omega) (hp := k0_off13_eq k)) $$ HR Hb'
    iintro ⟨HR, Hb'⟩
    iapply (give false (k + 18) (pr ⟨k + 18, k + 16, k + 17, k + 18, k + 14, 11⟩ ⟨k + 18, k + 16, k + 17, k + 18, k + 14, 11⟩)
      (pr ⟨k + 18, k + 16, k + 17, k + 19, k + 14, 11⟩ ⟨k + 18, k + 16, k + 17, k + 18, k + 14, 11⟩)
      (Fin.ext (k0_dev31_eq c)) ⟨rfl, rfl⟩ (by simp only [pr_f, tt, true_and]; omega)) $$ HR Hb
    iintro HR
    iapply (give true (k + 18) (pr ⟨k + 18, k + 16, k + 17, k + 19, k + 14, 11⟩ ⟨k + 18, k + 16, k + 17, k + 18, k + 14, 11⟩)
      (pr ⟨k + 18, k + 16, k + 17, k + 19, k + 14, 11⟩ ⟨k + 18, k + 16, k + 17, k + 19, k + 14, 11⟩)
      (Fin.ext (k0_dev32_eq c)) ⟨rfl, rfl⟩ (by simp only [pr_t, tt, true_and]; omega)) $$ HR Hb'
    iintro HR
    iapply (run_ret)
    isplitl [HR]
    · iapply (Run_eq (V' := ctr2 (k.val + 1)) (by
        unfold ctr2; rw [show 17 + (k.val + 1 - 1) = k + 17 by omega, show 19 + (k.val + 1 - 1) = k + 19 by omega])) $$ HR
    isplitl [HG]; · iexact HG
    rw [back_succ]
    isplitl [Ho] <;> iassumption
  · rw [back_zero h1]
    simp only [on, k0_t2_body, dif_neg (mt (cond5 k).1 h1), dif_neg (mt (cond6 k).1 h1)]
    iintro ⟨HR, HG, -⟩
    iapply (part3 (B := B) _ v5 v7 k) $$ HR
    iintro %x HR Ho
    iapply (part4 (B := B) (X := X) (A := accV B c 1 X k) (O := O) _ v5 _ k) $$ [HR Ho HG]
    · isplitl [HR]; · iexact HR
      isplitl [Ho] <;> iassumption
    iintro ⟨HR, Ho, Ho', HG⟩
    simp only [semSignalWord, Prog.lift, Prog.bind_op, Prog.bind_ret, Prog.pure_eq_ret, Prog.bind_assoc]
    iapply (ld_acc X (accV B c 1 X k) O) $$ HG
    iintro HG
    iapply (st_acc X (accV B c 1 X k) O (accV B c 1 X (k.val + 1)) (by
      simp only [accV, show 17 * 1 + k.val + 2 = k + 19 by omega]; rfl)) $$ HG
    iintro HG
    iapply (run_ret)
    isplitl [HR]
    · iapply (Run_eq (V' := ctr2 (k.val + 1)) (by
        unfold ctr2; rw [show 17 + (k.val - 1) = 17 + (k.val + 1 - 1) by omega, show 19 + (k.val - 1) = 19 + (k.val + 1 - 1) by omega])) $$ HR
    isplitl [HG]; · iexact HG
    rw [back_succ]
    isplitl [Ho] <;> iassumption

/-- All thirteen ring steps of the layer. -/
theorem loop2 {X : Vec F S512x256 .bf16} {O : Vec F S512x256 .f32} (v5 v7 : BitVec 32) {α : Type} {Q : α → sProp 𝕄}
    {kk : PUnit → Prog (TpuEff nD τ sig (Elt F) Λ₀ .tc) α} :
    iprop(Run B K ι c (pr ⟨17, 15, 17, 19, 13, 11⟩ ⟨17, 15, 17, 19, 13, 11⟩) ∗ Reg B c X (accV B c 1 X 0) O)
      ⊢ iprop(((Run B K ι c (pr ⟨30, 28, 29, 31, 26, 11⟩ ⟨30, 28, 29, 31, 26, 11⟩) ∗ Reg B c X (accV B c 1 X 13) O
            ∗ out B c false 29 ∗ out B c true 29) -∗ run c (kk ⟨⟩) Q)
        -∗ run c (Scf.Loop.for k0_t2_loop k0_t2_ok ⟨⟩ (on (k0_t2_body (F := F)) c v5 v7) >>= kk) Q) := by
  have e : k0_t2_loop.trips = 13 := by decide +kernel
  have hl := Scf.wp_for_bind frame (wpE (defs₀ (F := F)) 𝒱₀ (c : Thread nD τ) none) Set.univ _ _ _ k0_t2_ok ⟨⟩
    (on (k0_t2_body (F := F)) c v5 v7) (fun k _ => iprop(Run B K ι c (ctr2 k) ∗ Reg B c X (accV B c 1 X k) O ∗ back B c 17 k))
    (fun k u => body2 v5 v7 k u) (kk := kk) (Q := Q)
  iintro ⟨HR, HG⟩ Hk
  iapply hl $$ [HR HG]
  · isplitl [HR]; · iexact HR
    isplitl [HG]; · iexact HG
    rw [back_zero (by decide)]
    itrivial
  iintro %_ H
  ihave H := (at_eq (P := fun k => iprop(Run B K ι c (ctr2 k) ∗ Reg B c X (accV B c 1 X k) O ∗ back B c 17 k)) e) $$ H
  icases H with ⟨HR, HG, Hb⟩
  iapply Hk
  isplitl [HR]; · iexact HR
  isplitl [HG]; · iexact HG
  iapply (Entails.of_eq (back_succ (B := B) (c := c) 17 12)) $$ Hb

end Cert.Mlp

end
-- ==== Proof.Parts2.lean ====
/-
# From the first layer's ring steps to the second layer's

The loop's last messages leave, the blocks of the second layer are packed and sent, the last two steps of the first layer
are received and added, the accumulator is rounded to the next layer's input, and the second layer's loop runs.
-/
module

public import proofs.«01_k».proof.Proof.Parts1
public import proofs.«01_k».proof.Proof.Loop2

@[expose] public section

set_option maxRecDepth 16384
set_option maxHeartbeats 1000000

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable {B : Blocks F} {K : Dev nD × Cid → ℕ} {ι : Key → ℕ} {c : Dev nD}

theorem pay28_eq (v : Vec F S256x256 .bf16) : k0_pay28 (F := F) v = v := shapeCast_self _ _
theorem pay29_eq (v : Vec F S256x256 .bf16) : k0_pay29 (F := F) v = v := shapeCast_self _ _
theorem pay30_eq (v : Vec F S256x256 .bf16) : k0_pay30 (F := F) v = v := shapeCast_self _ _
theorem pay31_eq (v : Vec F S256x256 .bf16) : k0_pay31 (F := F) v = v := shapeCast_self _ _
theorem pay32_eq (v : Vec F S256x256 .bf16) : k0_pay32 (F := F) v = shapeCast S1x256x256 v shapeCasts_S256x256_S1x256x256 :=
  congrArg (fun u => shapeCast S1x256x256 u shapeCasts_S256x256_S1x256x256) (pay28_eq v)
theorem pay33_eq (v : Vec F S256x256 .bf16) : k0_pay33 (F := F) v = shapeCast S1x256x256 v shapeCasts_S256x256_S1x256x256 :=
  congrArg (fun u => shapeCast S1x256x256 u shapeCasts_S256x256_S1x256x256) (pay29_eq v)
theorem pay34_eq (v : Vec F S256x256 .bf16) : k0_pay34 (F := F) v = shapeCast S1x256x256 v shapeCasts_S256x256_S1x256x256 :=
  congrArg (fun u => shapeCast S1x256x256 u shapeCasts_S256x256_S1x256x256) (pay30_eq v)
theorem pay35_eq (v : Vec F S256x256 .bf16) : k0_pay35 (F := F) v = shapeCast S1x256x256 v shapeCasts_S256x256_S1x256x256 :=
  congrArg (fun u => shapeCast S1x256x256 u shapeCasts_S256x256_S1x256x256) (pay31_eq v)
theorem pay49_eq (v : Vec F S256x256 .bf16) : k0_pay49 (F := F) v = v := shapeCast_self _ _

/-- A slot of which the upper half holds `a` already. -/
def halfway (c : Dev nD) (δ : Bool) (t : ℕ) (a : Vec F S256x256 .bf16) : sProp 𝕄 :=
  iprop(∃ Y, slotAt c δ t fullShare (put 0 a Y))

theorem half_intro {δ : Bool} {t : ℕ} {a : Vec F S256x256 .bf16} {Y : Vec F S512x256 .bf16} :
    slotAt c δ t fullShare (put 0 a Y) ⊢ halfway (F := F) c δ t a := by
  unfold halfway
  iintro H
  iexists Y
  iexact H

theorem hold_of_halves (δ : Bool) (t : ℕ) (a b : Vec F S256x256 .bf16) (Y : Vec F S512x256 .bf16) (hp : pack a b = piece B δ c t) :
    slotAt c δ t fullShare (put 256 b (put 0 a Y)) ⊢ hold B c δ t := by
  unfold hold
  rw [← hp, ← put_put a b Y]

theorem part12 {α : Type} {Q : α → sProp 𝕄} {X : Vec F S512x256 .bf16} {O : Vec F S512x256 .f32}
    (kk : PUnit → Prog (TpuEff nD τ sig (Elt F) Λ₀ .tc) α) (v5 : BitVec 32) (v7 : BitVec 32) :
    iprop(Run B K ι c (pr ⟨2, 0, 2, 1, 0, 0⟩ ⟨2, 0, 2, 1, 0, 0⟩)
        ∗ Reg B c X (accV B c 0 X 0) O
        ∗ hold B c false 1
        ∗ hold B c true 1)
      ⊢ iprop(((Run B K ι c (pr ⟨15, 13, 15, 15, 9, 0⟩ ⟨15, 13, 15, 14, 9, 0⟩)
        ∗ Reg B c X (accV B c 0 X 13) O
        ∗ hold B c true 14) -∗ run c (kk ⟨⟩) Q)
        -∗ run c (on (k0_part12 (F := F)) c v5 v7 >>= kk) Q) := by
  rw [k0_part12_eq_skeleton]
  unfold k0_part12_skel
  simp only [on, semSignalWord, semWaitWord, Prog.lift, Prog.bind_op, Prog.bind_ret, Prog.pure_eq_ret, Prog.bind_assoc]
  iintro ⟨HR, HG, Hf1, Ht1⟩ Hk
  iapply (give false 1 (pr ⟨2, 0, 2, 1, 0, 0⟩ ⟨2, 0, 2, 1, 0, 0⟩) (pr ⟨2, 0, 2, 2, 0, 0⟩ ⟨2, 0, 2, 1, 0, 0⟩) (Fin.ext (k0_dev9_eq c)) ⟨rfl, rfl⟩ (by decide)) $$ HR Hf1
  iintro HR
  iapply (give true 1 (pr ⟨2, 0, 2, 2, 0, 0⟩ ⟨2, 0, 2, 1, 0, 0⟩) (pr ⟨2, 0, 2, 2, 0, 0⟩ ⟨2, 0, 2, 2, 0, 0⟩) (Fin.ext (k0_dev10_eq c)) ⟨rfl, rfl⟩ (by decide)) $$ HR Ht1
  iintro HR
  iapply (loop1 v5 v7) $$ [HR HG]
  · isplitl [HR] <;> iassumption
  iintro ⟨HR, HG, Hf14, Ht14⟩
  iapply (sent false 14 14 (pr ⟨15, 13, 14, 14, 9, 0⟩ ⟨15, 13, 14, 14, 9, 0⟩) (pr ⟨15, 13, 15, 14, 9, 0⟩ ⟨15, 13, 14, 14, 9, 0⟩) ⟨rfl, rfl⟩ (by decide)) $$ HR Hf14
  iintro ⟨HR, Hf14⟩
  iapply (sent true 14 14 (pr ⟨15, 13, 15, 14, 9, 0⟩ ⟨15, 13, 14, 14, 9, 0⟩) (pr ⟨15, 13, 15, 14, 9, 0⟩ ⟨15, 13, 15, 14, 9, 0⟩) ⟨rfl, rfl⟩ (by decide)) $$ HR Ht14
  iintro ⟨HR, Ht14⟩
  iapply (give false 14 (pr ⟨15, 13, 15, 14, 9, 0⟩ ⟨15, 13, 15, 14, 9, 0⟩) (pr ⟨15, 13, 15, 15, 9, 0⟩ ⟨15, 13, 15, 14, 9, 0⟩) (Fin.ext (k0_dev15_eq c)) ⟨rfl, rfl⟩ (by decide)) $$ HR Hf14
  iintro HR
  iapply Hk
  isplitl [HR]; · iexact HR
  isplitl [HG]; · iexact HG
  iexact Ht14

theorem part13 {α : Type} {Q : α → sProp 𝕄} {X : Vec F S512x256 .bf16} {A O : Vec F S512x256 .f32}
    (kk : (Σ' (_ : FVec F S256x256 .bf16) (_ : FVec F S256x256 .bf16) (_ : FVec F S256x256 .bf16), FVec F S256x256 .bf16) → Prog (TpuEff nD τ sig (Elt F) Λ₀ .tc) α) (v7 : BitVec 32) :
    iprop(Run B K ι c (pr ⟨15, 13, 15, 15, 9, 0⟩ ⟨15, 13, 15, 14, 9, 0⟩)
        ∗ Reg B c X A O
        ∗ hold B c true 14)
      ⊢ iprop(((Run B K ι c (pr ⟨15, 13, 15, 15, 12, 10⟩ ⟨15, 13, 15, 15, 12, 10⟩)
        ∗ Reg B c X A O
        ∗ hold B c false 17
        ∗ hold B c true 17) -∗ run c (kk ⟨wi B c 1 0, wo B c 1 0, wi B c 1 1, wo B c 1 1⟩) Q)
        -∗ run c (on (k0_part13 (F := F)) c v7 >>= kk) Q) := by
  rw [k0_part13_eq_skeleton]
  unfold k0_part13_skel
  simp only [on, semSignalWord, semWaitWord, Prog.lift, Prog.bind_op, Prog.bind_ret, Prog.pure_eq_ret, Prog.bind_assoc, pay28_eq, pay29_eq, pay30_eq, pay31_eq, pay32_eq, pay33_eq, pay34_eq, pay35_eq]
  iintro ⟨HR, HG, Ht14⟩ Hk
  iapply (give true 14 (pr ⟨15, 13, 15, 15, 9, 0⟩ ⟨15, 13, 15, 14, 9, 0⟩) (pr ⟨15, 13, 15, 15, 9, 0⟩ ⟨15, 13, 15, 15, 9, 0⟩) (Fin.ext (k0_dev16_eq c)) ⟨rfl, rfl⟩ (by decide)) $$ HR Ht14
  iintro HR
  iapply (reg_ld (Reg_wi1 _ _ _) (wi B c 1 0) rfl) $$ HG
  iintro HG
  iapply (reg_ld (Reg_wo1 _ _ _) (wo B c 1 0) rfl) $$ HG
  iintro HG
  iapply (reg_ld (Reg_wi1 _ _ _) (wi B c 1 1) rfl) $$ HG
  iintro HG
  iapply (reg_ld (Reg_wo1 _ _ _) (wo B c 1 1) rfl) $$ HG
  iintro HG
  ihave HR := (step_pick false (pr ⟨15, 13, 15, 15, 9, 0⟩ ⟨15, 13, 15, 15, 9, 0⟩) (pr ⟨15, 13, 15, 15, 9, 10⟩ ⟨15, 13, 15, 15, 9, 0⟩) 9 ⟨rfl, rfl⟩ (by decide)) $$ HR
  icases HR with ⟨HR, Hf17⟩
  ihave HR := (step_pick true (pr ⟨15, 13, 15, 15, 9, 10⟩ ⟨15, 13, 15, 15, 9, 0⟩) (pr ⟨15, 13, 15, 15, 9, 10⟩ ⟨15, 13, 15, 15, 9, 10⟩) 9 ⟨rfl, rfl⟩ (by decide)) $$ HR
  icases HR with ⟨HR, Ht17⟩
  iapply (fill (B := B) false 17 (wi B c 1 0) (wo B c 1 0)) $$ Hf17
  iintro Hf17
  iapply (fill (B := B) true 17 (wi B c 1 1) (wo B c 1 1)) $$ Ht17
  iintro Ht17
  iapply (take false 3 (pr ⟨15, 13, 15, 15, 9, 10⟩ ⟨15, 13, 15, 15, 9, 10⟩) (pr ⟨15, 13, 15, 15, 12, 10⟩ ⟨15, 13, 15, 15, 9, 10⟩) ⟨rfl, rfl⟩ (by decide)) $$ HR
  iintro HR
  iapply (take true 3 (pr ⟨15, 13, 15, 15, 12, 10⟩ ⟨15, 13, 15, 15, 9, 10⟩) (pr ⟨15, 13, 15, 15, 12, 10⟩ ⟨15, 13, 15, 15, 12, 10⟩) ⟨rfl, rfl⟩ (by decide)) $$ HR
  iintro HR
  iapply Hk
  isplitl [HR]; · iexact HR
  isplitl [HG]; · iexact HG
  isplitl [Hf17]; · iexact Hf17
  iexact Ht17

theorem part14 {α : Type} {Q : α → sProp 𝕄}
    (kk : (FVec F S1x256x256 .bf16) → Prog (TpuEff nD τ sig (Elt F) Λ₀ .tc) α) (v5 : BitVec 32) :
    iprop(Run B K ι c (pr ⟨15, 13, 15, 15, 12, 10⟩ ⟨15, 13, 15, 15, 12, 10⟩)
        ∗ hold B c false 17
        ∗ hold B c true 17)
      ⊢ iprop(((Run B K ι c (pr ⟨16, 13, 15, 15, 12, 11⟩ ⟨16, 13, 15, 15, 12, 11⟩)
        ∗ out B c false 15
        ∗ out B c true 15
        ∗ hold B c false 18
        ∗ halfway c true 18 (wi B c 1 0)) -∗ run c (kk (k0_pay39 (wo B c 1 0))) Q)
        -∗ run c (on (k0_part14 (F := F)) c v5 (wi B c 1 0) (wo B c 1 0) (wi B c 1 1) (wo B c 1 1) >>= kk) Q) := by
  rw [k0_part14_eq_skeleton]
  unfold k0_part14_skel
  simp only [on, semSignalWord, semWaitWord, Prog.lift, Prog.bind_op, Prog.bind_ret, Prog.pure_eq_ret, Prog.bind_assoc]
  iintro ⟨HR, Hf17, Ht17⟩ Hk
  iapply (send false 17 (pr ⟨15, 13, 15, 15, 12, 10⟩ ⟨15, 13, 15, 15, 12, 10⟩) (pr ⟨16, 13, 15, 15, 12, 10⟩ ⟨15, 13, 15, 15, 12, 10⟩) (Fin.ext (k0_dev17_eq c)) ⟨rfl, rfl⟩ (by decide)) $$ HR Hf17
  iintro ⟨HR, Hf17⟩
  iapply (send true 17 (pr ⟨16, 13, 15, 15, 12, 10⟩ ⟨15, 13, 15, 15, 12, 10⟩) (pr ⟨16, 13, 15, 15, 12, 10⟩ ⟨16, 13, 15, 15, 12, 10⟩) (Fin.ext (k0_dev18_eq c)) ⟨rfl, rfl⟩ (by decide)) $$ HR Ht17
  iintro ⟨HR, Ht17⟩
  ihave HR := (step_pick false (pr ⟨16, 13, 15, 15, 12, 10⟩ ⟨16, 13, 15, 15, 12, 10⟩) (pr ⟨16, 13, 15, 15, 12, 11⟩ ⟨16, 13, 15, 15, 12, 10⟩) 10 ⟨rfl, rfl⟩ (by decide)) $$ HR
  icases HR with ⟨HR, Hf18⟩
  ihave HR := (step_pick true (pr ⟨16, 13, 15, 15, 12, 11⟩ ⟨16, 13, 15, 15, 12, 10⟩) (pr ⟨16, 13, 15, 15, 12, 11⟩ ⟨16, 13, 15, 15, 12, 11⟩) 10 ⟨rfl, rfl⟩ (by decide)) $$ HR
  icases HR with ⟨HR, Ht18⟩
  iapply (fill (B := B) false 18 (wi B c 1 1) (wo B c 1 1)) $$ Hf18
  iintro Hf18
  ihave Ht18 := (free_slotAt true 18) $$ Ht18
  icases Ht18 with ⟨%Y, Ht18⟩
  iapply (ld_half true 18 0 (by omega) rfl rfl) $$ Ht18
  iintro %_ Ht18
  iapply (st_half true 18 0 (by omega) rfl rfl (wi B c 1 0) rfl) $$ Ht18
  iintro Ht18
  iapply (ld_half true 18 256 (by omega) rfl rfl) $$ Ht18
  iintro %_ Ht18
  ihave Ht18 := (half_intro (c := c)) $$ Ht18
  iapply Hk
  isplitl [HR]; · iexact HR
  isplitl [Hf17]; · iexact Hf17
  isplitl [Ht17]; · iexact Ht17
  isplitl [Hf18]; · iexact Hf18
  iexact Ht18

theorem part15 {α : Type} {Q : α → sProp 𝕄}
    (kk : PUnit → Prog (TpuEff nD τ sig (Elt F) Λ₀ .tc) α) (v5 : BitVec 32) (v7 : BitVec 32) :
    iprop(Run B K ι c (pr ⟨16, 13, 15, 15, 12, 11⟩ ⟨16, 13, 15, 15, 12, 11⟩)
        ∗ halfway c true 18 (wi B c 1 0)
        ∗ hold B c false 18)
      ⊢ iprop(((Run B K ι c (pr ⟨17, 13, 15, 15, 13, 11⟩ ⟨17, 13, 15, 15, 13, 11⟩)
        ∗ out B c true 16
        ∗ out B c false 16) -∗ run c (kk ⟨⟩) Q)
        -∗ run c (on (k0_part15 (F := F)) c v5 v7 (k0_pay39 (wo B c 1 0)) >>= kk) Q) := by
  rw [k0_part15_eq_skeleton]
  unfold k0_part15_skel
  simp only [on, semSignalWord, semWaitWord, Prog.lift, Prog.bind_op, Prog.bind_ret, Prog.pure_eq_ret, Prog.bind_assoc]
  iintro ⟨HR, Ht18, Hf18⟩ Hk
  unfold halfway
  icases Ht18 with ⟨%Y, Ht18⟩
  iapply (st_half true 18 256 (by omega) rfl rfl (wo B c 1 0) rfl) $$ Ht18
  iintro Ht18
  ihave Ht18 := (hold_of_halves (B := B) (c := c) true 18 (wi B c 1 0) (wo B c 1 0) Y rfl) $$ Ht18
  iapply (take false 1 (pr ⟨16, 13, 15, 15, 12, 11⟩ ⟨16, 13, 15, 15, 12, 11⟩) (pr ⟨16, 13, 15, 15, 13, 11⟩ ⟨16, 13, 15, 15, 12, 11⟩) ⟨rfl, rfl⟩ (by decide)) $$ HR
  iintro HR
  iapply (take true 1 (pr ⟨16, 13, 15, 15, 13, 11⟩ ⟨16, 13, 15, 15, 12, 11⟩) (pr ⟨16, 13, 15, 15, 13, 11⟩ ⟨16, 13, 15, 15, 13, 11⟩) ⟨rfl, rfl⟩ (by decide)) $$ HR
  iintro HR
  iapply (send false 18 (pr ⟨16, 13, 15, 15, 13, 11⟩ ⟨16, 13, 15, 15, 13, 11⟩) (pr ⟨17, 13, 15, 15, 13, 11⟩ ⟨16, 13, 15, 15, 13, 11⟩) (Fin.ext (k0_dev19_eq c)) ⟨rfl, rfl⟩ (by decide)) $$ HR Hf18
  iintro ⟨HR, Hf18⟩
  iapply (send true 18 (pr ⟨17, 13, 15, 15, 13, 11⟩ ⟨16, 13, 15, 15, 13, 11⟩) (pr ⟨17, 13, 15, 15, 13, 11⟩ ⟨17, 13, 15, 15, 13, 11⟩) (Fin.ext (k0_dev20_eq c)) ⟨rfl, rfl⟩ (by decide)) $$ HR Ht18
  iintro ⟨HR, Ht18⟩
  iapply Hk
  isplitl [HR]; · iexact HR
  isplitl [Ht18]; · iexact Ht18
  iexact Hf18

theorem part16 {α : Type} {Q : α → sProp 𝕄} {X : Vec F S512x256 .bf16} {A O : Vec F S512x256 .f32}
    (kk : (Σ' (_ : FVec F S512x256 .f32) (_ : FVec F S256x256 .bf16) (_ : FVec F S256x256 .bf16) (_ : Vec F S512x256 .bf16), FVec F S512x256 .f32) → Prog (TpuEff nD τ sig (Elt F) Λ₀ .tc) α) (v7 : BitVec 32) :
    iprop(Run B K ι c (pr ⟨17, 13, 15, 15, 13, 11⟩ ⟨17, 13, 15, 15, 13, 11⟩)
        ∗ Reg B c X A O)
      ⊢ iprop(((Run B K ι c (pr ⟨17, 14, 15, 15, 13, 11⟩ ⟨17, 14, 15, 15, 13, 11⟩)
        ∗ Reg B c X A O
        ∗ hold B c false 15
        ∗ hold B c true 15) -∗ run c (kk ⟨k0_pay1 A (lift (piece B false c 15)) X, k0_pay3 (lift (piece B true c 15)), k0_pay4 (lift (piece B true c 15)), X, constant S512x256 .f32 0x00000000#32⟩) Q)
        -∗ run c (on (k0_part16 (F := F)) v7 >>= kk) Q) := by
  rw [k0_part16_eq_skeleton]
  unfold k0_part16_skel
  simp only [on, semSignalWord, semWaitWord, Prog.lift, Prog.bind_op, Prog.bind_ret, Prog.pure_eq_ret, Prog.bind_assoc]
  iintro ⟨HR, HG⟩ Hk
  iapply (recv false 15 (pr ⟨17, 13, 15, 15, 13, 11⟩ ⟨17, 13, 15, 15, 13, 11⟩) (pr ⟨17, 14, 15, 15, 13, 11⟩ ⟨17, 13, 15, 15, 13, 11⟩) ⟨rfl, rfl⟩ (by decide)) $$ HR
  iintro ⟨HR, Hf15⟩
  iapply (recv true 15 (pr ⟨17, 14, 15, 15, 13, 11⟩ ⟨17, 13, 15, 15, 13, 11⟩) (pr ⟨17, 14, 15, 15, 13, 11⟩ ⟨17, 14, 15, 15, 13, 11⟩) ⟨rfl, rfl⟩ (by decide)) $$ HR
  iintro ⟨HR, Ht15⟩
  iapply (ld_acc X A O) $$ HG
  iintro HG
  iapply (ld_slot false 15 rfl rfl) $$ Hf15
  iintro Hf15
  iapply (ld_xb X A O) $$ HG
  iintro HG
  iapply (ld_slot true 15 rfl rfl) $$ Ht15
  iintro Ht15
  iapply (ld_xb X A O) $$ HG
  iintro HG
  iapply Hk
  isplitl [HR]; · iexact HR
  isplitl [HG]; · iexact HG
  isplitl [Hf15]; · iexact Hf15
  iexact Ht15

theorem part17 {α : Type} {Q : α → sProp 𝕄} {X : Vec F S512x256 .bf16} {A O : Vec F S512x256 .f32}
    (kk : PUnit → Prog (TpuEff nD τ sig (Elt F) Λ₀ .tc) α) (v5 : BitVec 32) (v7 : BitVec 32) :
    iprop(Run B K ι c (pr ⟨17, 14, 15, 15, 13, 11⟩ ⟨17, 14, 15, 15, 13, 11⟩)
        ∗ Reg B c X A O
        ∗ hold B c false 15
        ∗ hold B c true 15)
      ⊢ iprop(((Run B K ι c (pr ⟨17, 15, 15, 16, 13, 11⟩ ⟨17, 14, 15, 16, 13, 11⟩)
        ∗ Reg B c X (stp X A (piece B false c 15) (piece B true c 15)) O
        ∗ hold B c false 16) -∗ run c (kk ⟨⟩) Q)
        -∗ run c (on (k0_part17 (F := F)) c v5 v7 (k0_pay1 A (lift (piece B false c 15)) X) (k0_pay3 (lift (piece B true c 15))) (k0_pay4 (lift (piece B true c 15))) X (constant S512x256 .f32 0x00000000#32) >>= kk) Q) := by
  rw [k0_part17_eq_skeleton]
  unfold k0_part17_skel
  simp only [on, semSignalWord, semWaitWord, Prog.lift, Prog.bind_op, Prog.bind_ret, Prog.pure_eq_ret, Prog.bind_assoc]
  iintro ⟨HR, HG, Hf15, Ht15⟩ Hk
  iapply (ld_acc X A O) $$ HG
  iintro HG
  iapply (st_acc X A O (stp X A (piece B false c 15) (piece B true c 15)) rfl) $$ HG
  iintro HG
  iapply (give false 15 (pr ⟨17, 14, 15, 15, 13, 11⟩ ⟨17, 14, 15, 15, 13, 11⟩) (pr ⟨17, 14, 15, 16, 13, 11⟩ ⟨17, 14, 15, 15, 13, 11⟩) (Fin.ext (k0_dev21_eq c)) ⟨rfl, rfl⟩ (by decide)) $$ HR Hf15
  iintro HR
  iapply (give true 15 (pr ⟨17, 14, 15, 16, 13, 11⟩ ⟨17, 14, 15, 15, 13, 11⟩) (pr ⟨17, 14, 15, 16, 13, 11⟩ ⟨17, 14, 15, 16, 13, 11⟩) (Fin.ext (k0_dev22_eq c)) ⟨rfl, rfl⟩ (by decide)) $$ HR Ht15
  iintro HR
  iapply (recv false 16 (pr ⟨17, 14, 15, 16, 13, 11⟩ ⟨17, 14, 15, 16, 13, 11⟩) (pr ⟨17, 15, 15, 16, 13, 11⟩ ⟨17, 14, 15, 16, 13, 11⟩) ⟨rfl, rfl⟩ (by decide)) $$ HR
  iintro ⟨HR, Hf16⟩
  iapply Hk
  isplitl [HR]; · iexact HR
  isplitl [HG]; · iexact HG
  iexact Hf16

theorem part18 {α : Type} {Q : α → sProp 𝕄} {X : Vec F S512x256 .bf16} {A O : Vec F S512x256 .f32}
    (kk : (BitVec 32) → Prog (TpuEff nD τ sig (Elt F) Λ₀ .tc) α) (v5 : BitVec 32) (v7 : BitVec 32) :
    iprop(Run B K ι c (pr ⟨17, 15, 15, 16, 13, 11⟩ ⟨17, 14, 15, 16, 13, 11⟩)
        ∗ Reg B c X A O
        ∗ hold B c false 16)
      ⊢ iprop((∀ x, iprop(Run B K ι c (pr ⟨17, 15, 15, 17, 13, 11⟩ ⟨17, 15, 15, 16, 13, 11⟩)
        ∗ Reg B c X (stp X A (piece B false c 16) (piece B true c 16)) O
        ∗ hold B c true 16) -∗ run c (kk x) Q)
        -∗ run c (on (k0_part18 (F := F)) c v5 v7 >>= kk) Q) := by
  rw [k0_part18_eq_skeleton]
  unfold k0_part18_skel
  simp only [on, semSignalWord, semWaitWord, Prog.lift, Prog.bind_op, Prog.bind_ret, Prog.pure_eq_ret, Prog.bind_assoc]
  iintro ⟨HR, HG, Hf16⟩ Hk
  iapply (recv true 16 (pr ⟨17, 15, 15, 16, 13, 11⟩ ⟨17, 14, 15, 16, 13, 11⟩) (pr ⟨17, 15, 15, 16, 13, 11⟩ ⟨17, 15, 15, 16, 13, 11⟩) ⟨rfl, rfl⟩ (by decide)) $$ HR
  iintro ⟨HR, Ht16⟩
  iapply (ld_acc X A O) $$ HG
  iintro HG
  iapply (ld_slot false 16 rfl rfl) $$ Hf16
  iintro Hf16
  iapply (ld_xb X A O) $$ HG
  iintro HG
  iapply (ld_slot true 16 rfl rfl) $$ Ht16
  iintro Ht16
  iapply (ld_xb X A O) $$ HG
  iintro HG
  iapply (ld_acc X A O) $$ HG
  iintro HG
  iapply (st_acc X A O (stp X A (piece B false c 16) (piece B true c 16)) rfl) $$ HG
  iintro HG
  iapply (give false 16 (pr ⟨17, 15, 15, 16, 13, 11⟩ ⟨17, 15, 15, 16, 13, 11⟩) (pr ⟨17, 15, 15, 17, 13, 11⟩ ⟨17, 15, 15, 16, 13, 11⟩) (Fin.ext (k0_dev23_eq c)) ⟨rfl, rfl⟩ (by decide)) $$ HR Hf16
  iintro HR
  iapply Hk
  isplitl [HR]; · iexact HR
  isplitl [HG]; · iexact HG
  iexact Ht16

theorem part19 {α : Type} {Q : α → sProp 𝕄} {X : Vec F S512x256 .bf16} {A O : Vec F S512x256 .f32}
    (kk : PUnit → Prog (TpuEff nD τ sig (Elt F) Λ₀ .tc) α) (v314 : BitVec 32) :
    iprop(Run B K ι c (pr ⟨17, 15, 15, 17, 13, 11⟩ ⟨17, 15, 15, 16, 13, 11⟩)
        ∗ Reg B c X A O
        ∗ hold B c true 16
        ∗ out B c false 15)
      ⊢ iprop(((Run B K ι c (pr ⟨17, 15, 16, 17, 13, 11⟩ ⟨17, 15, 15, 17, 13, 11⟩)
        ∗ Reg B c (nextX A) (own (nextX A) (B.wi 1 c) (B.wo 1 c)) O
        ∗ hold B c false 17) -∗ run c (kk ⟨⟩) Q)
        -∗ run c (on (k0_part19 (F := F)) c v314 >>= kk) Q) := by
  rw [k0_part19_eq_skeleton]
  unfold k0_part19_skel
  simp only [on, semSignalWord, semWaitWord, Prog.lift, Prog.bind_op, Prog.bind_ret, Prog.pure_eq_ret, Prog.bind_assoc]
  iintro ⟨HR, HG, Ht16, Hf17⟩ Hk
  iapply (give true 16 (pr ⟨17, 15, 15, 17, 13, 11⟩ ⟨17, 15, 15, 16, 13, 11⟩) (pr ⟨17, 15, 15, 17, 13, 11⟩ ⟨17, 15, 15, 17, 13, 11⟩) (Fin.ext (k0_dev24_eq c)) ⟨rfl, rfl⟩ (by decide)) $$ HR Ht16
  iintro HR
  iapply (ld_acc X A O) $$ HG
  iintro HG
  iapply (ld_xb X A O) $$ HG
  iintro HG
  iapply (st_xb X A O (nextX A) rfl) $$ HG
  iintro HG
  iapply (reg_ld (Reg_wi1 _ _ _) (B.wi 1 c) (View.ld_unit_zero z2 _ _)) $$ HG
  iintro HG
  iapply (reg_ld (Reg_wo1 _ _ _) (B.wo 1 c) (View.ld_unit_zero z2 _ _)) $$ HG
  iintro HG
  iapply (ld_xb (nextX A) A O) $$ HG
  iintro HG
  iapply (ld_acc (nextX A) A O) $$ HG
  iintro HG
  iapply (st_acc (nextX A) A O (own (nextX A) (B.wi 1 c) (B.wo 1 c)) rfl) $$ HG
  iintro HG
  iapply (sent false 17 15 (pr ⟨17, 15, 15, 17, 13, 11⟩ ⟨17, 15, 15, 17, 13, 11⟩) (pr ⟨17, 15, 16, 17, 13, 11⟩ ⟨17, 15, 15, 17, 13, 11⟩) ⟨rfl, rfl⟩ (by decide)) $$ HR Hf17
  iintro ⟨HR, Hf17⟩
  iapply Hk
  isplitl [HR]; · iexact HR
  isplitl [HG]; · iexact HG
  iexact Hf17

theorem part20 {α : Type} {Q : α → sProp 𝕄}
    (kk : PUnit → Prog (TpuEff nD τ sig (Elt F) Λ₀ .tc) α) (v5 : BitVec 32) (v7 : BitVec 32) :
    iprop(Run B K ι c (pr ⟨17, 15, 16, 17, 13, 11⟩ ⟨17, 15, 15, 17, 13, 11⟩)
        ∗ out B c true 15
        ∗ out B c false 16
        ∗ out B c true 16
        ∗ hold B c false 17)
      ⊢ iprop(((Run B K ι c (pr ⟨17, 15, 17, 19, 13, 11⟩ ⟨17, 15, 17, 18, 13, 11⟩)
        ∗ hold B c true 18) -∗ run c (kk ⟨⟩) Q)
        -∗ run c (on (k0_part20 (F := F)) c v5 v7 >>= kk) Q) := by
  rw [k0_part20_eq_skeleton]
  unfold k0_part20_skel
  simp only [on, semSignalWord, semWaitWord, Prog.lift, Prog.bind_op, Prog.bind_ret, Prog.pure_eq_ret, Prog.bind_assoc]
  iintro ⟨HR, Ht17, Hf18, Ht18, Hf17⟩ Hk
  iapply (sent true 17 15 (pr ⟨17, 15, 16, 17, 13, 11⟩ ⟨17, 15, 15, 17, 13, 11⟩) (pr ⟨17, 15, 16, 17, 13, 11⟩ ⟨17, 15, 16, 17, 13, 11⟩) ⟨rfl, rfl⟩ (by decide)) $$ HR Ht17
  iintro ⟨HR, Ht17⟩
  iapply (sent false 18 16 (pr ⟨17, 15, 16, 17, 13, 11⟩ ⟨17, 15, 16, 17, 13, 11⟩) (pr ⟨17, 15, 17, 17, 13, 11⟩ ⟨17, 15, 16, 17, 13, 11⟩) ⟨rfl, rfl⟩ (by decide)) $$ HR Hf18
  iintro ⟨HR, Hf18⟩
  iapply (sent true 18 16 (pr ⟨17, 15, 17, 17, 13, 11⟩ ⟨17, 15, 16, 17, 13, 11⟩) (pr ⟨17, 15, 17, 17, 13, 11⟩ ⟨17, 15, 17, 17, 13, 11⟩) ⟨rfl, rfl⟩ (by decide)) $$ HR Ht18
  iintro ⟨HR, Ht18⟩
  iapply (give false 17 (pr ⟨17, 15, 17, 17, 13, 11⟩ ⟨17, 15, 17, 17, 13, 11⟩) (pr ⟨17, 15, 17, 18, 13, 11⟩ ⟨17, 15, 17, 17, 13, 11⟩) (Fin.ext (k0_dev25_eq c)) ⟨rfl, rfl⟩ (by decide)) $$ HR Hf17
  iintro HR
  iapply (give true 17 (pr ⟨17, 15, 17, 18, 13, 11⟩ ⟨17, 15, 17, 17, 13, 11⟩) (pr ⟨17, 15, 17, 18, 13, 11⟩ ⟨17, 15, 17, 18, 13, 11⟩) (Fin.ext (k0_dev26_eq c)) ⟨rfl, rfl⟩ (by decide)) $$ HR Ht17
  iintro HR
  iapply (give false 18 (pr ⟨17, 15, 17, 18, 13, 11⟩ ⟨17, 15, 17, 18, 13, 11⟩) (pr ⟨17, 15, 17, 19, 13, 11⟩ ⟨17, 15, 17, 18, 13, 11⟩) (Fin.ext (k0_dev27_eq c)) ⟨rfl, rfl⟩ (by decide)) $$ HR Hf18
  iintro HR
  iapply Hk
  isplitl [HR]; · iexact HR
  iexact Ht18

theorem part21 {α : Type} {Q : α → sProp 𝕄} {X : Vec F S512x256 .bf16} {O : Vec F S512x256 .f32}
    (kk : (FVec F S256x256 .bf16) → Prog (TpuEff nD τ sig (Elt F) Λ₀ .tc) α) (v5 : BitVec 32) (v7 : BitVec 32) :
    iprop(Run B K ι c (pr ⟨17, 15, 17, 19, 13, 11⟩ ⟨17, 15, 17, 18, 13, 11⟩)
        ∗ Reg B c X (accV B c 1 X 0) O
        ∗ hold B c true 18)
      ⊢ iprop(((Run B K ι c (pr ⟨30, 28, 30, 32, 26, 11⟩ ⟨30, 28, 30, 32, 26, 11⟩)
        ∗ Reg B c X (accV B c 1 X 13) O) -∗ run c (kk (wi B c 2 0)) Q)
        -∗ run c (on (k0_part21 (F := F)) c v5 v7 >>= kk) Q) := by
  rw [k0_part21_eq_skeleton]
  unfold k0_part21_skel
  simp only [on, semSignalWord, semWaitWord, Prog.lift, Prog.bind_op, Prog.bind_ret, Prog.pure_eq_ret, Prog.bind_assoc, pay49_eq]
  iintro ⟨HR, HG, Ht18⟩ Hk
  iapply (give true 18 (pr ⟨17, 15, 17, 19, 13, 11⟩ ⟨17, 15, 17, 18, 13, 11⟩) (pr ⟨17, 15, 17, 19, 13, 11⟩ ⟨17, 15, 17, 19, 13, 11⟩) (Fin.ext (k0_dev28_eq c)) ⟨rfl, rfl⟩ (by decide)) $$ HR Ht18
  iintro HR
  iapply (loop2 v5 v7) $$ [HR HG]
  · isplitl [HR] <;> iassumption
  iintro ⟨HR, HG, Hf31, Ht31⟩
  iapply (sent false 31 29 (pr ⟨30, 28, 29, 31, 26, 11⟩ ⟨30, 28, 29, 31, 26, 11⟩) (pr ⟨30, 28, 30, 31, 26, 11⟩ ⟨30, 28, 29, 31, 26, 11⟩) ⟨rfl, rfl⟩ (by decide)) $$ HR Hf31
  iintro ⟨HR, Hf31⟩
  iapply (sent true 31 29 (pr ⟨30, 28, 30, 31, 26, 11⟩ ⟨30, 28, 29, 31, 26, 11⟩) (pr ⟨30, 28, 30, 31, 26, 11⟩ ⟨30, 28, 30, 31, 26, 11⟩) ⟨rfl, rfl⟩ (by decide)) $$ HR Ht31
  iintro ⟨HR, Ht31⟩
  iapply (give false 31 (pr ⟨30, 28, 30, 31, 26, 11⟩ ⟨30, 28, 30, 31, 26, 11⟩) (pr ⟨30, 28, 30, 32, 26, 11⟩ ⟨30, 28, 30, 31, 26, 11⟩) (Fin.ext (k0_dev33_eq c)) ⟨rfl, rfl⟩ (by decide)) $$ HR Hf31
  iintro HR
  iapply (give true 31 (pr ⟨30, 28, 30, 32, 26, 11⟩ ⟨30, 28, 30, 31, 26, 11⟩) (pr ⟨30, 28, 30, 32, 26, 11⟩ ⟨30, 28, 30, 32, 26, 11⟩) (Fin.ext (k0_dev34_eq c)) ⟨rfl, rfl⟩ (by decide)) $$ HR Ht31
  iintro HR
  iapply (reg_ld (Reg_wi2 _ _ _) (wi B c 2 0) rfl) $$ HG
  iintro HG
  iapply Hk
  isplitl [HR]; · iexact HR
  iexact HG

end Cert.Mlp

end
-- ==== Proof.Loop3.lean ====
/-
# The ring steps of the third layer
-/
module

public import proofs.«01_k».proof.Proof.Loop1

@[expose] public section

set_option maxRecDepth 16384

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable {B : Blocks F} {K : Dev nD × Cid → ℕ} {ι : Key → ℕ} {c : Dev nD}

theorem cond7 : ∀ k : Fin k0_t3_loop.trips, k0_cond7 k = 1#1 ↔ 1 ≤ k.val := by decide +kernel
theorem cond8 : ∀ k : Fin k0_t3_loop.trips, k0_cond8 k = 1#1 ↔ 1 ≤ k.val ∧ k.val < 8 := by decide +kernel

theorem part5 {α : Type} {Q : α → sProp 𝕄} (kk : (Σ' (_ : BitVec 32), BitVec 32) → Prog (TpuEff nD τ sig (Elt F) Λ₀ .tc) α) (v5 v7 : BitVec 32)
    (k : Fin k0_t3_loop.trips) :
    iprop(Run B K ι c (pr ⟨k + 32, k + 30, 32 + (k - 1), 36 + (k - 1), k + 30, 28⟩ ⟨k + 32, k + 30, 32 + (k - 1), 36 + (k - 1), k + 30, 28⟩))
      ⊢ iprop((∀ x, Run B K ι c (pr ⟨k + 33, k + 31, 32 + (k - 1), 36 + (k - 1), k + 31, 28⟩ ⟨k + 32, k + 30, 32 + (k - 1), 36 + (k - 1), k + 31, 28⟩)
          -∗ out B c false (k + 32) -∗ run c (kk x) Q)
        -∗ run c (on (k0_part5 (F := F)) c v5 v7 2#32 1#32 k >>= kk) Q) := by
  have hk := Nat.lt_of_lt_of_le k.isLt k0_t3_abs.2.1
  rw [k0_part5_eq_skeleton]
  unfold k0_part5_skel
  simp only [on, semWaitWord, Prog.lift, Prog.bind_op, Prog.bind_ret, Prog.pure_eq_ret, Prog.bind_assoc]
  iintro HR Hk
  iapply (take false 1 (pr ⟨k + 32, k + 30, 32 + (k - 1), 36 + (k - 1), k + 30, 28⟩ ⟨k + 32, k + 30, 32 + (k - 1), 36 + (k - 1), k + 30, 28⟩)
    (pr ⟨k + 32, k + 30, 32 + (k - 1), 36 + (k - 1), k + 31, 28⟩ ⟨k + 32, k + 30, 32 + (k - 1), 36 + (k - 1), k + 30, 28⟩)
    ⟨rfl, rfl⟩ (by simp only [pr_f, pr_t, pr_nf, pr_nt, tt, Ctr.Over]; omega)) $$ HR
  iintro HR
  iapply (take true 1 (pr ⟨k + 32, k + 30, 32 + (k - 1), 36 + (k - 1), k + 31, 28⟩ ⟨k + 32, k + 30, 32 + (k - 1), 36 + (k - 1), k + 30, 28⟩)
    (pr ⟨k + 32, k + 30, 32 + (k - 1), 36 + (k - 1), k + 31, 28⟩ ⟨k + 32, k + 30, 32 + (k - 1), 36 + (k - 1), k + 31, 28⟩)
    ⟨rfl, rfl⟩ (by simp only [pr_f, pr_t, pr_nf, pr_nt, tt, Ctr.Over]; omega)) $$ HR
  iintro HR
  iapply (recv false (k + 36) (pr ⟨k + 32, k + 30, 32 + (k - 1), 36 + (k - 1), k + 31, 28⟩ ⟨k + 32, k + 30, 32 + (k - 1), 36 + (k - 1), k + 31, 28⟩)
    (pr ⟨k + 32, k + 31, 32 + (k - 1), 36 + (k - 1), k + 31, 28⟩ ⟨k + 32, k + 30, 32 + (k - 1), 36 + (k - 1), k + 31, 28⟩)
    ⟨rfl, rfl⟩ (by simp only [pr_f, pr_t, pr_nf, pr_nt, tt, Ctr.Over]; omega) (hp := k0_off15_eq k)) $$ HR
  iintro ⟨HR, Ht⟩
  iapply (send false (k + 36) (pr ⟨k + 32, k + 31, 32 + (k - 1), 36 + (k - 1), k + 31, 28⟩ ⟨k + 32, k + 30, 32 + (k - 1), 36 + (k - 1), k + 31, 28⟩)
    (pr ⟨k + 33, k + 31, 32 + (k - 1), 36 + (k - 1), k + 31, 28⟩ ⟨k + 32, k + 30, 32 + (k - 1), 36 + (k - 1), k + 31, 28⟩)
    (Fin.ext (k0_dev47_eq c)) ⟨rfl, rfl⟩ (by simp only [pr_f, pr_t, pr_nf, pr_nt, tt, Ctr.Over]; omega)
    (ho := k0_off16_eq k) (ho' := k0_off18_eq k) (hp := k0_off15_eq k) (hp' := k0_off17_eq k)) $$ HR Ht
  iintro ⟨HR, Ht⟩
  iapply Hk $$ [HR] [Ht] <;> iassumption

theorem part6 {α : Type} {Q : α → sProp 𝕄} {X : Vec F S512x256 .bf16} {A O : Vec F S512x256 .f32}
    (kk : (Σ' (_ : FVec F S512x256 .f32) (_ : FVec F S256x256 .bf16) (_ : FVec F S512x256 .bf16), FVec F S512x256 .f32) → Prog (TpuEff nD τ sig (Elt F) Λ₀ .tc) α)
    (v5 v697 : BitVec 32) (k : Fin k0_t3_loop.trips) :
    iprop(Run B K ι c (pr ⟨k + 33, k + 31, 32 + (k - 1), 36 + (k - 1), k + 31, 28⟩ ⟨k + 32, k + 30, 32 + (k - 1), 36 + (k - 1), k + 31, 28⟩)
        ∗ out B c false (k + 32) ∗ Reg B c X A O)
      ⊢ iprop(((Run B K ι c (pr ⟨k + 33, k + 31, 32 + (k - 1), 36 + (k - 1), k + 31, 28⟩ ⟨k + 33, k + 31, 32 + (k - 1), 36 + (k - 1), k + 31, 28⟩)
          ∗ out B c false (k + 32) ∗ out B c true (k + 32) ∗ Reg B c X A O)
          -∗ run c (kk ⟨k0_pay9 A (lift (piece B false c (k + 36))) X, k0_pay11 (lift (piece B true c (k + 36))),
              k0_pay12 (lift (piece B true c (k + 36))) X, constant S512x256 .f32 0x00000000#32⟩) Q)
        -∗ run c (on (k0_part6 (F := F)) c v5 k v697 >>= kk) Q) := by
  have hk := Nat.lt_of_lt_of_le k.isLt k0_t3_abs.2.1
  rw [k0_part6_eq_skeleton]
  unfold k0_part6_skel
  simp only [on, Prog.lift, Prog.bind_op, Prog.bind_ret, Prog.pure_eq_ret, Prog.bind_assoc]
  iintro ⟨HR, Ho, HG⟩ Hk
  iapply (recv true (k + 36) (pr ⟨k + 33, k + 31, 32 + (k - 1), 36 + (k - 1), k + 31, 28⟩ ⟨k + 32, k + 30, 32 + (k - 1), 36 + (k - 1), k + 31, 28⟩)
    (pr ⟨k + 33, k + 31, 32 + (k - 1), 36 + (k - 1), k + 31, 28⟩ ⟨k + 32, k + 31, 32 + (k - 1), 36 + (k - 1), k + 31, 28⟩)
    ⟨rfl, rfl⟩ (by simp only [pr_f, pr_t, pr_nf, pr_nt, tt, Ctr.Over]; omega) (hp := k0_off15_eq k)) $$ HR
  iintro ⟨HR, Ht⟩
  iapply (send true (k + 36) (pr ⟨k + 33, k + 31, 32 + (k - 1), 36 + (k - 1), k + 31, 28⟩ ⟨k + 32, k + 31, 32 + (k - 1), 36 + (k - 1), k + 31, 28⟩)
    (pr ⟨k + 33, k + 31, 32 + (k - 1), 36 + (k - 1), k + 31, 28⟩ ⟨k + 33, k + 31, 32 + (k - 1), 36 + (k - 1), k + 31, 28⟩)
    (Fin.ext (k0_dev48_eq c)) ⟨rfl, rfl⟩ (by simp only [pr_f, pr_t, pr_nf, pr_nt, tt, Ctr.Over]; omega)
    (ho := k0_off16_eq k) (ho' := k0_off18_eq k) (hp := k0_off15_eq k) (hp' := k0_off17_eq k)) $$ HR Ht
  iintro ⟨HR, Ht⟩
  iapply (ld_acc X A O) $$ HG
  iintro HG
  iapply (ld_fly (B := B) false (k + 32) (k + 36) (by unfold tt; omega) rfl (k0_off19_eq k)) $$ Ho
  iintro Ho
  iapply (ld_xb X A O) $$ HG
  iintro HG
  iapply (ld_fly (B := B) true (k + 32) (k + 36) (by unfold tt; omega) rfl (k0_off19_eq k)) $$ Ht
  iintro Ht
  iapply (ld_xb X A O) $$ HG
  iintro HG
  iapply Hk
  isplitl [HR]; · iexact HR
  isplitl [Ho]; · iexact Ho
  isplitl [Ht] <;> iassumption

/-- The counters of both directions when trip `k` of the third layer's loop begins. -/
abbrev ctr3 (k : ℕ) : Bool → Ctr :=
  pr ⟨k + 32, k + 30, 32 + (k - 1), 36 + (k - 1), k + 30, 28⟩ ⟨k + 32, k + 30, 32 + (k - 1), 36 + (k - 1), k + 30, 28⟩

set_option maxHeartbeats 1000000 in
/-- One ring step of the third layer, as in the first. -/
theorem body3 {X : Vec F S512x256 .bf16} {O : Vec F S512x256 .f32} (v5 v7 : BitVec 32) (k : Fin k0_t3_loop.trips) (u : Unit) :
    iprop(Run B K ι c (ctr3 k) ∗ Reg B c X (accV B c 2 X k) O ∗ back B c 32 k)
      ⊢ run c (on (k0_t3_body (F := F)) c v5 v7 k u)
          (fun _ => iprop(Run B K ι c (ctr3 (k.val + 1)) ∗ Reg B c X (accV B c 2 X (k.val + 1)) O ∗ back B c 32 (k.val + 1))) := by
  have hk := Nat.lt_of_lt_of_le k.isLt k0_t3_abs.2.1
  by_cases h1 : 1 ≤ k.val
  · rw [back_pos h1]
    by_cases h8 : k.val < 8
    · simp only [on, k0_t3_body, dif_pos ((cond7 k).2 h1), dif_pos ((cond8 k).2 ⟨h1, h8⟩)]
      iintro ⟨HR, HG, Hb, Hb'⟩
      iapply (part5 (B := B) _ v5 v7 k) $$ HR
      iintro %x HR Ho
      iapply (part6 (B := B) (X := X) (A := accV B c 2 X k) (O := O) _ v5 _ k) $$ [HR Ho HG]
      · isplitl [HR]; · iexact HR
        isplitl [Ho] <;> iassumption
      iintro ⟨HR, Ho, Ho', HG⟩
      simp only [semSignalWord, Prog.lift, Prog.bind_op, Prog.bind_ret, Prog.pure_eq_ret, Prog.bind_assoc]
      iapply (ld_acc X (accV B c 2 X k) O) $$ HG
      iintro HG
      iapply (st_acc X (accV B c 2 X k) O (accV B c 2 X (k.val + 1)) (by
        simp only [accV, show 17 * 2 + k.val + 2 = k + 36 by omega]; rfl)) $$ HG
      iintro HG
      ihave HR := (Run_eq (V' := pr ⟨k + 33, k + 31, k + 31, k + 35, k + 31, 28⟩ ⟨k + 33, k + 31, k + 31, k + 35, k + 31, 28⟩)
        (by rw [show 32 + (k.val - 1) = k + 31 by omega, show 36 + (k.val - 1) = k + 35 by omega])) $$ HR
      iapply (sent false (k + 35) (k - 1 + 32) (pr ⟨k + 33, k + 31, k + 31, k + 35, k + 31, 28⟩ ⟨k + 33, k + 31, k + 31, k + 35, k + 31, 28⟩)
        (pr ⟨k + 33, k + 31, k + 32, k + 35, k + 31, 28⟩ ⟨k + 33, k + 31, k + 31, k + 35, k + 31, 28⟩)
        ⟨rfl, rfl⟩ (by simp only [pr_f, tt, true_and]; omega) (hp := k0_off20_eq k)) $$ HR Hb
      iintro ⟨HR, Hb⟩
      iapply (sent true (k + 35) (k - 1 + 32) (pr ⟨k + 33, k + 31, k + 32, k + 35, k + 31, 28⟩ ⟨k + 33, k + 31, k + 31, k + 35, k + 31, 28⟩)
        (pr ⟨k + 33, k + 31, k + 32, k + 35, k + 31, 28⟩ ⟨k + 33, k + 31, k + 32, k + 35, k + 31, 28⟩)
        ⟨rfl, rfl⟩ (by simp only [pr_t, tt, true_and]; omega) (hp := k0_off20_eq k)) $$ HR Hb'
      iintro ⟨HR, Hb'⟩
      iapply (give false (k + 35) (pr ⟨k + 33, k + 31, k + 32, k + 35, k + 31, 28⟩ ⟨k + 33, k + 31, k + 32, k + 35, k + 31, 28⟩)
        (pr ⟨k + 33, k + 31, k + 32, k + 36, k + 31, 28⟩ ⟨k + 33, k + 31, k + 32, k + 35, k + 31, 28⟩)
        (Fin.ext (k0_dev49_eq c)) ⟨rfl, rfl⟩ (by simp only [pr_f, tt, true_and]; omega)) $$ HR Hb
      iintro HR
      iapply (give true (k + 35) (pr ⟨k + 33, k + 31, k + 32, k + 36, k + 31, 28⟩ ⟨k + 33, k + 31, k + 32, k + 35, k + 31, 28⟩)
        (pr ⟨k + 33, k + 31, k + 32, k + 36, k + 31, 28⟩ ⟨k + 33, k + 31, k + 32, k + 36, k + 31, 28⟩)
        (Fin.ext (k0_dev50_eq c)) ⟨rfl, rfl⟩ (by simp only [pr_t, tt, true_and]; omega)) $$ HR Hb'
      iintro HR
      iapply (run_ret)
      isplitl [HR]
      · iapply (Run_eq (V' := ctr3 (k.val + 1)) (by
          unfold ctr3; rw [show 32 + (k.val + 1 - 1) = k + 32 by omega, show 36 + (k.val + 1 - 1) = k + 36 by omega])) $$ HR
      isplitl [HG]; · iexact HG
      rw [back_succ]
      isplitl [Ho] <;> iassumption
    · simp only [on, k0_t3_body, dif_pos ((cond7 k).2 h1), dif_neg (fun h => h8 ((cond8 k).1 h).2)]
      iintro ⟨HR, HG, Hb, Hb'⟩
      iapply (part5 (B := B) _ v5 v7 k) $$ HR
      iintro %x HR Ho
      iapply (part6 (B := B) (X := X) (A := accV B c 2 X k) (O := O) _ v5 _ k) $$ [HR Ho HG]
      · isplitl [HR]; · iexact HR
        isplitl [Ho] <;> iassumption
      iintro ⟨HR, Ho, Ho', HG⟩
      simp only [semSignalWord, Prog.lift, Prog.bind_op, Prog.bind_ret, Prog.pure_eq_ret, Prog.bind_assoc]
      iapply (ld_acc X (accV B c 2 X k) O) $$ HG
      iintro HG
      iapply (st_acc X (accV B c 2 X k) O (accV B c 2 X (k.val + 1)) (by
        simp only [accV, show 17 * 2 + k.val + 2 = k + 36 by omega]; rfl)) $$ HG
      iintro HG
      ihave HR := (Run_eq (V' := pr ⟨k + 33, k + 31, k + 31, k + 35, k + 31, 28⟩ ⟨k + 33, k + 31, k + 31, k + 35, k + 31, 28⟩)
        (by rw [show 32 + (k.val - 1) = k + 31 by omega, show 36 + (k.val - 1) = k + 35 by omega])) $$ HR
      iapply (sent false (k + 35) (k - 1 + 32) (pr ⟨k + 33, k + 31, k + 31, k + 35, k + 31, 28⟩ ⟨k + 33, k + 31, k + 31, k + 35, k + 31, 28⟩)
        (pr ⟨k + 33, k + 31, k + 32, k + 35, k + 31, 28⟩ ⟨k + 33, k + 31, k + 31, k + 35, k + 31, 28⟩)
        ⟨rfl, rfl⟩ (by simp only [pr_f, tt, true_and]; omega) (hp := k0_off20_eq k)) $$ HR Hb
      iintro ⟨HR, Hb⟩
      iapply (sent true (k + 35) (k - 1 + 32) (pr ⟨k + 33, k + 31, k + 32, k + 35, k + 31, 28⟩ ⟨k + 33, k + 31, k + 31, k + 35, k + 31, 28⟩)
        (pr ⟨k + 33, k + 31, k + 32, k + 35, k + 31, 28⟩ ⟨k + 33, k + 31, k + 32, k + 35, k + 31, 28⟩)
        ⟨rfl, rfl⟩ (by simp only [pr_t, tt, true_and]; omega) (hp := k0_off20_eq k)) $$ HR Hb'
      iintro ⟨HR, Hb'⟩
      ihave HR := (step_retire false (pr ⟨k + 33, k + 31, k + 32, k + 35, k + 31, 28⟩ ⟨k + 33, k + 31, k + 32, k + 35, k + 31, 28⟩)
        (pr ⟨k + 33, k + 31, k + 32, k + 36, k + 31, 28⟩ ⟨k + 33, k + 31, k + 32, k + 35, k + 31, 28⟩)
        ⟨rfl, rfl⟩ (k + 35) rfl (by simp only [pr_f]; omega)) $$ [HR Hb]
      · isplitl [HR]; · iexact HR
        iapply (slotAt_free) $$ Hb
      ihave HR := (step_retire true (pr ⟨k + 33, k + 31, k + 32, k + 36, k + 31, 28⟩ ⟨k + 33, k + 31, k + 32, k + 35, k + 31, 28⟩)
        (pr ⟨k + 33, k + 31, k + 32, k + 36, k + 31, 28⟩ ⟨k + 33, k + 31, k + 32, k + 36, k + 31, 28⟩)
        ⟨rfl, rfl⟩ (k + 35) rfl (by simp only [pr_t]; omega)) $$ [HR Hb']
      · isplitl [HR]; · iexact HR
        iapply (slotAt_free) $$ Hb'
      iapply (run_ret)
      isplitl [HR]
      · iapply (Run_eq (V' := ctr3 (k.val + 1)) (by
          unfold ctr3; rw [show 32 + (k.val + 1 - 1) = k + 32 by omega, show 36 + (k.val + 1 - 1) = k + 36 by omega])) $$ HR
      isplitl [HG]; · iexact HG
      rw [back_succ]
      isplitl [Ho] <;> iassumption
  · rw [back_zero h1]
    simp only [on, k0_t3_body, dif_neg (mt (cond7 k).1 h1), dif_neg (fun h => h1 ((cond8 k).1 h).1)]
    iintro ⟨HR, HG, -⟩
    iapply (part5 (B := B) _ v5 v7 k) $$ HR
    iintro %x HR Ho
    iapply (part6 (B := B) (X := X) (A := accV B c 2 X k) (O := O) _ v5 _ k) $$ [HR Ho HG]
    · isplitl [HR]; · iexact HR
      isplitl [Ho] <;> iassumption
    iintro ⟨HR, Ho, Ho', HG⟩
    simp only [semSignalWord, Prog.lift, Prog.bind_op, Prog.bind_ret, Prog.pure_eq_ret, Prog.bind_assoc]
    iapply (ld_acc X (accV B c 2 X k) O) $$ HG
    iintro HG
    iapply (st_acc X (accV B c 2 X k) O (accV B c 2 X (k.val + 1)) (by
      simp only [accV, show 17 * 2 + k.val + 2 = k + 36 by omega]; rfl)) $$ HG
    iintro HG
    iapply (run_ret)
    isplitl [HR]
    · iapply (Run_eq (V' := ctr3 (k.val + 1)) (by
        unfold ctr3; rw [show 32 + (k.val - 1) = 32 + (k.val + 1 - 1) by omega, show 36 + (k.val - 1) = 36 + (k.val + 1 - 1) by omega])) $$ HR
    isplitl [HG]; · iexact HG
    rw [back_succ]
    isplitl [Ho] <;> iassumption

/-- All thirteen ring steps of the layer. -/
theorem loop3 {X : Vec F S512x256 .bf16} {O : Vec F S512x256 .f32} (v5 v7 : BitVec 32) {α : Type} {Q : α → sProp 𝕄}
    {kk : PUnit → Prog (TpuEff nD τ sig (Elt F) Λ₀ .tc) α} :
    iprop(Run B K ι c (pr ⟨32, 30, 32, 36, 30, 28⟩ ⟨32, 30, 32, 36, 30, 28⟩) ∗ Reg B c X (accV B c 2 X 0) O)
      ⊢ iprop(((Run B K ι c (pr ⟨45, 43, 44, 48, 43, 28⟩ ⟨45, 43, 44, 48, 43, 28⟩) ∗ Reg B c X (accV B c 2 X 13) O
            ∗ out B c false 44 ∗ out B c true 44) -∗ run c (kk ⟨⟩) Q)
        -∗ run c (Scf.Loop.for k0_t3_loop k0_t3_ok ⟨⟩ (on (k0_t3_body (F := F)) c v5 v7) >>= kk) Q) := by
  have e : k0_t3_loop.trips = 13 := by decide +kernel
  have hl := Scf.wp_for_bind frame (wpE (defs₀ (F := F)) 𝒱₀ (c : Thread nD τ) none) Set.univ _ _ _ k0_t3_ok ⟨⟩
    (on (k0_t3_body (F := F)) c v5 v7) (fun k _ => iprop(Run B K ι c (ctr3 k) ∗ Reg B c X (accV B c 2 X k) O ∗ back B c 32 k))
    (fun k u => body3 v5 v7 k u) (kk := kk) (Q := Q)
  iintro ⟨HR, HG⟩ Hk
  iapply hl $$ [HR HG]
  · isplitl [HR]; · iexact HR
    isplitl [HG]; · iexact HG
    rw [back_zero (by decide)]
    itrivial
  iintro %_ H
  ihave H := (at_eq (P := fun k => iprop(Run B K ι c (ctr3 k) ∗ Reg B c X (accV B c 2 X k) O ∗ back B c 32 k)) e) $$ H
  icases H with ⟨HR, HG, Hb⟩
  iapply Hk
  isplitl [HR]; · iexact HR
  isplitl [HG]; · iexact HG
  iapply (Entails.of_eq (back_succ (B := B) (c := c) 32 12)) $$ Hb

end Cert.Mlp

end
-- ==== Proof.Parts3.lean ====
/-
# From the second layer's ring steps to the end

The same for the third layer; after its loop nothing is sent any more and the slots are kept.
-/
module

public import proofs.«01_k».proof.Proof.Parts2
public import proofs.«01_k».proof.Proof.Loop3

@[expose] public section

set_option maxRecDepth 16384
set_option maxHeartbeats 1000000

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable {B : Blocks F} {K : Dev nD × Cid → ℕ} {ι : Key → ℕ} {c : Dev nD}

theorem pay50_eq (v : Vec F S256x256 .bf16) : k0_pay50 (F := F) v = v := shapeCast_self _ _
theorem pay51_eq (v : Vec F S256x256 .bf16) : k0_pay51 (F := F) v = v := shapeCast_self _ _
theorem pay52_eq (v : Vec F S256x256 .bf16) : k0_pay52 (F := F) v = v := shapeCast_self _ _
theorem pay54_eq (v : Vec F S256x256 .bf16) : k0_pay54 (F := F) v = shapeCast S1x256x256 v shapeCasts_S256x256_S1x256x256 :=
  congrArg (fun u => shapeCast S1x256x256 u shapeCasts_S256x256_S1x256x256) (pay50_eq v)
theorem pay55_eq (v : Vec F S256x256 .bf16) : k0_pay55 (F := F) v = shapeCast S1x256x256 v shapeCasts_S256x256_S1x256x256 :=
  congrArg (fun u => shapeCast S1x256x256 u shapeCasts_S256x256_S1x256x256) (pay51_eq v)
theorem pay56_eq (v : Vec F S256x256 .bf16) : k0_pay56 (F := F) v = shapeCast S1x256x256 v shapeCasts_S256x256_S1x256x256 :=
  congrArg (fun u => shapeCast S1x256x256 u shapeCasts_S256x256_S1x256x256) (pay52_eq v)

theorem part22 {α : Type} {Q : α → sProp 𝕄} {X : Vec F S512x256 .bf16} {A O : Vec F S512x256 .f32}
    (kk : (Σ' (_ : FVec F S256x256 .bf16) (_ : FVec F S256x256 .bf16), FVec F S256x256 .bf16) → Prog (TpuEff nD τ sig (Elt F) Λ₀ .tc) α) (v7 : BitVec 32) :
    iprop(Run B K ι c (pr ⟨30, 28, 30, 32, 26, 11⟩ ⟨30, 28, 30, 32, 26, 11⟩)
        ∗ Reg B c X A O)
      ⊢ iprop(((Run B K ι c (pr ⟨30, 28, 30, 32, 29, 27⟩ ⟨30, 28, 30, 32, 29, 27⟩)
        ∗ Reg B c X A O
        ∗ hold B c false 34
        ∗ hold B c true 34) -∗ run c (kk ⟨wo B c 2 0, wi B c 2 1, wo B c 2 1⟩) Q)
        -∗ run c (on (k0_part22 (F := F)) v7 (wi B c 2 0) >>= kk) Q) := by
  rw [k0_part22_eq_skeleton]
  unfold k0_part22_skel
  simp only [on, semSignalWord, semWaitWord, Prog.lift, Prog.bind_op, Prog.bind_ret, Prog.pure_eq_ret, Prog.bind_assoc, pay50_eq, pay51_eq, pay52_eq, pay54_eq, pay55_eq, pay56_eq]
  iintro ⟨HR, HG⟩ Hk
  iapply (reg_ld (Reg_wo2 _ _ _) (wo B c 2 0) rfl) $$ HG
  iintro HG
  iapply (reg_ld (Reg_wi2 _ _ _) (wi B c 2 1) rfl) $$ HG
  iintro HG
  iapply (reg_ld (Reg_wo2 _ _ _) (wo B c 2 1) rfl) $$ HG
  iintro HG
  ihave HR := (step_pick false (pr ⟨30, 28, 30, 32, 26, 11⟩ ⟨30, 28, 30, 32, 26, 11⟩) (pr ⟨30, 28, 30, 32, 26, 27⟩ ⟨30, 28, 30, 32, 26, 11⟩) 26 ⟨rfl, rfl⟩ (by decide)) $$ HR
  icases HR with ⟨HR, Hf34⟩
  ihave HR := (step_pick true (pr ⟨30, 28, 30, 32, 26, 27⟩ ⟨30, 28, 30, 32, 26, 11⟩) (pr ⟨30, 28, 30, 32, 26, 27⟩ ⟨30, 28, 30, 32, 26, 27⟩) 26 ⟨rfl, rfl⟩ (by decide)) $$ HR
  icases HR with ⟨HR, Ht34⟩
  iapply (fill (B := B) false 34 (wi B c 2 0) (wo B c 2 0)) $$ Hf34
  iintro Hf34
  iapply (fill (B := B) true 34 (wi B c 2 1) (wo B c 2 1)) $$ Ht34
  iintro Ht34
  iapply (take false 3 (pr ⟨30, 28, 30, 32, 26, 27⟩ ⟨30, 28, 30, 32, 26, 27⟩) (pr ⟨30, 28, 30, 32, 29, 27⟩ ⟨30, 28, 30, 32, 26, 27⟩) ⟨rfl, rfl⟩ (by decide)) $$ HR
  iintro HR
  iapply (take true 3 (pr ⟨30, 28, 30, 32, 29, 27⟩ ⟨30, 28, 30, 32, 26, 27⟩) (pr ⟨30, 28, 30, 32, 29, 27⟩ ⟨30, 28, 30, 32, 29, 27⟩) ⟨rfl, rfl⟩ (by decide)) $$ HR
  iintro HR
  iapply Hk
  isplitl [HR]; · iexact HR
  isplitl [HG]; · iexact HG
  isplitl [Hf34]; · iexact Hf34
  iexact Ht34

theorem part23 {α : Type} {Q : α → sProp 𝕄}
    (kk : PUnit → Prog (TpuEff nD τ sig (Elt F) Λ₀ .tc) α) (v5 : BitVec 32) :
    iprop(Run B K ι c (pr ⟨30, 28, 30, 32, 29, 27⟩ ⟨30, 28, 30, 32, 29, 27⟩)
        ∗ hold B c false 34
        ∗ hold B c true 34)
      ⊢ iprop(((Run B K ι c (pr ⟨31, 28, 30, 32, 30, 28⟩ ⟨31, 28, 30, 32, 29, 28⟩)
        ∗ out B c false 30
        ∗ out B c true 30
        ∗ hold B c false 35
        ∗ hold B c true 35) -∗ run c (kk ⟨⟩) Q)
        -∗ run c (on (k0_part23 (F := F)) c v5 (wi B c 2 0) (wo B c 2 0) (wi B c 2 1) (wo B c 2 1) >>= kk) Q) := by
  rw [k0_part23_eq_skeleton]
  unfold k0_part23_skel
  simp only [on, semSignalWord, semWaitWord, Prog.lift, Prog.bind_op, Prog.bind_ret, Prog.pure_eq_ret, Prog.bind_assoc]
  iintro ⟨HR, Hf34, Ht34⟩ Hk
  iapply (send false 34 (pr ⟨30, 28, 30, 32, 29, 27⟩ ⟨30, 28, 30, 32, 29, 27⟩) (pr ⟨31, 28, 30, 32, 29, 27⟩ ⟨30, 28, 30, 32, 29, 27⟩) (Fin.ext (k0_dev35_eq c)) ⟨rfl, rfl⟩ (by decide)) $$ HR Hf34
  iintro ⟨HR, Hf34⟩
  iapply (send true 34 (pr ⟨31, 28, 30, 32, 29, 27⟩ ⟨30, 28, 30, 32, 29, 27⟩) (pr ⟨31, 28, 30, 32, 29, 27⟩ ⟨31, 28, 30, 32, 29, 27⟩) (Fin.ext (k0_dev36_eq c)) ⟨rfl, rfl⟩ (by decide)) $$ HR Ht34
  iintro ⟨HR, Ht34⟩
  ihave HR := (step_pick false (pr ⟨31, 28, 30, 32, 29, 27⟩ ⟨31, 28, 30, 32, 29, 27⟩) (pr ⟨31, 28, 30, 32, 29, 28⟩ ⟨31, 28, 30, 32, 29, 27⟩) 27 ⟨rfl, rfl⟩ (by decide)) $$ HR
  icases HR with ⟨HR, Hf35⟩
  ihave HR := (step_pick true (pr ⟨31, 28, 30, 32, 29, 28⟩ ⟨31, 28, 30, 32, 29, 27⟩) (pr ⟨31, 28, 30, 32, 29, 28⟩ ⟨31, 28, 30, 32, 29, 28⟩) 27 ⟨rfl, rfl⟩ (by decide)) $$ HR
  icases HR with ⟨HR, Ht35⟩
  iapply (fill (B := B) false 35 (wi B c 2 1) (wo B c 2 1)) $$ Hf35
  iintro Hf35
  iapply (fill (B := B) true 35 (wi B c 2 0) (wo B c 2 0)) $$ Ht35
  iintro Ht35
  iapply (take false 1 (pr ⟨31, 28, 30, 32, 29, 28⟩ ⟨31, 28, 30, 32, 29, 28⟩) (pr ⟨31, 28, 30, 32, 30, 28⟩ ⟨31, 28, 30, 32, 29, 28⟩) ⟨rfl, rfl⟩ (by decide)) $$ HR
  iintro HR
  iapply Hk
  isplitl [HR]; · iexact HR
  isplitl [Hf34]; · iexact Hf34
  isplitl [Ht34]; · iexact Ht34
  isplitl [Hf35]; · iexact Hf35
  iexact Ht35

theorem part24 {α : Type} {Q : α → sProp 𝕄}
    (kk : PUnit → Prog (TpuEff nD τ sig (Elt F) Λ₀ .tc) α) (v5 : BitVec 32) (v7 : BitVec 32) :
    iprop(Run B K ι c (pr ⟨31, 28, 30, 32, 30, 28⟩ ⟨31, 28, 30, 32, 29, 28⟩)
        ∗ hold B c false 35
        ∗ hold B c true 35)
      ⊢ iprop(((Run B K ι c (pr ⟨32, 28, 30, 32, 30, 28⟩ ⟨32, 28, 30, 32, 30, 28⟩)
        ∗ out B c false 31
        ∗ out B c true 31) -∗ run c (kk ⟨⟩) Q)
        -∗ run c (on (k0_part24 (F := F)) c v5 v7 >>= kk) Q) := by
  rw [k0_part24_eq_skeleton]
  unfold k0_part24_skel
  simp only [on, semSignalWord, semWaitWord, Prog.lift, Prog.bind_op, Prog.bind_ret, Prog.pure_eq_ret, Prog.bind_assoc]
  iintro ⟨HR, Hf35, Ht35⟩ Hk
  iapply (take true 1 (pr ⟨31, 28, 30, 32, 30, 28⟩ ⟨31, 28, 30, 32, 29, 28⟩) (pr ⟨31, 28, 30, 32, 30, 28⟩ ⟨31, 28, 30, 32, 30, 28⟩) ⟨rfl, rfl⟩ (by decide)) $$ HR
  iintro HR
  iapply (send false 35 (pr ⟨31, 28, 30, 32, 30, 28⟩ ⟨31, 28, 30, 32, 30, 28⟩) (pr ⟨32, 28, 30, 32, 30, 28⟩ ⟨31, 28, 30, 32, 30, 28⟩) (Fin.ext (k0_dev37_eq c)) ⟨rfl, rfl⟩ (by decide)) $$ HR Hf35
  iintro ⟨HR, Hf35⟩
  iapply (send true 35 (pr ⟨32, 28, 30, 32, 30, 28⟩ ⟨31, 28, 30, 32, 30, 28⟩) (pr ⟨32, 28, 30, 32, 30, 28⟩ ⟨32, 28, 30, 32, 30, 28⟩) (Fin.ext (k0_dev38_eq c)) ⟨rfl, rfl⟩ (by decide)) $$ HR Ht35
  iintro ⟨HR, Ht35⟩
  iapply Hk
  isplitl [HR]; · iexact HR
  isplitl [Hf35]; · iexact Hf35
  iexact Ht35

theorem part25 {α : Type} {Q : α → sProp 𝕄} {X : Vec F S512x256 .bf16} {A O : Vec F S512x256 .f32}
    (kk : (Σ' (_ : FVec F S512x256 .f32) (_ : FVec F S256x256 .bf16), FVec F S512x256 .bf16) → Prog (TpuEff nD τ sig (Elt F) Λ₀ .tc) α) (v7 : BitVec 32) :
    iprop(Run B K ι c (pr ⟨32, 28, 30, 32, 30, 28⟩ ⟨32, 28, 30, 32, 30, 28⟩)
        ∗ Reg B c X A O)
      ⊢ iprop(((Run B K ι c (pr ⟨32, 29, 30, 32, 30, 28⟩ ⟨32, 29, 30, 32, 30, 28⟩)
        ∗ Reg B c X A O
        ∗ hold B c false 32
        ∗ hold B c true 32) -∗ run c (kk ⟨k0_pay61 A (lift (piece B false c 32)) X, k0_pay63 (lift (piece B true c 32)), k0_pay64 (lift (piece B true c 32)) X⟩) Q)
        -∗ run c (on (k0_part25 (F := F)) v7 >>= kk) Q) := by
  rw [k0_part25_eq_skeleton]
  unfold k0_part25_skel
  simp only [on, semSignalWord, semWaitWord, Prog.lift, Prog.bind_op, Prog.bind_ret, Prog.pure_eq_ret, Prog.bind_assoc]
  iintro ⟨HR, HG⟩ Hk
  iapply (recv false 32 (pr ⟨32, 28, 30, 32, 30, 28⟩ ⟨32, 28, 30, 32, 30, 28⟩) (pr ⟨32, 29, 30, 32, 30, 28⟩ ⟨32, 28, 30, 32, 30, 28⟩) ⟨rfl, rfl⟩ (by decide)) $$ HR
  iintro ⟨HR, Hf32⟩
  iapply (recv true 32 (pr ⟨32, 29, 30, 32, 30, 28⟩ ⟨32, 28, 30, 32, 30, 28⟩) (pr ⟨32, 29, 30, 32, 30, 28⟩ ⟨32, 29, 30, 32, 30, 28⟩) ⟨rfl, rfl⟩ (by decide)) $$ HR
  iintro ⟨HR, Ht32⟩
  iapply (ld_acc X A O) $$ HG
  iintro HG
  iapply (ld_slot false 32 rfl rfl) $$ Hf32
  iintro Hf32
  iapply (ld_xb X A O) $$ HG
  iintro HG
  iapply (ld_slot true 32 rfl rfl) $$ Ht32
  iintro Ht32
  iapply (ld_xb X A O) $$ HG
  iintro HG
  iapply Hk
  isplitl [HR]; · iexact HR
  isplitl [HG]; · iexact HG
  isplitl [Hf32]; · iexact Hf32
  iexact Ht32

theorem part26 {α : Type} {Q : α → sProp 𝕄} {X : Vec F S512x256 .bf16} {A O : Vec F S512x256 .f32}
    (kk : PUnit → Prog (TpuEff nD τ sig (Elt F) Λ₀ .tc) α) (v5 : BitVec 32) (v7 : BitVec 32) :
    iprop(Run B K ι c (pr ⟨32, 29, 30, 32, 30, 28⟩ ⟨32, 29, 30, 32, 30, 28⟩)
        ∗ Reg B c X A O
        ∗ hold B c false 32
        ∗ hold B c true 32)
      ⊢ iprop(((Run B K ι c (pr ⟨32, 30, 30, 33, 30, 28⟩ ⟨32, 30, 30, 33, 30, 28⟩)
        ∗ Reg B c X (stp X A (piece B false c 32) (piece B true c 32)) O
        ∗ hold B c false 33
        ∗ hold B c true 33) -∗ run c (kk ⟨⟩) Q)
        -∗ run c (on (k0_part26 (F := F)) c v5 v7 (k0_pay61 A (lift (piece B false c 32)) X) (k0_pay63 (lift (piece B true c 32))) (k0_pay64 (lift (piece B true c 32)) X) >>= kk) Q) := by
  rw [k0_part26_eq_skeleton]
  unfold k0_part26_skel
  simp only [on, semSignalWord, semWaitWord, Prog.lift, Prog.bind_op, Prog.bind_ret, Prog.pure_eq_ret, Prog.bind_assoc]
  iintro ⟨HR, HG, Hf32, Ht32⟩ Hk
  iapply (ld_acc X A O) $$ HG
  iintro HG
  iapply (st_acc X A O (stp X A (piece B false c 32) (piece B true c 32)) rfl) $$ HG
  iintro HG
  iapply (give false 32 (pr ⟨32, 29, 30, 32, 30, 28⟩ ⟨32, 29, 30, 32, 30, 28⟩) (pr ⟨32, 29, 30, 33, 30, 28⟩ ⟨32, 29, 30, 32, 30, 28⟩) (Fin.ext (k0_dev39_eq c)) ⟨rfl, rfl⟩ (by decide)) $$ HR Hf32
  iintro HR
  iapply (give true 32 (pr ⟨32, 29, 30, 33, 30, 28⟩ ⟨32, 29, 30, 32, 30, 28⟩) (pr ⟨32, 29, 30, 33, 30, 28⟩ ⟨32, 29, 30, 33, 30, 28⟩) (Fin.ext (k0_dev40_eq c)) ⟨rfl, rfl⟩ (by decide)) $$ HR Ht32
  iintro HR
  iapply (recv false 33 (pr ⟨32, 29, 30, 33, 30, 28⟩ ⟨32, 29, 30, 33, 30, 28⟩) (pr ⟨32, 30, 30, 33, 30, 28⟩ ⟨32, 29, 30, 33, 30, 28⟩) ⟨rfl, rfl⟩ (by decide)) $$ HR
  iintro ⟨HR, Hf33⟩
  iapply (recv true 33 (pr ⟨32, 30, 30, 33, 30, 28⟩ ⟨32, 29, 30, 33, 30, 28⟩) (pr ⟨32, 30, 30, 33, 30, 28⟩ ⟨32, 30, 30, 33, 30, 28⟩) ⟨rfl, rfl⟩ (by decide)) $$ HR
  iintro ⟨HR, Ht33⟩
  iapply Hk
  isplitl [HR]; · iexact HR
  isplitl [HG]; · iexact HG
  isplitl [Hf33]; · iexact Hf33
  iexact Ht33

theorem part27 {α : Type} {Q : α → sProp 𝕄} {X : Vec F S512x256 .bf16} {A O : Vec F S512x256 .f32}
    (kk : PUnit → Prog (TpuEff nD τ sig (Elt F) Λ₀ .tc) α) (v5 : BitVec 32) (v7 : BitVec 32) :
    iprop(Run B K ι c (pr ⟨32, 30, 30, 33, 30, 28⟩ ⟨32, 30, 30, 33, 30, 28⟩)
        ∗ Reg B c X A O
        ∗ hold B c false 33
        ∗ hold B c true 33)
      ⊢ iprop(((Run B K ι c (pr ⟨32, 30, 30, 34, 30, 28⟩ ⟨32, 30, 30, 34, 30, 28⟩)
        ∗ Reg B c X (stp X A (piece B false c 33) (piece B true c 33)) O) -∗ run c (kk ⟨⟩) Q)
        -∗ run c (on (k0_part27 (F := F)) c v5 v7 >>= kk) Q) := by
  rw [k0_part27_eq_skeleton]
  unfold k0_part27_skel
  simp only [on, semSignalWord, semWaitWord, Prog.lift, Prog.bind_op, Prog.bind_ret, Prog.pure_eq_ret, Prog.bind_assoc]
  iintro ⟨HR, HG, Hf33, Ht33⟩ Hk
  iapply (ld_acc X A O) $$ HG
  iintro HG
  iapply (ld_slot false 33 rfl rfl) $$ Hf33
  iintro Hf33
  iapply (ld_xb X A O) $$ HG
  iintro HG
  iapply (ld_slot true 33 rfl rfl) $$ Ht33
  iintro Ht33
  iapply (ld_xb X A O) $$ HG
  iintro HG
  iapply (ld_acc X A O) $$ HG
  iintro HG
  iapply (st_acc X A O (stp X A (piece B false c 33) (piece B true c 33)) rfl) $$ HG
  iintro HG
  iapply (give false 33 (pr ⟨32, 30, 30, 33, 30, 28⟩ ⟨32, 30, 30, 33, 30, 28⟩) (pr ⟨32, 30, 30, 34, 30, 28⟩ ⟨32, 30, 30, 33, 30, 28⟩) (Fin.ext (k0_dev41_eq c)) ⟨rfl, rfl⟩ (by decide)) $$ HR Hf33
  iintro HR
  iapply (give true 33 (pr ⟨32, 30, 30, 34, 30, 28⟩ ⟨32, 30, 30, 33, 30, 28⟩) (pr ⟨32, 30, 30, 34, 30, 28⟩ ⟨32, 30, 30, 34, 30, 28⟩) (Fin.ext (k0_dev42_eq c)) ⟨rfl, rfl⟩ (by decide)) $$ HR Ht33
  iintro HR
  iapply Hk
  isplitl [HR]; · iexact HR
  iexact HG

theorem part28 {α : Type} {Q : α → sProp 𝕄} {X : Vec F S512x256 .bf16} {A O : Vec F S512x256 .f32}
    (kk : PUnit → Prog (TpuEff nD τ sig (Elt F) Λ₀ .tc) α)  :
    iprop(Run B K ι c (pr ⟨32, 30, 30, 34, 30, 28⟩ ⟨32, 30, 30, 34, 30, 28⟩)
        ∗ Reg B c X A O
        ∗ out B c false 30)
      ⊢ iprop(((Run B K ι c (pr ⟨32, 30, 31, 34, 30, 28⟩ ⟨32, 30, 30, 34, 30, 28⟩)
        ∗ Reg B c (nextX A) (own (nextX A) (B.wi 2 c) (B.wo 2 c)) O
        ∗ hold B c false 34) -∗ run c (kk ⟨⟩) Q)
        -∗ run c (on (k0_part28 (F := F))  >>= kk) Q) := by
  rw [k0_part28_eq_skeleton]
  unfold k0_part28_skel
  simp only [on, semSignalWord, semWaitWord, Prog.lift, Prog.bind_op, Prog.bind_ret, Prog.pure_eq_ret, Prog.bind_assoc]
  iintro ⟨HR, HG, Hf34⟩ Hk
  iapply (ld_acc X A O) $$ HG
  iintro HG
  iapply (ld_xb X A O) $$ HG
  iintro HG
  iapply (st_xb X A O (nextX A) rfl) $$ HG
  iintro HG
  iapply (reg_ld (Reg_wi2 _ _ _) (B.wi 2 c) (View.ld_unit_zero z2 _ _)) $$ HG
  iintro HG
  iapply (reg_ld (Reg_wo2 _ _ _) (B.wo 2 c) (View.ld_unit_zero z2 _ _)) $$ HG
  iintro HG
  iapply (ld_xb (nextX A) A O) $$ HG
  iintro HG
  iapply (ld_acc (nextX A) A O) $$ HG
  iintro HG
  iapply (st_acc (nextX A) A O (own (nextX A) (B.wi 2 c) (B.wo 2 c)) rfl) $$ HG
  iintro HG
  iapply (sent false 34 30 (pr ⟨32, 30, 30, 34, 30, 28⟩ ⟨32, 30, 30, 34, 30, 28⟩) (pr ⟨32, 30, 31, 34, 30, 28⟩ ⟨32, 30, 30, 34, 30, 28⟩) ⟨rfl, rfl⟩ (by decide)) $$ HR Hf34
  iintro ⟨HR, Hf34⟩
  iapply Hk
  isplitl [HR]; · iexact HR
  isplitl [HG]; · iexact HG
  iexact Hf34

theorem part29 {α : Type} {Q : α → sProp 𝕄}
    (kk : PUnit → Prog (TpuEff nD τ sig (Elt F) Λ₀ .tc) α) (v5 : BitVec 32) (v7 : BitVec 32) :
    iprop(Run B K ι c (pr ⟨32, 30, 31, 34, 30, 28⟩ ⟨32, 30, 30, 34, 30, 28⟩)
        ∗ out B c true 30
        ∗ out B c false 31
        ∗ out B c true 31
        ∗ hold B c false 34)
      ⊢ iprop(((Run B K ι c (pr ⟨32, 30, 32, 36, 30, 28⟩ ⟨32, 30, 32, 35, 30, 28⟩)
        ∗ hold B c true 35) -∗ run c (kk ⟨⟩) Q)
        -∗ run c (on (k0_part29 (F := F)) c v5 v7 >>= kk) Q) := by
  rw [k0_part29_eq_skeleton]
  unfold k0_part29_skel
  simp only [on, semSignalWord, semWaitWord, Prog.lift, Prog.bind_op, Prog.bind_ret, Prog.pure_eq_ret, Prog.bind_assoc]
  iintro ⟨HR, Ht34, Hf35, Ht35, Hf34⟩ Hk
  iapply (sent true 34 30 (pr ⟨32, 30, 31, 34, 30, 28⟩ ⟨32, 30, 30, 34, 30, 28⟩) (pr ⟨32, 30, 31, 34, 30, 28⟩ ⟨32, 30, 31, 34, 30, 28⟩) ⟨rfl, rfl⟩ (by decide)) $$ HR Ht34
  iintro ⟨HR, Ht34⟩
  iapply (sent false 35 31 (pr ⟨32, 30, 31, 34, 30, 28⟩ ⟨32, 30, 31, 34, 30, 28⟩) (pr ⟨32, 30, 32, 34, 30, 28⟩ ⟨32, 30, 31, 34, 30, 28⟩) ⟨rfl, rfl⟩ (by decide)) $$ HR Hf35
  iintro ⟨HR, Hf35⟩
  iapply (sent true 35 31 (pr ⟨32, 30, 32, 34, 30, 28⟩ ⟨32, 30, 31, 34, 30, 28⟩) (pr ⟨32, 30, 32, 34, 30, 28⟩ ⟨32, 30, 32, 34, 30, 28⟩) ⟨rfl, rfl⟩ (by decide)) $$ HR Ht35
  iintro ⟨HR, Ht35⟩
  iapply (give false 34 (pr ⟨32, 30, 32, 34, 30, 28⟩ ⟨32, 30, 32, 34, 30, 28⟩) (pr ⟨32, 30, 32, 35, 30, 28⟩ ⟨32, 30, 32, 34, 30, 28⟩) (Fin.ext (k0_dev43_eq c)) ⟨rfl, rfl⟩ (by decide)) $$ HR Hf34
  iintro HR
  iapply (give true 34 (pr ⟨32, 30, 32, 35, 30, 28⟩ ⟨32, 30, 32, 34, 30, 28⟩) (pr ⟨32, 30, 32, 35, 30, 28⟩ ⟨32, 30, 32, 35, 30, 28⟩) (Fin.ext (k0_dev44_eq c)) ⟨rfl, rfl⟩ (by decide)) $$ HR Ht34
  iintro HR
  iapply (give false 35 (pr ⟨32, 30, 32, 35, 30, 28⟩ ⟨32, 30, 32, 35, 30, 28⟩) (pr ⟨32, 30, 32, 36, 30, 28⟩ ⟨32, 30, 32, 35, 30, 28⟩) (Fin.ext (k0_dev45_eq c)) ⟨rfl, rfl⟩ (by decide)) $$ HR Hf35
  iintro HR
  iapply Hk
  isplitl [HR]; · iexact HR
  iexact Ht35

theorem part30 {α : Type} {Q : α → sProp 𝕄} {X : Vec F S512x256 .bf16} {O : Vec F S512x256 .f32}
    (kk : PUnit → Prog (TpuEff nD τ sig (Elt F) Λ₀ .tc) α) (v5 : BitVec 32) (v7 : BitVec 32) :
    iprop(Run B K ι c (pr ⟨32, 30, 32, 36, 30, 28⟩ ⟨32, 30, 32, 35, 30, 28⟩)
        ∗ Reg B c X (accV B c 2 X 0) O
        ∗ hold B c true 35)
      ⊢ iprop(((Run B K ι c (pr ⟨45, 44, 45, 49, 43, 28⟩ ⟨45, 43, 45, 49, 43, 28⟩)
        ∗ Reg B c X (accV B c 2 X 13) O
        ∗ hold B c false 49) -∗ run c (kk ⟨⟩) Q)
        -∗ run c (on (k0_part30 (F := F)) c v5 v7 >>= kk) Q) := by
  rw [k0_part30_eq_skeleton]
  unfold k0_part30_skel
  simp only [on, semSignalWord, semWaitWord, Prog.lift, Prog.bind_op, Prog.bind_ret, Prog.pure_eq_ret, Prog.bind_assoc]
  iintro ⟨HR, HG, Ht35⟩ Hk
  iapply (give true 35 (pr ⟨32, 30, 32, 36, 30, 28⟩ ⟨32, 30, 32, 35, 30, 28⟩) (pr ⟨32, 30, 32, 36, 30, 28⟩ ⟨32, 30, 32, 36, 30, 28⟩) (Fin.ext (k0_dev46_eq c)) ⟨rfl, rfl⟩ (by decide)) $$ HR Ht35
  iintro HR
  iapply (loop3 v5 v7) $$ [HR HG]
  · isplitl [HR] <;> iassumption
  iintro ⟨HR, HG, Hf48, Ht48⟩
  iapply (sent false 48 44 (pr ⟨45, 43, 44, 48, 43, 28⟩ ⟨45, 43, 44, 48, 43, 28⟩) (pr ⟨45, 43, 45, 48, 43, 28⟩ ⟨45, 43, 44, 48, 43, 28⟩) ⟨rfl, rfl⟩ (by decide)) $$ HR Hf48
  iintro ⟨HR, Hf48⟩
  iapply (sent true 48 44 (pr ⟨45, 43, 45, 48, 43, 28⟩ ⟨45, 43, 44, 48, 43, 28⟩) (pr ⟨45, 43, 45, 48, 43, 28⟩ ⟨45, 43, 45, 48, 43, 28⟩) ⟨rfl, rfl⟩ (by decide)) $$ HR Ht48
  iintro ⟨HR, Ht48⟩
  ihave HR := (step_retire false (pr ⟨45, 43, 45, 48, 43, 28⟩ ⟨45, 43, 45, 48, 43, 28⟩) (pr ⟨45, 43, 45, 49, 43, 28⟩ ⟨45, 43, 45, 48, 43, 28⟩) ⟨rfl, rfl⟩ 48 rfl (by decide)) $$ [HR Hf48]
  · isplitl [HR]; · iexact HR
    iapply (slotAt_free) $$ Hf48
  ihave HR := (step_retire true (pr ⟨45, 43, 45, 49, 43, 28⟩ ⟨45, 43, 45, 48, 43, 28⟩) (pr ⟨45, 43, 45, 49, 43, 28⟩ ⟨45, 43, 45, 49, 43, 28⟩) ⟨rfl, rfl⟩ 48 rfl (by decide)) $$ [HR Ht48]
  · isplitl [HR]; · iexact HR
    iapply (slotAt_free) $$ Ht48
  iapply (recv false 49 (pr ⟨45, 43, 45, 49, 43, 28⟩ ⟨45, 43, 45, 49, 43, 28⟩) (pr ⟨45, 44, 45, 49, 43, 28⟩ ⟨45, 43, 45, 49, 43, 28⟩) ⟨rfl, rfl⟩ (by decide)) $$ HR
  iintro ⟨HR, Hf49⟩
  iapply Hk
  isplitl [HR]; · iexact HR
  isplitl [HG]; · iexact HG
  iexact Hf49

theorem part31 {α : Type} {Q : α → sProp 𝕄} {X : Vec F S512x256 .bf16} {A O : Vec F S512x256 .f32}
    (kk : (FVec F S512x256 .f32) → Prog (TpuEff nD τ sig (Elt F) Λ₀ .tc) α) (v7 : BitVec 32) :
    iprop(Run B K ι c (pr ⟨45, 44, 45, 49, 43, 28⟩ ⟨45, 43, 45, 49, 43, 28⟩)
        ∗ Reg B c X A O
        ∗ hold B c false 49)
      ⊢ iprop(((Run B K ι c (pr ⟨45, 44, 45, 50, 43, 28⟩ ⟨45, 44, 45, 50, 43, 28⟩)
        ∗ Reg B c X A O) -∗ run c (kk (k0_pay70 A (lift (piece B false c 49)) X (lift (piece B true c 49)) X)) Q)
        -∗ run c (on (k0_part31 (F := F)) v7 >>= kk) Q) := by
  rw [k0_part31_eq_skeleton]
  unfold k0_part31_skel
  simp only [on, semSignalWord, semWaitWord, Prog.lift, Prog.bind_op, Prog.bind_ret, Prog.pure_eq_ret, Prog.bind_assoc]
  iintro ⟨HR, HG, Hf49⟩ Hk
  iapply (recv true 49 (pr ⟨45, 44, 45, 49, 43, 28⟩ ⟨45, 43, 45, 49, 43, 28⟩) (pr ⟨45, 44, 45, 49, 43, 28⟩ ⟨45, 44, 45, 49, 43, 28⟩) ⟨rfl, rfl⟩ (by decide)) $$ HR
  iintro ⟨HR, Ht49⟩
  iapply (ld_acc X A O) $$ HG
  iintro HG
  iapply (ld_slot false 49 rfl rfl) $$ Hf49
  iintro Hf49
  iapply (ld_xb X A O) $$ HG
  iintro HG
  iapply (ld_slot true 49 rfl rfl) $$ Ht49
  iintro Ht49
  iapply (ld_xb X A O) $$ HG
  iintro HG
  ihave HR := (step_retire false (pr ⟨45, 44, 45, 49, 43, 28⟩ ⟨45, 44, 45, 49, 43, 28⟩) (pr ⟨45, 44, 45, 50, 43, 28⟩ ⟨45, 44, 45, 49, 43, 28⟩) ⟨rfl, rfl⟩ 49 rfl (by decide)) $$ [HR Hf49]
  · isplitl [HR]; · iexact HR
    iapply (slotAt_free) $$ Hf49
  ihave HR := (step_retire true (pr ⟨45, 44, 45, 50, 43, 28⟩ ⟨45, 44, 45, 49, 43, 28⟩) (pr ⟨45, 44, 45, 50, 43, 28⟩ ⟨45, 44, 45, 50, 43, 28⟩) ⟨rfl, rfl⟩ 49 rfl (by decide)) $$ [HR Ht49]
  · isplitl [HR]; · iexact HR
    iapply (slotAt_free) $$ Ht49
  iapply Hk
  isplitl [HR]; · iexact HR
  iexact HG

theorem part32 {α : Type} {Q : α → sProp 𝕄} {X : Vec F S512x256 .bf16} {A O : Vec F S512x256 .f32}
    (kk : (Σ' (_ : Vec F S512x256 .f32) (_ : FVec F S256x256 .bf16), FVec F S512x256 .f32) → Prog (TpuEff nD τ sig (Elt F) Λ₀ .tc) α) (v5 : BitVec 32) (v7 : BitVec 32) :
    iprop(Run B K ι c (pr ⟨45, 44, 45, 50, 43, 28⟩ ⟨45, 44, 45, 50, 43, 28⟩)
        ∗ Reg B c X A O)
      ⊢ iprop(((Run B K ι c (pr ⟨45, 45, 45, 50, 43, 28⟩ ⟨45, 45, 45, 50, 43, 28⟩)
        ∗ Reg B c X (stp X A (piece B false c 49) (piece B true c 49)) O
        ∗ hold B c false 50
        ∗ hold B c true 50) -∗ run c (kk ⟨stp X A (piece B false c 49) (piece B true c 49), k0_pay73 (lift (piece B false c 50)), k0_pay74 (lift (piece B false c 50)) X⟩) Q)
        -∗ run c (on (k0_part32 (F := F)) v5 v7 (k0_pay70 A (lift (piece B false c 49)) X (lift (piece B true c 49)) X) >>= kk) Q) := by
  rw [k0_part32_eq_skeleton]
  unfold k0_part32_skel
  simp only [on, semSignalWord, semWaitWord, Prog.lift, Prog.bind_op, Prog.bind_ret, Prog.pure_eq_ret, Prog.bind_assoc]
  iintro ⟨HR, HG⟩ Hk
  iapply (ld_acc X A O) $$ HG
  iintro HG
  iapply (st_acc X A O (stp X A (piece B false c 49) (piece B true c 49)) rfl) $$ HG
  iintro HG
  iapply (recv false 50 (pr ⟨45, 44, 45, 50, 43, 28⟩ ⟨45, 44, 45, 50, 43, 28⟩) (pr ⟨45, 45, 45, 50, 43, 28⟩ ⟨45, 44, 45, 50, 43, 28⟩) ⟨rfl, rfl⟩ (by decide)) $$ HR
  iintro ⟨HR, Hf50⟩
  iapply (recv true 50 (pr ⟨45, 45, 45, 50, 43, 28⟩ ⟨45, 44, 45, 50, 43, 28⟩) (pr ⟨45, 45, 45, 50, 43, 28⟩ ⟨45, 45, 45, 50, 43, 28⟩) ⟨rfl, rfl⟩ (by decide)) $$ HR
  iintro ⟨HR, Ht50⟩
  iapply (ld_acc X (stp X A (piece B false c 49) (piece B true c 49)) O) $$ HG
  iintro HG
  iapply (ld_slot false 50 rfl rfl) $$ Hf50
  iintro Hf50
  iapply (ld_xb X (stp X A (piece B false c 49) (piece B true c 49)) O) $$ HG
  iintro HG
  iapply Hk
  isplitl [HR]; · iexact HR
  isplitl [HG]; · iexact HG
  isplitl [Hf50]; · iexact Hf50
  iexact Ht50

end Cert.Mlp

end
-- ==== Proof.Body.lean ====
/-
# The kernel on one device

The parts in order, the last step of the third layer, and the sum copied to the result.
-/
module

public import proofs.«01_k».proof.Proof.Start
public import proofs.«01_k».proof.Proof.Parts3

@[expose] public section

set_option maxRecDepth 16384
set_option maxHeartbeats 1000000

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable {B : Blocks F} {K : Dev nD × Cid → ℕ} {ι : Key → ℕ} {c : Dev nD}

/-- A device's activations after one layer, -/
def act1 (B : Blocks F) (c : Dev nD) : Vec F S512x256 .bf16 := nextX (accV B c 0 (B.x c) 15)
/-- after two, -/
def act2 (B : Blocks F) (c : Dev nD) : Vec F S512x256 .bf16 := nextX (accV B c 1 (act1 B c) 15)
/-- and its result. -/
def result (B : Blocks F) (c : Dev nD) : Vec F S512x256 .f32 := accV B c 2 (act2 B c) 15

/-- The last two steps of a layer. -/
theorem acc_two (l t : ℕ) (ht : t = 17 * l + 15) (X : Vec F S512x256 .bf16) :
    stp X (stp X (accV B c l X 13) (piece B false c t) (piece B true c t)) (piece B false c (t + 1)) (piece B true c (t + 1)) = accV B c l X 15 := by
  subst ht; rfl
/-- The last step of the last layer, as the kernel writes it. -/
theorem last_step (X : Vec F S512x256 .bf16) (A : Vec F S512x256 .f32) (P P' : Vec F S512x256 .bf16) :
    k0_pay75 A (k0_pay73 (lift P)) (k0_pay74 (lift P) X) (lift P') X = stp X A P P' := rfl

/-- The registers at equal activations and sums. -/
theorem Reg_at {X X' : Vec F S512x256 .bf16} {A A' O : Vec F S512x256 .f32} (hX : X = X') (hA : A = A') : Reg B c X A O ⊢ Reg B c X' A' O := by
  subst hX hA; exact .rfl

theorem body {Q : PUnit → sProp 𝕄} {X : Vec F S512x256 .bf16} {A O : Vec F S512x256 .f32} :
    iprop(Ctx B K ι ∗ Lin c false ∗ Lin c true ∗ atPos ER (cell c .bar) 0 ∅ 0 ∗ cred (tallyAt (cell c .bar) 1 2)
        ∗ (∃ W, owes (c : Thread nD τ) (O₀ c) W)
        ∗ (bigSep (Finset.range 8) fun t => free c false t) ∗ (bigSep (Finset.range 8) fun t => free c true t)
        ∗ Reg B c X A O)
      ⊢ iprop(((Run B K ι c (pr ⟨45, 45, 45, 51, 43, 28⟩ ⟨45, 45, 45, 51, 43, 28⟩)
            ∗ Reg B c (act2 B c) (result B c) (result B c)
            ∗ atPos ER (cell c .bar) 1 ∅ 0) -∗ |={Set.univ}=> Q ⟨⟩)
        -∗ run c (on (cc0_body (F := F))) Q) := by
  rw [cc0_body_eq_skeleton]
  unfold cc0_body_skel
  rw [k0_part33_eq_skeleton]
  unfold k0_part33_skel
  simp only [on, Prog.lift, Prog.bind_op, Prog.bind_ret, Prog.pure_eq_ret, Prog.bind_assoc]
  iintro H Hk
  iapply (part7 _) $$ H
  iintro %v5 %v7 ⟨HR, HG, Hf0, Ht0, Hf1, Ht1, Hbar⟩
  iapply (part8 _ v5 v7) $$ [HR Hf0 Ht0]
  · isplitl [HR]; · iexact HR
    isplitl [Hf0] <;> iassumption
  iintro ⟨HR, Hf0, Ht0⟩
  iapply (part9 _ v7) $$ [HR Ht0 Hf1 Ht1]
  · isplitl [HR]; · iexact HR
    isplitl [Ht0]; · iexact Ht0
    isplitl [Hf1] <;> iassumption
  iintro ⟨HR, Hu0, Hf1, Ht1⟩
  iapply (part10 _ v5 _ _ _) $$ [HR HG Hf0 Ht1]
  · isplitl [HR]; · iexact HR
    isplitl [HG]; · iexact HG
    isplitl [Hf0] <;> iassumption
  iintro ⟨HR, HG, Hf0, Ht1⟩
  iapply (part11 _ v5 v7) $$ [HR Hf0 Hu0 Hf1 Ht1]
  · isplitl [HR]; · iexact HR
    isplitl [Hf0]; · iexact Hf0
    isplitl [Hu0]; · iexact Hu0
    isplitl [Hf1] <;> iassumption
  iintro ⟨HR, Hf1, Ht1⟩
  iapply (part12 _ v5 v7) $$ [HR HG Hf1 Ht1]
  · isplitl [HR]; · iexact HR
    isplitl [HG]; · iexact HG
    isplitl [Hf1] <;> iassumption
  iintro ⟨HR, HG, Ht14⟩
  iapply (part13 _ v7) $$ [HR HG Ht14]
  · isplitl [HR]; · iexact HR
    isplitl [HG] <;> iassumption
  iintro ⟨HR, HG, Hf17, Ht17⟩
  iapply (part14 _ v5) $$ [HR Hf17 Ht17]
  · isplitl [HR]; · iexact HR
    isplitl [Hf17] <;> iassumption
  iintro ⟨HR, Hf15, Ht15, Hf18, Ht18⟩
  iapply (part15 _ v5 v7) $$ [HR Ht18 Hf18]
  · isplitl [HR]; · iexact HR
    isplitl [Ht18] <;> iassumption
  iintro ⟨HR, Ht16, Hf16⟩
  iapply (part16 _ v7) $$ [HR HG]
  · isplitl [HR] <;> iassumption
  iintro ⟨HR, HG, Hp15, Hq15⟩
  iapply (part17 _ v5 v7) $$ [HR HG Hp15 Hq15]
  · isplitl [HR]; · iexact HR
    isplitl [HG]; · iexact HG
    isplitl [Hp15] <;> iassumption
  iintro ⟨HR, HG, Hp16⟩
  iapply (part18 _ v5 v7) $$ [HR HG Hp16]
  · isplitl [HR]; · iexact HR
    isplitl [HG] <;> iassumption
  iintro %x ⟨HR, HG, Hq16⟩
  ihave HG := (Reg_at rfl (acc_two 0 15 rfl (B.x c))) $$ HG
  iapply (part19 _ x) $$ [HR HG Hq16 Hf15]
  · isplitl [HR]; · iexact HR
    isplitl [HG]; · iexact HG
    isplitl [Hq16] <;> iassumption
  iintro ⟨HR, HG, Hf17⟩
  iapply (part20 _ v5 v7) $$ [HR Ht15 Hf16 Ht16 Hf17]
  · isplitl [HR]; · iexact HR
    isplitl [Ht15]; · iexact Ht15
    isplitl [Hf16]; · iexact Hf16
    isplitl [Ht16] <;> iassumption
  iintro ⟨HR, Ht18⟩
  ihave HG := (Reg_at (show nextX (accV B c 0 (B.x c) 15) = act1 B c from rfl) (show own (nextX (accV B c 0 (B.x c) 15)) (B.wi 1 c) (B.wo 1 c) = accV B c 1 (act1 B c) 0 from rfl)) $$ HG
  iapply (part21 _ v5 v7) $$ [HR HG Ht18]
  · isplitl [HR]; · iexact HR
    isplitl [HG] <;> iassumption
  iintro ⟨HR, HG⟩
  iapply (part22 _ v7) $$ [HR HG]
  · isplitl [HR] <;> iassumption
  iintro ⟨HR, HG, Hf34, Ht34⟩
  iapply (part23 _ v5) $$ [HR Hf34 Ht34]
  · isplitl [HR]; · iexact HR
    isplitl [Hf34] <;> iassumption
  iintro ⟨HR, Hf30, Ht30, Hf35, Ht35⟩
  iapply (part24 _ v5 v7) $$ [HR Hf35 Ht35]
  · isplitl [HR]; · iexact HR
    isplitl [Hf35] <;> iassumption
  iintro ⟨HR, Hf31, Ht31⟩
  iapply (part25 _ v7) $$ [HR HG]
  · isplitl [HR] <;> iassumption
  iintro ⟨HR, HG, Hf32, Ht32⟩
  iapply (part26 _ v5 v7) $$ [HR HG Hf32 Ht32]
  · isplitl [HR]; · iexact HR
    isplitl [HG]; · iexact HG
    isplitl [Hf32] <;> iassumption
  iintro ⟨HR, HG, Hf33, Ht33⟩
  iapply (part27 _ v5 v7) $$ [HR HG Hf33 Ht33]
  · isplitl [HR]; · iexact HR
    isplitl [HG]; · iexact HG
    isplitl [Hf33] <;> iassumption
  iintro ⟨HR, HG⟩
  ihave HG := (Reg_at rfl (acc_two 1 32 rfl (act1 B c))) $$ HG
  iapply (part28 _) $$ [HR HG Hf30]
  · isplitl [HR]; · iexact HR
    isplitl [HG] <;> iassumption
  iintro ⟨HR, HG, Hf34⟩
  iapply (part29 _ v5 v7) $$ [HR Ht30 Hf31 Ht31 Hf34]
  · isplitl [HR]; · iexact HR
    isplitl [Ht30]; · iexact Ht30
    isplitl [Hf31]; · iexact Hf31
    isplitl [Ht31] <;> iassumption
  iintro ⟨HR, Ht35⟩
  ihave HG := (Reg_at (show nextX (accV B c 1 (act1 B c) 15) = act2 B c from rfl) (show own (nextX (accV B c 1 (act1 B c) 15)) (B.wi 2 c) (B.wo 2 c) = accV B c 2 (act2 B c) 0 from rfl)) $$ HG
  iapply (part30 _ v5 v7) $$ [HR HG Ht35]
  · isplitl [HR]; · iexact HR
    isplitl [HG] <;> iassumption
  iintro ⟨HR, HG, Hf49⟩
  iapply (part31 _ v7) $$ [HR HG Hf49]
  · isplitl [HR]; · iexact HR
    isplitl [HG] <;> iassumption
  iintro ⟨HR, HG⟩
  iapply (part32 _ v5 v7) $$ [HR HG]
  · isplitl [HR] <;> iassumption
  iintro ⟨HR, HG, Hf50, Ht50⟩
  unfold hold
  iapply (ld_slot true 50 rfl rfl) $$ Ht50
  iintro Ht50
  iapply (ld_xb _ _ _) $$ HG
  iintro HG
  iapply (ld_acc _ _ _) $$ HG
  iintro HG
  iapply (st_acc _ _ _ (result B c) ((last_step _ _ _ _).trans (acc_two 2 49 rfl (act2 B c)))) $$ HG
  iintro HG
  iapply (ld_acc _ _ _) $$ HG
  iintro HG
  iapply (ld_out _ _ _) $$ HG
  iintro HG
  iapply (st_out _ _ _ (result B c) rfl) $$ HG
  iintro HG
  ihave Hf50 := (slotAt_free c false 50 _) $$ Hf50
  ihave Ht50 := (slotAt_free c true 50 _) $$ Ht50
  ihave HR := (step_retire false (pr ⟨45, 45, 45, 50, 43, 28⟩ ⟨45, 45, 45, 50, 43, 28⟩) (pr ⟨45, 45, 45, 51, 43, 28⟩ ⟨45, 45, 45, 50, 43, 28⟩) ⟨rfl, rfl⟩ 50 rfl (by decide)) $$ [HR Hf50]
  · isplitl [HR] <;> iassumption
  ihave HR := (step_retire true (pr ⟨45, 45, 45, 51, 43, 28⟩ ⟨45, 45, 45, 50, 43, 28⟩) (pr ⟨45, 45, 45, 51, 43, 28⟩ ⟨45, 45, 45, 51, 43, 28⟩) ⟨rfl, rfl⟩ 50 rfl (by decide)) $$ [HR Ht50]
  · isplitl [HR] <;> iassumption
  unfold run
  rw [wp_ret]
  iapply Hk
  isplitl [HR]; · iexact HR
  isplitl [HG]; · iexact HG
  iexact Hbar

end Cert.Mlp

end
-- ==== Proof.End.lean ====
/-
# The end: the semaphores back at zero, the rings whole

Once all transfers and credits have been waited for, every cell's schedule is over and its counter reads zero, and the
eight slots of each ring join to the whole buffer. The reverse split hands the slots out at the start.
-/
module

public import proofs.«01_k».proof.Proof.Deal
public import proofs.«01_k».proof.Proof.Body

@[expose] public section

set_option maxRecDepth 16384
set_option maxHeartbeats 1000000

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable {B : Blocks F} {K : Dev nD × Cid → ℕ} {ι : Key → ℕ} {c : Dev nD}

/-! ## Slots and rings -/

theorem slot_set (δ : Bool) (j : Fin 8) : (slotM δ j).view.set
    = ((bM δ).view.slice (Rect.unit (s := S8x512x256) ![j.val, 0, 0] S1x512x256.size (slot_inb j))).set := View.set_reshape _ _

theorem slot_disj (δ : Bool) (i j : Fin 8) (h : i ≠ j) : Disjoint (slotM δ i).view.set (slotM δ j).view.set := by
  rw [slot_set, slot_set, View.set_slice, View.set_slice]
  refine (Finset.disjoint_map _).mpr (Finset.disjoint_left.mpr fun x hx hy => h (Fin.ext ?_))
  have h1 : i.val ≤ (x 0).val ∧ (x 0).val < i.val + 1 := Rect.mem_set_unit.1 hx 0
  have h2 : j.val ≤ (x 0).val ∧ (x 0).val < j.val + 1 := Rect.mem_set_unit.1 hy 0
  omega

theorem slot_cover (δ : Bool) : (Finset.univ : Finset (Fin 8)).biUnion (fun j => (slotM δ j).view.set) = (bM δ).view.set := by
  ext i
  constructor
  · intro h
    obtain ⟨j, -, hj⟩ := Finset.mem_biUnion.mp h
    rw [slot_set, View.set_slice] at hj
    obtain ⟨x, -, rfl⟩ := Finset.mem_map.mp hj
    exact Finset.mem_map_of_mem _ (Finset.mem_univ x)
  · intro h
    obtain ⟨x, -, rfl⟩ := Finset.mem_map.mp h
    refine Finset.mem_biUnion.mpr ⟨⟨(x 0).val, (x 0).isLt⟩, Finset.mem_univ _, ?_⟩
    rw [slot_set, View.set_slice]
    refine Finset.mem_map_of_mem _ (Rect.mem_set_unit.2 fun a => ?_)
    match a with
    | 0 => exact ⟨le_refl _, Nat.lt_succ_self _⟩
    | 1 => exact ⟨Nat.zero_le _, by show (x 1).val < 0 + 512; have : (x 1).val < 512 := (x 1).isLt; omega⟩
    | 2 => exact ⟨Nat.zero_le _, by show (x 2).val < 0 + 256; have : (x 2).val < 256 := (x 2).isLt; omega⟩

theorem bM_set (δ : Bool) : (bM δ).view.set = Finset.univ := by
  cases δ <;> exact Finset.eq_univ_of_forall fun i => Finset.mem_map.mpr ⟨i, Finset.mem_univ _, rfl⟩

/-- A ring's buffer at some contents. -/
def ringBuf (c : Dev nD) (δ : Bool) : sProp 𝕄 := iprop(∃ f, (bM δ).view.loc (c : Thread nD τ) ↦{fullShare} f)

theorem ring_split (c : Dev nD) (δ : Bool) : ringBuf c δ ⊢ (bigSep (Finset.range 8) fun t => free c δ t : sProp 𝕄) := by
  rw [Finset.range_eq_Ico, fin_Ico]
  have e (j : Fin 8) : sl j.val = j := by revert j; decide
  unfold ringBuf
  iintro ⟨%f, H⟩
  have h1 : ((bM δ).view.loc (c : Thread nD τ) ↦{fullShare} f : sProp 𝕄)
      = bigSep Finset.univ fun j : Fin 8 => (bM δ).view.loc (c : Thread nD τ) ↦[(slotM δ j).view.set]{fullShare} f := by
    rw [← bM_set δ, ← slot_cover δ]
    exact pointsTo_biUnion _ _ fun i _ j _ h => slot_disj δ i j h
  have h2 : ((bM δ).view.loc (c : Thread nD τ) ↦{fullShare} f : sProp 𝕄) ⊢ bigSep Finset.univ fun j : Fin 8 => free c δ j.val :=
    (Entails.of_eq h1).trans (bigSep_mono fun j _ => by
      show (_ : sProp 𝕄) ⊢ free c δ j.val
      unfold free slot
      rw [e j]
      iintro H
      iexists f; iexact H)
  iapply h2
  iexact H

theorem ring_join (c : Dev nD) (δ : Bool) : (kept c δ 28 51 : sProp 𝕄) ⊢ ringBuf c δ := by
  unfold kept
  rw [show (Finset.Ico 28 51).filter stays = Finset.univ.image fun j : Fin 8 => 43 + (j.val + 5) % 8 by decide +kernel,
    bigSep_image_of_injOn (fun a _ b _ h => by revert a b; decide)]
  have e (j : Fin 8) : sl (43 + (j.val + 5) % 8) = j := by revert j; decide
  have hf : Nonempty (Buf (Elt F) ((bM δ).view.loc (c : Thread nD τ))) := ⟨fun _ => Classical.choice inferInstance⟩
  have h1 : (bigSep Finset.univ fun j : Fin 8 => (free c δ (43 + (j.val + 5) % 8) : sProp 𝕄))
      = bigSep Finset.univ fun j : Fin 8 => iprop(∃ f, (bM δ).view.loc (c : Thread nD τ) ↦[(slotM δ j).view.set]{fullShare} f) :=
    bigSep_congr fun j _ => by unfold free slot; rw [e j]
  rw [h1]
  iintro H
  ihave H := (bigSep_exists_pi Finset.univ (fun (j : Fin 8) (f : Buf (Elt F) ((bM δ).view.loc (c : Thread nD τ))) =>
    ((bM δ).view.loc (c : Thread nD τ) ↦[(slotM δ j).view.set]{fullShare} f : sProp 𝕄))) $$ H
  icases H with ⟨%fs, H⟩
  ihave H := (pointsTo_biUnion_join Finset.univ (fun j : Fin 8 => (slotM δ j).view.set) fs (Classical.choice hf)
    (fun i _ j _ h => slot_disj δ i j h)) $$ H
  icases H with ⟨%g, -, H⟩
  unfold ringBuf
  iexists g
  rw [slot_cover, bM_set]
  iexact H

/-! ## Cells -/

/-- A cell past its last round reads zero. -/
theorem close_at (i : Cid) (R : ℕ) (hR : ∀ r, R ≤ r → dutiesOf i r = ∅) :
    iprop(Ctx B K ι ∗ atPos ER (cell c i) R ∅ 0) ⊢ (|={Set.univ}=> semVal (cell c i) 0 : sProp 𝕄) := by
  iintro ⟨#HC, H⟩
  ihave #HI := (Ctx_cell c i) $$ HC
  icases HI with ⟨HI, -⟩
  iapply (cell_close ER (Rd B) (κ := K (c, i)) (Set.mem_univ _) (fun h => h) (fun r h => (Rd_duties B c i r).trans (hR r h)))
  isplitr; · iexact HI
  iexact H

theorem close_all {I : Type} [DecidableEq I] (S : Finset I) (f : I → Cid) (R : I → ℕ) (hR : ∀ j r, R j ≤ r → dutiesOf (f j) r = ∅) :
    iprop(Ctx B K ι ∗ bigSep S fun j => iprop(atPos ER (cell c (f j)) (R j) ∅ 0 ∗ reached ER (cell c (f j)) (R j)))
      ⊢ (|={Set.univ}=> bigSep S fun j => semVal (cell c (f j)) 0 : sProp 𝕄) := by
  refine (bigSep_with_persistent (Ψ := fun j => iprop(|={Set.univ}=> semVal (cell c (f j)) 0)) fun j _ => ?_).trans (bigSep_fupd _ _)
  iintro ⟨#HC, H, -⟩
  iapply (close_at (f j) (R j) (hR j))
  isplitr; · iexact HC
  iexact H

theorem close_snd (δ : Bool) : iprop(Ctx B K ι ∗ sndAt c δ 45) ⊢ (|={Set.univ}=> bigSep Finset.univ fun j : Fin 8 => semVal (cell c (.snd δ j)) 0 : sProp 𝕄) :=
  close_all Finset.univ (fun j : Fin 8 => .snd δ j) (fun j => cnt 0 45 j) fun j r h => if_neg (Nat.not_lt.mpr h)
theorem close_rcv (δ : Bool) : iprop(Ctx B K ι ∗ rcvAt c δ 45) ⊢ (|={Set.univ}=> bigSep Finset.univ fun j : Fin 8 => semVal (cell c (.rcv δ j)) 0 : sProp 𝕄) :=
  close_all Finset.univ (fun j : Fin 8 => .rcv δ j) (fun j => cnt 2 45 j) fun j r h => if_neg (Nat.not_lt.mpr h)

theorem close_crd (δ : Bool) : iprop(Ctx B K ι ∗ crdAt c δ 43) ⊢ (|={Set.univ}=> semVal (cell c (.crd δ)) 0 : sProp 𝕄) := by
  unfold crdAt
  iintro ⟨#HC, %T, %hT, H, -⟩
  have hT' : T = Finset.range 43 := Finset.eq_of_subset_of_card_le hT.1 (by rw [Finset.card_range]; exact hT.2)
  subst hT'
  ihave #HI := (Ctx_cell c (.crd δ)) $$ HC
  icases HI with ⟨HI, -⟩
  imod (fupd_skip ER (Rd B) (κ := K (c, .crd δ)) (g := cell c (.crd δ)) (R := 0) (m := 43) (T := Finset.range 43)
    (by rw [Rd_duties]; exact Finset.Subset.refl _) (by rw [Rd_expect]; rfl) (Set.mem_univ _)) $$ [H] with ⟨H, -⟩
  · isplitr; · iexact HI
    iexact H
  iapply (close_at (.crd δ) 1 fun r h => if_neg (by omega))
  isplitr; · iexact HC
  iexact H

theorem bigSep_bool (Φ : Bool → sProp 𝕄) : (bigSep Finset.univ Φ : sProp 𝕄) = iprop(Φ false ∗ Φ true) :=
  bigSep_univ_eq_bigSepL [false, true] (by decide) (by decide) Φ

/-- What a device holds when the body is done gives all its counters at zero, both rings whole and nothing owed. -/
theorem finish :
    iprop(Run B K ι c (pr ⟨45, 45, 45, 51, 43, 28⟩ ⟨45, 45, 45, 51, 43, 28⟩) ∗ atPos ER (cell c .bar) 1 ∅ 0)
      ⊢ (|={Set.univ}=> iprop((bigSep Finset.univ fun i : Cid => semVal (cell c i) 0) ∗ ringBuf c false ∗ ringBuf c true
          ∗ ∃ W, owes (c : Thread nD τ) 0 W) : sProp 𝕄) := by
  unfold Run St
  iintro ⟨⟨#HC, ⟨-, -, -, -, A1, A2, A3, -, -, A4⟩, ⟨-, -, -, -, B1, B2, B3, -, -, B4⟩, %W, HO⟩, Hb⟩
  imod (close_snd (B := B) (K := K) (ι := ι) (c := c) false) $$ [A1] with A1
  · isplitr; · iexact HC
    iexact A1
  imod (close_snd (B := B) (K := K) (ι := ι) (c := c) true) $$ [B1] with B1
  · isplitr; · iexact HC
    iexact B1
  imod (close_rcv (B := B) (K := K) (ι := ι) (c := c) false) $$ [A2] with A2
  · isplitr; · iexact HC
    iexact A2
  imod (close_rcv (B := B) (K := K) (ι := ι) (c := c) true) $$ [B2] with B2
  · isplitr; · iexact HC
    iexact B2
  imod (close_crd (B := B) (K := K) (ι := ι) (c := c) false) $$ [A3] with A3
  · isplitr; · iexact HC
    iexact A3
  imod (close_crd (B := B) (K := K) (ι := ι) (c := c) true) $$ [B3] with B3
  · isplitr; · iexact HC
    iexact B3
  imod (close_at (B := B) (K := K) (ι := ι) (c := c) .bar 1 fun r h => if_neg (by omega)) $$ [Hb] with Hb
  · isplitr; · iexact HC
    iexact Hb
  ihave R1 := (ring_join c false) $$ A4
  ihave R2 := (ring_join c true) $$ B4
  imodintro
  isplitr [R1 R2 HO]
  · rw [bigSep_Cid, bigSep_bool, bigSep_bool, bigSep_bool]
    isplitl [A1 B1]
    · isplitl [A1]; · iexact A1
      iexact B1
    isplitl [A2 B2]
    · isplitl [A2]; · iexact A2
      iexact B2
    isplitl [A3 B3]
    · isplitl [A3]; · iexact A3
      iexact B3
    iexact Hb
  isplitl [R1]; · iexact R1
  isplitl [R2]; · iexact R2
  iexists W
  rw [show owed c false (pr ⟨45, 45, 45, 51, 43, 28⟩ ⟨45, 45, 45, 51, 43, 28⟩ false).a (pr ⟨45, 45, 45, 51, 43, 28⟩ ⟨45, 45, 45, 51, 43, 28⟩ false).g
    + owed c true (pr ⟨45, 45, 45, 51, 43, 28⟩ ⟨45, 45, 45, 51, 43, 28⟩ true).a (pr ⟨45, 45, 45, 51, 43, 28⟩ ⟨45, 45, 45, 51, 43, 28⟩ true).g = 0 from by
    rw [owed_done c false _ _ (by decide) (by decide), owed_done c true _ _ (by decide) (by decide), add_zero]]
  iexact HO

end Cert.Mlp

end
-- ==== Proof.Glob.lean ====
/-
# The launch: the cells, the slots and the credits

The launch element holds the states of all cells and slots. Opened once for the whole machine, it gives the invariants
everyone knows and each device's share. The credits a device is dealt are those of what its neighbours owe it.
-/
module

public import proofs.«01_k».proof.Proof.End
public import proofs.«01_k».proof.Proof.Gen.KernelIdeal.Launch

@[expose] public section

set_option maxRecDepth 16384
set_option maxHeartbeats 1000000

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (B : Blocks F)

/-! ## Credits -/

/-- Debts all devices have to a neighbour are, for each device, the credit of its neighbour's debt. -/
theorem launchCred_ring (e : Dev nD ≃ Dev nD) (i : Cid) (k a : ℕ) (c : Dev nD) :
    (Pipeline.launchCred (fun d => tallyAt (cell (e d) i) k a) c : sProp 𝕄) = cred (tallyAt (cell c i) k a) := by
  rw [Pipeline.cred_core (T := tallyAt (cell c i) k a) (c := c) fun g hg => by
    by_contra h
    refine hg (Finsupp.ext fun u => ?_)
    rw [tallyAt_apply, if_neg fun h' => h (by rw [h'.1]; rfl)]; rfl]
  unfold Pipeline.launchCred
  refine bigSep_congr fun sm _ => ?_
  refine congrArg cred (congrArg _ (Finsupp.ext fun u => ?_))
  rw [Pipeline.launchCredit_owing, e.sum_comp fun d => (tallyAt (cell d i) k a : CellTallies nD τ sig ℕ) ((c : Thread nD τ), sm) u]
  refine Finset.sum_eq_single c (fun d _ hd => ?_) fun h => absurd (Finset.mem_univ c) h
  rw [tallyAt_apply, if_neg]
  rintro ⟨h, -⟩
  exact hd (congrArg (fun g : GSem nD τ sig => g.1.1) h).symm

theorem launchCred_owed (δ : Bool) (c : Dev nD) : (Pipeline.launchCred (fun d => owed d δ 0 0) c : sProp 𝕄)
    = iprop(bigSep (Finset.Ico 0 45) (rcvCred c δ) ∗ bigSep (Finset.Ico 0 43) (crdCred c δ)) := by
  unfold owed
  rw [Pipeline.launchCred_add, Pipeline.launchCred_sum, Pipeline.launchCred_sum]
  exact congrArg₂ _ (bigSep_congr fun n _ => launchCred_ring (ring δ) (.rcv δ (sl (tt n + 2))) (4 * tt n + 3) N c)
    (bigSep_congr fun k _ => launchCred_ring (ring δ).symm (.crd δ) (4 * k + 8) 1 c)

theorem launchCred_bar (δ : Bool) (c : Dev nD) : (Pipeline.launchCred (fun d => barOwed d δ) c : sProp 𝕄) = cred (tallyAt (cell c .bar) 1 1) :=
  launchCred_ring (ring δ).symm .bar 1 1 c

/-- All a device is credited. -/
theorem creds (c : Dev nD) : (Pipeline.launchCred O₀ c : sProp 𝕄)
    ⊢ iprop((bigSep Finset.univ fun δ : Bool => iprop(bigSep (Finset.Ico 0 45) (rcvCred c δ) ∗ bigSep (Finset.Ico 0 43) (crdCred c δ)))
      ∗ cred (tallyAt (cell c .bar) 1 2)) := by
  have e : (Pipeline.launchCred O₀ c : sProp 𝕄) = iprop(((Pipeline.launchCred (fun d => owed d false 0 0) c ∗ Pipeline.launchCred (fun d => owed d true 0 0) c)
      ∗ Pipeline.launchCred (fun d => barOwed d true) c) ∗ Pipeline.launchCred (fun d => barOwed d false) c) := by
    rw [show (O₀ : Dev nD → CellTallies nD τ sig ℕ) = fun d => (owed d false 0 0 + owed d true 0 0 + barOwed d true) + barOwed d false from rfl,
      Pipeline.launchCred_add, Pipeline.launchCred_add (fun d => owed d false 0 0 + owed d true 0 0), Pipeline.launchCred_add]
  have h2 : (tallyAt (cell c .bar) 1 2 : CellTallies nD τ sig ℕ) = tallyAt (cell c .bar) 1 1 + tallyAt (cell c .bar) 1 1 :=
    (tallyAt_add (cell c .bar) 1 1 1).symm
  rw [e, launchCred_owed, launchCred_owed, launchCred_bar, launchCred_bar, h2, bigSep_bool]
  iintro ⟨⟨⟨H1, H2⟩, H3⟩, H4⟩
  isplitl [H1 H2]
  · isplitl [H1]; · iexact H1
    iexact H2
  iapply (show iprop(cred (tallyAt (cell c .bar) 1 1) ∗ cred (tallyAt (cell c .bar) 1 1)) ⊢ (cred (tallyAt (cell c .bar) 1 1 + tallyAt (cell c .bar) 1 1) : sProp 𝕄) from (cred_add _ _).2)
  isplitl [H3]; · iexact H3
  iexact H4

/-! ## The launch element -/

/-- The kernel's own semaphores apart from the barrier's. -/
abbrev Own : Type := (Bool × Fin 8) ⊕ (Bool × Fin 8) ⊕ Bool
def osem : Own → SemLoc sig
  | .inl x => loc (.snd x.1 x.2)
  | .inr (.inl x) => loc (.rcv x.1 x.2)
  | .inr (.inr δ) => loc (.crd δ)

theorem ownSemFacts : Pipeline.OwnSemFacts cfg0.spec osem := by decide +kernel

def u₀ : UU :=
  (initOf (Pipeline.cells cfgs cellOf_inj) (Pipeline.launchToks cfgs cellOf_inj), (initOf allCells allToks, initSlots keys 1))

/-- All of the kernel's resources, before they are dealt. -/
def heap : sProp 𝕄 :=
  iprop((bigSep Finset.univ fun x : Dev nD × Cid => roundState ER (Rd B) (cell x.1 x.2) 0)
    ∗ (bigSep Finset.univ fun x : Dev nD × Cid => reached ER (cell x.1 x.2) 0)
    ∗ (bigSep Finset.univ fun x : Dev nD × Cid => atPos ER (cell x.1 x.2) 0 ∅ 0)
    ∗ (bigSep allToks fun x => dutyTok ER x.1 x.2.1 x.2.2)
    ∗ BI.own (ES (initSlots keys 1)))

/-- They are first given to device 0. -/
def G (c : Dev nD) : sProp 𝕄 := if c = 0 then heap B else iprop(emp)

theorem heap_intro : BI.own (embR (initOf allCells allToks, initSlots keys 1)) ⊢ (|==> heap B : sProp 𝕄) := by
  iintro H
  ihave H := (own_pair_emb (embR : Emb UB (MT nD τ sig ℕ (Elt F) ℕ UU ℕ)) (initOf allCells allToks) (initSlots keys 1)) $$ H
  icases H with ⟨HR, HS⟩
  imod (Rounds.fund ER (Rd B) allCells allToks) $$ HR with ⟨Hst, Hr, Hat, Htok⟩
  imodintro
  ihave Hst := (Entails.of_eq (bigSep_cells fun g => roundState ER (Rd B) g 0)) $$ Hst
  ihave Hr := (Entails.of_eq (bigSep_cells fun g => reached ER g 0)) $$ Hr
  ihave Hat := (Entails.of_eq (bigSep_cells fun g => atPos ER g 0 ∅ 0)) $$ Hat
  unfold heap
  isplitl [Hst]; · iexact Hst
  isplitl [Hr]; · iexact Hr
  isplitl [Hat]; · iexact Hat
  isplitl [Htok]; · iexact Htok
  iexact HS

theorem G_intro : heap B ⊢ (bigSep Finset.univ (G B) : sProp 𝕄) := by
  rw [bigSep_univ_at _ (0 : Dev nD), bigSep_congr (s := Finset.univ.erase (0 : Dev nD)) (Φ := G B) (Ψ := fun _ => iprop(emp)) (fun c hc => if_neg (Finset.ne_of_mem_erase hc)),
    show G B (0 : Dev nD) = heap B from if_pos rfl]
  iintro H
  isplitl [H]; · iexact H
  rw [show (bigSep (Finset.univ.erase (0 : Dev nD)) fun _ => (iprop(emp) : sProp 𝕄)) = iprop(emp) from bigSep_emp_const _]
  iempintro

theorem G_elim : (bigSep Finset.univ (G B) : sProp 𝕄) ⊢ heap B :=
  (bigSep_elim (Finset.mem_univ (0 : Dev nD))).trans (Entails.of_eq (show G B (0 : Dev nD) = heap B from if_pos rfl))

/-! ## Dealt -/

/-- What everyone knows, apart from the levels. -/
def Know (K : Dev nD × Cid → ℕ) (ι : Key → ℕ) : sProp 𝕄 :=
  iprop((bigSep Finset.univ fun x => iprop(cellInv ER (Rd B) (K x) (cell x.1 x.2) ∗ reached ER (cell x.1 x.2) 0))
    ∗ (bigSep keys fun k => slotInv ES (ι k) k (free k.1 k.2.1 k.2.2)))
instance Know_persistent (K : Dev nD × Cid → ℕ) (ι : Key → ℕ) : BI.Persistent (Know B K ι) := by unfold Know; infer_instance

/-- A device's share. -/
def G' (c : Dev nD) : sProp 𝕄 :=
  iprop(∃ K ι, Know B K ι ∗ (bigSep Finset.univ fun δ : Bool => Lin₀ c δ) ∗ atPos ER (cell c .bar) 0 ∅ 0)

theorem sep_assoc4 (P Q R S : sProp 𝕄) : iprop((P ∗ Q ∗ R) ∗ S) = iprop(P ∗ Q ∗ R ∗ S) := by
  refine BI.Entails.antisymm ?_ ?_
  · show iprop((P ∗ Q ∗ R) ∗ S) ⊢ iprop(P ∗ Q ∗ R ∗ S)
    iintro ⟨⟨H1, H2, H3⟩, H4⟩
    isplitl [H1]; · iexact H1
    isplitl [H2]; · iexact H2
    isplitl [H3]; · iexact H3
    iexact H4
  · show iprop(P ∗ Q ∗ R ∗ S) ⊢ iprop((P ∗ Q ∗ R) ∗ S)
    iintro ⟨H1, H2, H3, H4⟩
    isplitr [H4]
    · isplitl [H1]; · iexact H1
      isplitl [H2]; · iexact H2
      iexact H3
    iexact H4

theorem bar_eq (c : Dev nD) : (unscopedSems0 c : sProp 𝕄) = semVal (cell c .bar) 0 := by
  unfold unscopedSems0; rw [bigSep_eq_bigSepL_of_eq [SemLoc.reg semB] (by decide) (by decide)]; rfl

theorem bigSep_cids (Φ : Cid → sProp 𝕄) : bigSep Finset.univ Φ
    = iprop((bigSep Finset.univ fun x : Own => Φ (cids (x.elim .inl fun x => x.elim (fun y => .inr (.inl y)) fun y => .inr (.inr (.inl y))))) ∗ Φ .bar) := by
  rw [bigSep_univ_equiv cids, bigSep_univ_sum, bigSep_univ_sum, bigSep_univ_sum, bigSep_univ_sum, bigSep_univ_sum,
    show (Finset.univ : Finset Unit) = {()} from rfl, bigSep_singleton]
  exact (sep_assoc4 _ _ _ _).symm

theorem sems0_eq (c : Dev nD) :
    (bigSep Finset.univ fun i : Cid => semVal (cell c i) 0 : sProp 𝕄)
      = iprop(Pipeline.ownSems0 (Ix := ℕ) (Name := ℕ) (U := UU) (Lvl := ℕ) (Val := Elt F) (τ := τ) osem c ∗ unscopedSems0 c) := by
  rw [bigSep_cids, bar_eq]
  unfold Pipeline.ownSems0
  refine congrArg (fun P => iprop(P ∗ semVal (cell c .bar) 0)) (bigSep_congr fun x _ => ?_)
  rcases x with x | x | x <;> rfl

/-- The cells' invariants, from their counters and their states. -/
theorem cells_alloc :
    iprop((bigSep Finset.univ fun x : Dev nD × Cid => semVal (cell x.1 x.2) 0) ∗ bigSep Finset.univ fun x : Dev nD × Cid => roundState ER (Rd B) (cell x.1 x.2) 0)
      ⊢ (|={Set.univ}=> ∃ K : Dev nD × Cid → ℕ, bigSep Finset.univ fun x : Dev nD × Cid => cellInv ER (Rd B) (K x) (cell x.1 x.2) : sProp 𝕄) := by
  rw [← bigSep_sep']
  exact ((bigSep_mono fun x _ => (Rounds.body_intro ER (Rd B) (cell x.1 x.2)).trans inv_alloc).trans (bigSep_fupd _ _)).trans
    (fupd_mono (bigSep_exists_pi Finset.univ (fun (x : Dev nD × Cid) (κ : ℕ) => (cellInv ER (Rd B) κ (cell x.1 x.2) : sProp 𝕄))))

theorem share_out (K : Dev nD × Cid → ℕ) (ι : Key → ℕ) :
    iprop(Know B K ι ∗ bigSep Finset.univ fun c : Dev nD => iprop((bigSep Finset.univ fun δ : Bool => Lin₀ c δ) ∗ atPos ER (cell c .bar) 0 ∅ 0))
      ⊢ (bigSep Finset.univ (G' B) : sProp 𝕄) :=
  bigSep_with_persistent fun c _ => by
    show iprop(Know B K ι ∗ (bigSep Finset.univ fun δ : Bool => Lin₀ c δ) ∗ atPos ER (cell c .bar) 0 ∅ 0) ⊢ G' B c
    unfold G'
    iintro H
    iexists K, ι
    iexact H

theorem sems_heap : (bigSep Finset.univ fun c => iprop(Pipeline.ownSems0 (Ix := ℕ) (Name := ℕ) (U := UU) (Lvl := ℕ) (Val := Elt F) (τ := τ) osem c ∗ unscopedSems0 c ∗ G B c) : sProp 𝕄)
    ⊢ iprop((bigSep Finset.univ fun x : Dev nD × Cid => semVal (cell x.1 x.2) 0) ∗ heap B) := by
  rw [bigSep_univ_prod, bigSep_congr (s := Finset.univ) (fun (c : Dev nD) _ => sems0_eq (F := F) c)]
  rw [bigSep_sep', bigSep_sep', bigSep_sep']
  iintro ⟨H1, H2, H3⟩
  isplitl [H1 H2]
  · isplitl [H1]; · iexact H1
    iexact H2
  iapply (G_elim B); iexact H3

end Cert.Mlp

end
-- ==== Proof.Shares.lean ====
/-
# Each device's share at the launch

The launch's global step: the cells' invariants and the slots' are made, known to all, and what the devices own is dealt.
-/
module

public import proofs.«01_k».proof.Proof.Glob

@[expose] public section

set_option maxRecDepth 16384
set_option maxHeartbeats 1000000

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (B : Blocks F)

/-- The slots' invariants, with their first readers and writers. -/
theorem slots_gen (ks : Finset Key) (Sl : Key → sProp 𝕄) [∀ k, Storable (upEmb : UEmb _ 𝕄) (Sl k)] : BI.own (ES (initSlots ks 1))
    ⊢ (|={Set.univ}=> iprop(∃ ι : Key → ℕ, (bigSep ks fun k => slotInv ES (ι k) k (Sl k))
      ∗ (bigSep ks fun k => readerAt ES k 0) ∗ bigSep (ks ×ˢ Finset.range 1) fun x => writeTok ES x.1 (x.2 + 1)) : sProp 𝕄) := by
  iintro HS
  imod (slots_init ES ks 1 Sl (Es := Set.univ)) $$ HS with ⟨%ι, -, #Hs, Hrd, Hwr⟩
  imodintro
  iexists ι
  isplitr; · iexact Hs
  isplitl [Hrd]; · iexact Hrd
  iexact Hwr

/-- A slot by its key. -/
def freeAt (k : Key) : sProp 𝕄 := free k.1 k.2.1 k.2.2
instance freeAt_storable (k : Key) : BI.Storable (upEmb : UEmb _ 𝕄) (freeAt (F := F) k) := by unfold freeAt; infer_instance

/-- The same at the rings' slots. -/
theorem slots_alloc : BI.own (ES (initSlots keys 1))
    ⊢ (|={Set.univ}=> iprop(∃ ι : Key → ℕ, (bigSep keys fun k => slotInv ES (ι k) k (freeAt k))
      ∗ (bigSep keys fun k => readerAt ES k 0) ∗ bigSep (keys ×ˢ Finset.range 1) fun x => writeTok ES x.1 (x.2 + 1)) : sProp 𝕄) :=
  slots_gen keys freeAt

/-- What everyone knows, put together. -/
theorem know_intro (K : Dev nD × Cid → ℕ) (ι : Key → ℕ) :
    iprop((bigSep Finset.univ fun x : Dev nD × Cid => cellInv ER (Rd B) (K x) (cell x.1 x.2)) ∗ (bigSep Finset.univ fun x : Dev nD × Cid => reached ER (cell x.1 x.2) 0)
      ∗ (bigSep keys fun k => slotInv ES (ι k) k (freeAt k))) ⊢ Know B K ι := by
  unfold Know freeAt
  rw [bigSep_sep']
  iintro ⟨HI, Hr, Hs⟩
  isplitr [Hs]
  · isplitl [HI]; · iexact HI
    iexact Hr
  iexact Hs

/-- The order in which the resources are opened, whatever they are. -/
theorem open_all {V S R A T W C D : sProp 𝕄} {I : Type} {J : Type} {P : I → sProp 𝕄} {Z : J → sProp 𝕄} {X Y : sProp 𝕄} {Kn : I → J → sProp 𝕄}
    (h1 : iprop(V ∗ S) ⊢ |={Set.univ}=> ∃ K, P K) (h2 : W ⊢ |={Set.univ}=> ∃ ι, Z ι ∗ X ∗ Y) (h3 : iprop(A ∗ T ∗ X ∗ Y) ⊢ D)
    (h4 : ∀ K ι, iprop(P K ∗ R ∗ Z ι) ⊢ Kn K ι) (h5 : ∀ K ι, iprop(Kn K ι ∗ D) ⊢ C) :
    iprop(V ∗ S ∗ R ∗ A ∗ T ∗ W) ⊢ |={Set.univ}=> C := by
  iintro ⟨Hv, Hst, Hr, Hat, Htok, HS⟩
  imod h1 $$ [Hv Hst] with ⟨%K, HI⟩
  · isplitl [Hv]; · iexact Hv
    iexact Hst
  imod h2 $$ HS with ⟨%ι, Hs, Hrd, Hwr⟩
  imodintro
  iapply (h5 K ι)
  isplitl [HI Hr Hs]
  · iapply (h4 K ι)
    isplitl [HI]; · iexact HI
    isplitl [Hr]; · iexact Hr
    iexact Hs
  iapply h3
  isplitl [Hat]; · iexact Hat
  isplitl [Htok]; · iexact Htok
  isplitl [Hrd]; · iexact Hrd
  iexact Hwr

/-- The machine's resources, opened and dealt. -/
theorem heap_deal :
    iprop((bigSep Finset.univ fun x : Dev nD × Cid => semVal (cell x.1 x.2) 0) ∗ heap B) ⊢ (|={Set.univ}=> bigSep Finset.univ (G' B) : sProp 𝕄) :=
  open_all (cells_alloc B) slots_alloc deal (know_intro B) (share_out B)

/-- The launch's global step. -/
theorem glob : (bigSep Finset.univ fun c => iprop(Pipeline.ownSems0 (Ix := ℕ) (Name := ℕ) (U := UU) (Lvl := ℕ) (Val := Elt F) (τ := τ) osem c ∗ unscopedSems0 c ∗ G B c) : sProp 𝕄)
    ⊢ |={Set.univ}=> bigSep Finset.univ (G' B) :=
  (sems_heap B).trans (heap_deal B)

end Cert.Mlp

end
-- ==== Proof.Launch.lean ====
/-
# The launch

The kernel is one region of the program: its windows are staged, its body runs once on each device, its result is
written back. From any memory every execution ends, with each device's result array at what the body computed.
-/
module

public import proofs.«01_k».proof.Proof.Shares
public import proofs.«01_k».proof.Proof.Gen.KernelIdeal.Points
public import Idealize.ShloMosaic.Lib.Pipeline.CollectiveSegs

@[expose] public section

set_option maxRecDepth 16384
set_option maxHeartbeats 1000000

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (l : Loc nD τ sig) → Buf (Elt F) l) (ρ : Dev nD → PrngReg)

/-! ## The region's data -/

/-- The memory at the start: any contents, all counters zero. -/
abbrev s₀ : MemSt nD τ sig (Elt F) := ⟨m, fun _ => 0, ρ⟩

/-- The blocks staged from the devices' arguments. -/
def blocks : Blocks F where
  x c := (win0_0.blk (0 : Fin 1)).view.read (Elt F) (m ((c : Thread nD τ).loc main_arg0))
  wi l c := match l with
    | 0 => (win0_1.blk (0 : Fin 1)).view.read (Elt F) (m ((c : Thread nD τ).loc main_arg1))
    | 1 => (win0_3.blk (0 : Fin 1)).view.read (Elt F) (m ((c : Thread nD τ).loc main_arg3))
    | _ => (win0_5.blk (0 : Fin 1)).view.read (Elt F) (m ((c : Thread nD τ).loc main_arg5))
  wo l c := match l with
    | 0 => (win0_2.blk (0 : Fin 1)).view.read (Elt F) (m ((c : Thread nD τ).loc main_arg2))
    | 1 => (win0_4.blk (0 : Fin 1)).view.read (Elt F) (m ((c : Thread nD τ).loc main_arg4))
    | _ => (win0_6.blk (0 : Fin 1)).view.read (Elt F) (m ((c : Thread nD τ).loc main_arg6))

/-- A whole buffer at some contents. -/
def some_ (c : Dev nD) (b : Ref sig .tc) : sProp 𝕄 := iprop(∃ f : Buf (Elt F) ((c : Thread nD τ).loc b), ((c : Thread nD τ).loc b) ↦{fullShare} f)

/-- What a device starts with. -/
def start (c : Dev nD) : sProp 𝕄 :=
  iprop((∃ K ι, Ctx (blocks m) K ι ∗ Lin c false ∗ Lin c true ∗ atPos ER (cell c .bar) 0 ∅ 0) ∗ cred (tallyAt (cell c .bar) 1 2))

/-- What the body takes besides its windows. -/
def Φ₀ (c : Dev nD) : sProp 𝕄 := iprop(start m c ∗ some_ c cc0_scratch0 ∗ some_ c cc0_scratch1 ∗ ringBuf c false ∗ ringBuf c true)
/-- What it leaves. -/
def Φ₁ (c : Dev nD) : sProp 𝕄 :=
  iprop((bigSep Finset.univ fun i : Cid => semVal (cell c i) 0) ∗ some_ c cc0_scratch0 ∗ some_ c cc0_scratch1 ∗ ringBuf c false ∗ ringBuf c true)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => (blocks m).x c
    | ⟨1, _⟩ => (blocks m).wi 0 c
    | ⟨2, _⟩ => (blocks m).wo 0 c
    | ⟨3, _⟩ => (blocks m).wi 1 c
    | ⟨4, _⟩ => (blocks m).wo 1 c
    | ⟨5, _⟩ => (blocks m).wi 2 c
    | ⟨6, _⟩ => (blocks m).wo 2 c
    | ⟨7, _⟩ => result (blocks m) c
    | ⟨_ + 8, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0

theorem share_eq (c : Dev nD) (w : Fin cfg0.W) : (dats m ρ 0 c).share w = fullShare := by unfold Pipeline.Dat.share; split <;> rfl

/-! ## The body -/

theorem before_in (c : Dev nD) (w : Fin cfg0.W) (d) (h : (cfg0.win w).fetch t₀ = true) :
    (dats m ρ 0 c).before w t₀ d = (dats m ρ 0 c).fetched w t₀ d := by
  unfold Pipeline.Dat.before; rw [if_pos h]

theorem holds_intro (c : Dev nD) (b : Ref sig .tc) (X : b.ty.Contents (Elt F)) : (((c : Thread nD τ).loc b) ↦{fullShare} X : sProp 𝕄) ⊢ owns (c : Thread nD τ) (Memref.whole b) fullShare X :=
  Entails.of_eq (owns_whole (c : Thread nD τ) b fullShare X).symm
theorem holds_elim (c : Dev nD) (b : Ref sig .tc) (X : b.ty.Contents (Elt F)) : owns (c : Thread nD τ) (Memref.whole b) fullShare X ⊢ (some_ c b : sProp 𝕄) := by
  rw [owns_whole]
  unfold some_
  iintro H
  iexists X
  iexact H

/-- The staged windows before the body. -/
def winsPre (c : Dev nD) : sProp 𝕄 :=
  iprop((∃ d, holds c (Memref.whole cc0_stg0_0) ((dats m ρ 0 c).before (0 : Fin 8) t₀ d)) ∗ (∃ d, holds c (Memref.whole cc0_stg1_0) ((dats m ρ 0 c).before (1 : Fin 8) t₀ d))
    ∗ (∃ d, holds c (Memref.whole cc0_stg2_0) ((dats m ρ 0 c).before (2 : Fin 8) t₀ d)) ∗ (∃ d, holds c (Memref.whole cc0_stg3_0) ((dats m ρ 0 c).before (3 : Fin 8) t₀ d))
    ∗ (∃ d, holds c (Memref.whole cc0_stg4_0) ((dats m ρ 0 c).before (4 : Fin 8) t₀ d)) ∗ (∃ d, holds c (Memref.whole cc0_stg5_0) ((dats m ρ 0 c).before (5 : Fin 8) t₀ d))
    ∗ (∃ d, holds c (Memref.whole cc0_stg6_0) ((dats m ρ 0 c).before (6 : Fin 8) t₀ d)) ∗ (∃ d, holds c (Memref.whole cc0_stg7_0) ((dats m ρ 0 c).before (7 : Fin 8) t₀ d)))

/-- The staged windows after it. -/
def winsPost (c : Dev nD) : sProp 𝕄 :=
  iprop(holds c (Memref.whole cc0_stg0_0) ((blocks m).x c)
    ∗ holds c (Memref.whole cc0_stg1_0) ((blocks m).wi 0 c) ∗ holds c (Memref.whole cc0_stg2_0) ((blocks m).wo 0 c)
    ∗ holds c (Memref.whole cc0_stg3_0) ((blocks m).wi 1 c) ∗ holds c (Memref.whole cc0_stg4_0) ((blocks m).wo 1 c)
    ∗ holds c (Memref.whole cc0_stg5_0) ((blocks m).wi 2 c) ∗ holds c (Memref.whole cc0_stg6_0) ((blocks m).wo 2 c)
    ∗ holds c (Memref.whole cc0_stg7_0) (result (blocks m) c))

theorem wins_reg (c : Dev nD) : iprop(winsPre m ρ c ∗ some_ c cc0_scratch0 ∗ some_ c cc0_scratch1)
    ⊢ iprop(∃ X A O, Reg (blocks m) c X A O) := by
  unfold winsPre some_
  iintro ⟨⟨⟨%d0, H0⟩, ⟨%d1, H1⟩, ⟨%d2, H2⟩, ⟨%d3, H3⟩, ⟨%d4, H4⟩, ⟨%d5, H5⟩, ⟨%d6, H6⟩, ⟨%d7, H7⟩⟩, ⟨%X, HX⟩, ⟨%A, HA⟩⟩
  rw [before_in m ρ c 0 d0 (fetch0_0 t₀), before_in m ρ c 1 d1 (fetch0_1 t₀), before_in m ρ c 2 d2 (fetch0_2 t₀), before_in m ρ c 3 d3 (fetch0_3 t₀),
    before_in m ρ c 4 d4 (fetch0_4 t₀), before_in m ρ c 5 d5 (fetch0_5 t₀), before_in m ρ c 6 d6 (fetch0_6 t₀)]
  iexists X, A, _
  unfold Reg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iapply (holds_intro c cc0_scratch0 X); iexact HX
  iapply (holds_intro c cc0_scratch1 A); iexact HA

theorem reg_wins (c : Dev nD) {X : Vec F S512x256 .bf16} {A : Vec F S512x256 .f32} : Reg (blocks m) c X A (result (blocks m) c)
    ⊢ iprop(winsPost m c ∗ some_ c cc0_scratch0 ∗ some_ c cc0_scratch1) := by
  unfold Reg winsPost
  iintro ⟨H0, H1, H2, H3, H4, H5, H6, H7, HX, HA⟩
  isplitr [HX HA]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HX]; · iapply (holds_elim c cc0_scratch0 X); iexact HX
  iapply (holds_elim c cc0_scratch1 A); iexact HA

theorem owes_in (c : Dev nD) : (dats m ρ 0 c).owesAt (0 : ℕ) t₀.castSucc ⊢ iprop(∃ W, owes (c : Thread nD τ) (O₀ c) W) := by
  unfold Pipeline.Dat.owesAt Pipeline.owesWithin
  iintro ⟨%W, -, H⟩
  iexists W
  rw [show (dats m ρ 0 c).owed t₀.castSucc = O₀ c from rfl]
  iexact H

theorem owes_out (c : Dev nD) : iprop(∃ W, owes (c : Thread nD τ) 0 W) ⊢ (dats m ρ 0 c).owesAt (0 : ℕ) t₀.succ := by
  unfold Pipeline.Dat.owesAt Pipeline.owesWithin
  rw [show (dats m ρ 0 c).owed t₀.succ = 0 from rfl]
  iintro ⟨%W, H⟩
  iexists W
  isplitr; · ipureintro; exact fun _ _ => Or.inl trivial
  iexact H

theorem body_run (c : Dev nD) :
    iprop(Φ₀ m c ∗ (∃ W, owes (c : Thread nD τ) (O₀ c) W) ∗ winsPre m ρ c)
      ⊢ run c (on (cc0_body (F := F))) fun _ => iprop(Φ₁ c ∗ (dats m ρ 0 c).owesAt (0 : ℕ) t₀.succ ∗ winsPost m c) := by
  unfold Φ₀ start
  iintro ⟨⟨⟨⟨%K, %ι, HC, Hl0, Hl1, Hat⟩, Hcr⟩, HX, HA, Hb0, Hb1⟩, HO, Hw⟩
  ihave HR := (wins_reg m ρ c) $$ [Hw HX HA]
  · isplitl [Hw]; · iexact Hw
    isplitl [HX]; · iexact HX
    iexact HA
  icases HR with ⟨%X, %A, %O, HR⟩
  iapply (body (B := blocks m) (K := K) (ι := ι) (c := c)) $$ [HC Hl0 Hl1 Hat Hcr HO Hb0 Hb1 HR]
  · isplitl [HC]; · iexact HC
    isplitl [Hl0]; · iexact Hl0
    isplitl [Hl1]; · iexact Hl1
    isplitl [Hat]; · iexact Hat
    isplitl [Hcr]; · iexact Hcr
    isplitl [HO]; · iexact HO
    isplitl [Hb0]; · iapply (ring_split c false); iexact Hb0
    isplitl [Hb1]; · iapply (ring_split c true); iexact Hb1
    iexact HR
  iintro ⟨HRun, HR, Hat⟩
  imod (finish (B := blocks m) (K := K) (ι := ι) (c := c)) $$ [HRun Hat] with ⟨Hs, Hb0, Hb1, HO⟩
  · isplitl [HRun]; · iexact HRun
    iexact Hat
  imodintro
  ihave H := (reg_wins m c) $$ HR
  icases H with ⟨Hw, HX, HA⟩
  unfold Φ₁
  isplitr [HO Hw]
  · isplitl [Hs]; · iexact Hs
    isplitl [HX]; · iexact HX
    isplitl [HA]; · iexact HA
    isplitl [Hb0]; · iexact Hb0
    iexact Hb1
  isplitl [HO]; · iapply (owes_out m ρ c); iexact HO
  iexact Hw

theorem body_obligation (c : Dev nD) : Pipeline.BodyObligation (dats (F := F) m ρ 0 c) (defs₀ (F := F)) 𝒱₀ (0 : ℕ) Set.univ := fun t => by
  rw [fin_N0 t, bigSep_W0, bigSep_W0]
  show iprop(Φ₀ m c ∗ (dats m ρ 0 c).owesAt (0 : ℕ) t₀.castSucc ∗ winsPre m ρ c)
    ⊢ run c (on (cc0_body (F := F))) fun _ => iprop(Φ₁ c ∗ (dats m ρ 0 c).owesAt (0 : ℕ) t₀.succ ∗ winsPost m c)
  iintro ⟨H1, HO, Hw⟩
  iapply (body_run m ρ c)
  isplitl [H1]; · iexact H1
  isplitl [HO]; · iapply (owes_in m ρ c); iexact HO
  iexact Hw

/-! ## Entering and leaving -/

/-- The rearrangement of a device's resources at the start, whatever they are. -/
theorem start_rearr {I J : Type} {Kn Cx : I → J → sProp 𝕄} {R Lev Cr P Ls At Cs Bar L0 L1 : sProp 𝕄} (h1 : Cr ⊢ iprop(Cs ∗ Bar))
    (h2 : ∀ K ι, iprop(Kn K ι ∗ Lev) ⊢ Cx K ι) (h3 : iprop(Ls ∗ Cs) ⊢ iprop(L0 ∗ L1)) :
    iprop(R ∗ Lev ∗ Cr ∗ P ∗ ∃ K ι, Kn K ι ∗ Ls ∗ At) ⊢ |={Set.univ}=> iprop(((∃ K ι, Cx K ι ∗ L0 ∗ L1 ∗ At) ∗ Bar) ∗ emp) := by
  iintro ⟨-, Hlev, Hcr, -, ⟨%K, %ι, Hk, Hl, Hat⟩⟩
  ihave Hc := h1 $$ Hcr
  icases Hc with ⟨Hc, Hbar⟩
  ihave HL := h3 $$ [Hl Hc]
  · isplitl [Hl]; · iexact Hl
    iexact Hc
  icases HL with ⟨H0, H1⟩
  imodintro
  isplitl
  · isplitr [Hbar]
    · iexists K, ι
      isplitl [Hk Hlev]
      · iapply (h2 K ι)
        isplitl [Hk]; · iexact Hk
        iexact Hlev
      isplitl [H0]; · iexact H0
      isplitl [H1]; · iexact H1
      iexact Hat
    iexact Hbar
  iempintro

theorem ctx_intro (B : Blocks F) (K : Dev nD × Cid → ℕ) (ι : Key → ℕ) : iprop(Know B K ι ∗ levAts L lv) ⊢ (Ctx B K ι : sProp 𝕄) := by
  unfold Know Ctx
  exact sep_assoc.1

theorem lins_intro (c : Dev nD) :
    iprop((bigSep Finset.univ fun δ : Bool => Lin₀ c δ) ∗ bigSep Finset.univ fun δ : Bool => iprop(bigSep (Finset.Ico 0 45) (rcvCred c δ) ∗ bigSep (Finset.Ico 0 43) (crdCred c δ)))
      ⊢ (iprop(Lin c false ∗ Lin c true) : sProp 𝕄) := by
  rw [← bigSep_sep', bigSep_bool]
  exact BI.sep_mono (Lin_intro c false) (Lin_intro c true)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (blocks m) c)
      ⊢ |={Set.univ}=> iprop(start m c ∗ emp) :=
  start_rearr (creds c) (ctx_intro (blocks m)) (lins_intro c)

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ some_ ringBuf
  iintro ⟨Hs, -, H0, H1, H2, H3⟩
  isplitl [Hs]; · iexact Hs
  isplitl [H0]; · iexact H0
  isplitl [H1]; · iexact H1
  isplitl [H2]; · iexact H2
  iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ some_ ringBuf
  rw [sems0_eq]
  iintro ⟨⟨Ho, Hu⟩, H0, H1, H2, H3⟩
  isplitl [Hu]; · iexact Hu
  isplitl [Ho]; · iexact Ho
  isplitl [H0]; · iexact H0
  isplitl [H1]; · iexact H1
  isplitl [H2]; · iexact H2
  iexact H3

theorem O₀_over (c : Dev nD) : Over 0 (O₀ c) :=
  (((owed_over c false ⟨0, 0, 0, 0, 0, 0⟩ 0 (by decide)).add (owed_over c true ⟨0, 0, 0, 0, 0, 0⟩ 0 (by decide))).add
    (Over.tally _ _ _ (by decide) (by decide))).add (Over.tally _ _ _ (by decide) (by decide))

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait c _ 0 (by decide) _ (by
      rcases t with ⟨_ | _, ht⟩
      · exact O₀_over c
      · exact Over.zero 0)

/-! ## The run -/

/-- What the launch leaves in the array of window `w`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every execution of the program ends; then the arguments are as they were, the
    results are what the bodies computed and all counters are zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl) (hbody := body_obligation m ρ) (hne := fun w => by fin_cases w <;> exact Nat.succ_pos _)
    (harr := arr_whole0) (hstage := stage_whole0) (hshare := share_eq m ρ) (hdistinct := winFacts0.arr_inj)
    (O₀ := O₀) (howed₀ := fun _ => rfl) (howedN := fun _ => rfl) (L := L) (lv := lv) (hL := L_of_ne) (hwaits := waits m ρ)
    (G := G (blocks m)) (G' := G' (blocks m)) (u₀ := u₀)
    (hu₀ := by
      unfold u₀
      iintro Hu
      ihave H := (ownU_pair _ _) $$ Hu
      icases H with ⟨HP, HX⟩
      imod (heap_intro (blocks m)) $$ HX with HG
      imodintro
      isplitl [HP]; · iexact HP
      iapply (G_intro (blocks m)); iexact HG)
    (hglob := glob (blocks m)) (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mlp

end
-- ==== Proof.SameText.lean ====
/-
# One text read twice

The program and its idealization are one text: their regions and their main functions are the same at every reading
of the floats. So what is shown of the idealization's text at the machine's floats holds of the program.
-/
module

public import proofs.«01_k».proof.Defs
public import proofs.«01_k».proof.Proof.Gen.Kernel
public import proofs.«01_k».proof.Proof.Gen.KernelIdeal

@[expose] public section

noncomputable section

namespace Cert.Mlp

open Idealize.ShloMosaic Idealize.SL.Sem

variable {F : FTy → Type} [FloatOps F]

set_option maxRecDepth 65536 in
/-- The kernels of the two programs are the same functions. -/
theorem kernels_eq : Cert.Kernel.defs₀ (F := F) = Cert.KernelIdeal.defs₀ (F := F) := by
  unfold Cert.Kernel.defs₀ Cert.KernelIdeal.defs₀
  congr 1
  funext ℓ a
  match ℓ, a with
  | 0, (t, s) => rfl
  | ⟨_ + 1, h⟩, _ => exact absurd h (Nat.not_lt.2 (Nat.le_add_left _ _))

/-- So are the functions the two programs call. -/
theorem defs_eq : Cert.Kernel.defs (F := F) = Cert.KernelIdeal.defs (F := F) :=
  congrArg (Pipeline.defs Cert.KernelIdeal.pcfgs) kernels_eq

/-- A run of the idealization's text is a run of the program's. -/
theorem run_same {m : (ℓ : Loc Cert.KernelIdeal.nD Cert.KernelIdeal.τ Cert.KernelIdeal.sig) → Buf (Elt F) ℓ} {g : Dev Cert.KernelIdeal.nD → PrngReg}
    {Q : PUnit × MemSt Cert.KernelIdeal.nD Cert.KernelIdeal.τ Cert.KernelIdeal.sig (Elt F) → Prop}
    (h : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  rw [defs_eq]
  exact h

end Cert.Mlp

end
-- ==== Proof.Frames.lean ====
/-
# The frames

At the end of every execution of the kernel the arguments are as they were, the result array holds what the body
computed, and every counter is zero.
-/
module

public import proofs.«01_k».proof.Proof.Launch
public import proofs.«01_k».proof.Proof.SameText

@[expose] public section

set_option maxRecDepth 16384
set_option maxHeartbeats 1000000

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (l : Loc nD τ sig) → Buf (Elt F) l) (ρ : Dev nD → PrngReg)

/-- The arguments of a device are as they were. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

/-- The arguments are read only. -/
theorem kept_of {r : PUnit × MemSt nD τ sig (Elt F)} (h : QC m ρ r) (c : Dev nD) : Kept m r c :=
  ⟨(h c (0 : Fin 8)).trans ((dats m ρ 0 c).arrAt_in (0 : Fin 8) rfl _), (h c (1 : Fin 8)).trans ((dats m ρ 0 c).arrAt_in (1 : Fin 8) rfl _),
    (h c (2 : Fin 8)).trans ((dats m ρ 0 c).arrAt_in (2 : Fin 8) rfl _), (h c (3 : Fin 8)).trans ((dats m ρ 0 c).arrAt_in (3 : Fin 8) rfl _),
    (h c (4 : Fin 8)).trans ((dats m ρ 0 c).arrAt_in (4 : Fin 8) rfl _), (h c (5 : Fin 8)).trans ((dats m ρ 0 c).arrAt_in (5 : Fin 8) rfl _),
    (h c (6 : Fin 8)).trans ((dats m ρ 0 c).arrAt_in (6 : Fin 8) rfl _)⟩

/-- Every execution ends with the arguments as they were and every counter at zero. -/
theorem frame_run : θ_run defs (onTc (τ := τ) (main (F := F))) ⟨m, fun _ => 0, ρ⟩ (fun r => (∀ c, Kept m r c) ∧ r.2.sem = fun _ => 0) :=
  (θ_run defs _ _).mono (fun _ h => ⟨kept_of m ρ h.1, h.2⟩) (run_main m ρ)

/-- The frame of the kernel, -/
theorem quiescent_Kernel : Cert.quiescent_Kernel := fun m g _ => run_same (frame_run m g)
/-- and of the idealized kernel. -/
theorem quiescent_KernelIdeal : Cert.quiescent_KernelIdeal := fun m g _ => frame_run m g

end Cert.Mlp

end
-- ==== Proof.Value.lean ====
/-
# What the result array holds

Every array is staged whole, so a device's staged blocks are its arrays and its result array ends as the body's result.
-/
module

public import proofs.«01_k».proof.Proof.Frames
public import Idealize.ShloMosaic.Lib.Pipeline.Value

@[expose] public section

set_option maxRecDepth 16384
set_option maxHeartbeats 1000000

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (l : Loc nD τ sig) → Buf (Elt F) l) (ρ : Dev nD → PrngReg)

/-- The block of an array that is staged whole is the array. -/
theorem emb_whole (w : Fin 8) (i : ((cfg0.win w).xblock (cfg0.grid.coords (0 : Fin 1))).Idx) (b : Fin (cfg0.win w).shape.rank) :
    (((cfg0.win w).rect (0 : Fin 1)).emb i b).val = (i b).val := by
  refine Pipeline.Window.rect_emb_val_of_index_zero (cfg0.win w) (0 : Fin 1) b ?_ i
  revert b
  fin_cases w <;> decide

/-- Device `c`'s block of argument 0 is that argument. -/
theorem blocks_x (c : Dev nD) : (blocks m).x c = m ((c.tc : Thread nD τ).loc main_arg0) :=
  funext fun i => congrArg (m ((c.tc : Thread nD τ).loc main_arg0)) (funext fun b => Fin.ext (emb_whole (0 : Fin 8) i b))
/-- Device `c`'s block of argument 1 is that argument. -/
theorem blocks_wi0 (c : Dev nD) : (blocks m).wi 0 c = m ((c.tc : Thread nD τ).loc main_arg1) :=
  funext fun i => congrArg (m ((c.tc : Thread nD τ).loc main_arg1)) (funext fun b => Fin.ext (emb_whole (1 : Fin 8) i b))
/-- Device `c`'s block of argument 2 is that argument. -/
theorem blocks_wo0 (c : Dev nD) : (blocks m).wo 0 c = m ((c.tc : Thread nD τ).loc main_arg2) :=
  funext fun i => congrArg (m ((c.tc : Thread nD τ).loc main_arg2)) (funext fun b => Fin.ext (emb_whole (2 : Fin 8) i b))
/-- Device `c`'s block of argument 3 is that argument. -/
theorem blocks_wi1 (c : Dev nD) : (blocks m).wi 1 c = m ((c.tc : Thread nD τ).loc main_arg3) :=
  funext fun i => congrArg (m ((c.tc : Thread nD τ).loc main_arg3)) (funext fun b => Fin.ext (emb_whole (3 : Fin 8) i b))
/-- Device `c`'s block of argument 4 is that argument. -/
theorem blocks_wo1 (c : Dev nD) : (blocks m).wo 1 c = m ((c.tc : Thread nD τ).loc main_arg4) :=
  funext fun i => congrArg (m ((c.tc : Thread nD τ).loc main_arg4)) (funext fun b => Fin.ext (emb_whole (4 : Fin 8) i b))
/-- Device `c`'s block of argument 5 is that argument. -/
theorem blocks_wi2 (c : Dev nD) : (blocks m).wi 2 c = m ((c.tc : Thread nD τ).loc main_arg5) :=
  funext fun i => congrArg (m ((c.tc : Thread nD τ).loc main_arg5)) (funext fun b => Fin.ext (emb_whole (5 : Fin 8) i b))
/-- Device `c`'s block of argument 6 is that argument. -/
theorem blocks_wo2 (c : Dev nD) : (blocks m).wo 2 c = m ((c.tc : Thread nD τ).loc main_arg6) :=
  funext fun i => congrArg (m ((c.tc : Thread nD τ).loc main_arg6)) (funext fun b => Fin.ext (emb_whole (6 : Fin 8) i b))

/-- The result array ends as the body's result. -/
theorem finalA_result (c : Dev nD) : finalA m ρ c (7 : Fin 8) = result (blocks m) c := by
  have h : ((cfg0.win (7 : Fin 8)).blk (0 : Fin 1)).view.read (Elt F) (finalA m ρ c (7 : Fin 8)) = result (blocks m) c :=
    (dats m ρ 0 c).read_blk_arrAt_eq_flushed (7 : Fin 8) (fun t t' _ _ hn => absurd ((fin_N0 t).trans (fin_N0 t').symm) hn) cfg0.N (0 : Fin 1)
      Nat.one_pos (flush0_7 _)
  rw [← h]
  exact funext fun i => congrArg (finalA m ρ c (7 : Fin 8)) (funext fun b => Fin.ext (emb_whole (7 : Fin 8) i b).symm)

/-- Every execution leaves the body's result in each device's result array, and the arguments as they were. -/
theorem value_run : θ_run defs (onTc (τ := τ) (main (F := F))) ⟨m, fun _ => 0, ρ⟩
    (fun r => ∀ c : Dev nD, r.2.mem ((c.tc : Thread nD τ).loc main_v1) = result (blocks m) c ∧ Kept m r c) :=
  (θ_run defs _ _).mono (fun _ h c => ⟨(h.1 c (7 : Fin 8)).trans (finalA_result m ρ c), kept_of m ρ h.1 c⟩) (run_main m ρ)

end Cert.Mlp

end
-- ==== Proof.Sums.lean ====
/-
# The sums of one layer

Over the extended reals: what a layer adds up, in blocks of 256 hidden columns, is one sum over all the hidden columns.
-/
module

public import proofs.«01_k».proof.Proof.Body
public import Idealize.ShloMosaic.Lib.Pointwise
public import Idealize.ShloMosaic.PureOps.Ideal
public import Idealize.ShloMosaic.Lib.Layout

@[expose] public section

set_option maxRecDepth 16384
set_option maxHeartbeats 1000000

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

/-- The term of hidden column `h` in row `r` and column `k` of a layer's product. -/
def term {R n : ℕ} (X : FVec Ideal ⟨2, ![R, 256]⟩ .bf16) (W : FVec Ideal ⟨2, ![256, n]⟩ .bf16) (V : FVec Ideal ⟨2, ![n, 256]⟩ .bf16)
    (r : Fin R) (k : Fin 256) (h : Fin n) : EReal :=
  max (∑ i : Fin 256, X (ix2 r i) * W (ix2 i h)) 0 * V (ix2 h k)

/-- A device's own contribution, element by element. -/
theorem own_apply (X : FVec Ideal S512x256 .bf16) (W : FVec Ideal S256x512 .bf16) (V : FVec Ideal S512x256 .bf16) (r : Fin 512) (k : Fin 256) :
    own (F := Ideal) X W V (ix2 r k) = ∑ h : Fin 512, term X W V r k h := by
  pointwise [own, k0_pay26, term]

/-- The upper half of a packed slot is the first block, -/
theorem pack_upper (a b : FVec Ideal S256x256 .bf16) (i x : Fin 256) (h : i.val < 512) :
    pack (F := Ideal) a b (ix2 (⟨i.val, h⟩ : Fin 512) x) = a (ix2 i x) := by
  unfold pack
  rw [dif_pos (show ((ix2 (⟨i.val, h⟩ : Fin 512) x : S512x256.Idx) 0).val < 256 from i.isLt)]
  exact congrArg a (funext fun b => by match b with | ⟨0, _⟩ => rfl | ⟨1, _⟩ => rfl)

/-- and the lower half the second. -/
theorem pack_lower (a b : FVec Ideal S256x256 .bf16) (i x : Fin 256) (h : 256 + i.val < 512) :
    pack (F := Ideal) a b (ix2 (⟨256 + i.val, h⟩ : Fin 512) x) = b (ix2 i x) := by
  unfold pack
  rw [dif_neg (show ¬ ((ix2 (⟨256 + i.val, h⟩ : Fin 512) x : S512x256.Idx) 0).val < 256 from Nat.not_lt.2 (Nat.le_add_right 256 i.val))]
  refine congrArg b (funext fun b => by match b with | ⟨0, _⟩ => exact Fin.ext (Nat.add_sub_cancel_left 256 i.val) | ⟨1, _⟩ => rfl)

/-- What one slot adds, element by element. -/
theorem stp_apply (X : FVec Ideal S512x256 .bf16) (A : FVec Ideal S512x256 .f32) (a b a' b' : FVec Ideal S256x256 .bf16) (r : Fin 512) (k : Fin 256) :
    stp (F := Ideal) X A (pack a b) (pack a' b') (ix2 r k)
      = A (ix2 r k) + (∑ h : Fin 256, term X a b r k h) + ∑ h : Fin 256, term X a' b' r k h := by
  pointwise [stp, k0_pay27, k0_pay1, k0_pay3, k0_pay4, k0_pay2, lift, term]
  simp only [pack_upper, pack_lower]

/-- Over the reals the next layer's activations are the sums themselves. -/
theorem nextX_apply (A : FVec Ideal S512x256 .f32) (r : Fin 512) (k : Fin 256) : nextX (F := Ideal) A (ix2 r k) = A (ix2 r k) := by
  pointwise [nextX, k0_pay46]

/-! ## The steps of a layer meet every half of every device once -/

/-- The device and the half that direction `δ` brings at step `s + 1`. -/
def visit (c : Fin 16) (p : Fin 16 × Bool) : Fin 16 × Fin 2 := (src p.2 c (p.1.val + 1), half p.2 (p.1.val + 1))

/-- The step and direction that bring half `q` of device `j`. -/
def unvisit (c : Fin 16) (p : Fin 16 × Fin 2) : Fin 16 × Bool :=
  let f := (c - p.1).val
  let g := (p.1 - c).val
  if p.2 = 0 then (if 1 ≤ f ∧ f ≤ 8 then (⟨(2 * f - 1) % 16, Nat.mod_lt _ (by decide)⟩, false) else (⟨2 * g % 16, Nat.mod_lt _ (by decide)⟩, true))
  else (if 1 ≤ g ∧ g ≤ 8 then (⟨(2 * g - 1) % 16, Nat.mod_lt _ (by decide)⟩, true) else (⟨2 * f % 16, Nat.mod_lt _ (by decide)⟩, false))

/-- Each step and direction is found again from the half it brings. -/
theorem unvisit_visit : ∀ (c : Fin 16) (s : Fin 16) (δ : Bool), unvisit c (visit c (s, δ)) = (s, δ) := by decide +kernel

/-- So every half of every device is brought once. -/
theorem visit_bijective (c : Fin 16) : Function.Bijective (visit c) :=
  (Fintype.bijective_iff_injective_and_card _).2
    ⟨Function.LeftInverse.injective (g := unvisit c) fun p => unvisit_visit c p.1 p.2, by simp⟩

/-- So the sum over the steps and directions is the sum over the devices and halves. -/
theorem sum_visit (c : Fin 16) (f : Fin 16 × Fin 2 → EReal) : ∑ s : Fin 16, ∑ δ : Bool, f (visit c (s, δ)) = ∑ j : Fin 16, ∑ q : Fin 2, f (j, q) := by
  rw [← Fintype.sum_prod_type', ← Fintype.sum_prod_type']
  exact (visit_bijective c).sum_comp f

/-- A sum over `n` blocks of `k` is a sum over `n * k`. -/
theorem sum_blocks {n k : ℕ} (f : Fin (n * k) → EReal) (h : ∀ (i : Fin n) (j : Fin k), k * i.val + j.val < n * k) :
    ∑ i : Fin n, ∑ j : Fin k, f ⟨k * i.val + j.val, h i j⟩ = ∑ l : Fin (n * k), f l := by
  rw [← Fintype.sum_prod_type', ← Equiv.sum_comp finProdFinEquiv]
  exact Finset.sum_congr rfl fun p _ => congrArg f (Fin.ext (Nat.add_comm _ _))

end Cert.Mlp

end
-- ==== Proof.Layer.lean ====
/-
# One layer

The sums that a device ends a layer with are its rows of the layer of the whole arrays.
-/
module

public import proofs.«01_k».proof.Proof.Sums

@[expose] public section

set_option maxRecDepth 16384
set_option maxHeartbeats 1000000

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

/-- A layer of the whole arrays: the product with `W`, its positive part, the product with `V`. -/
def layer (X : FVec Ideal ⟨2, ![8192, 256]⟩ .bf16) (W : FVec Ideal ⟨2, ![256, 8192]⟩ .bf16) (V : FVec Ideal ⟨2, ![8192, 256]⟩ .bf16) :
    FVec Ideal ⟨2, ![8192, 256]⟩ .bf16 := fun i => ∑ h : Fin 8192, term X W V (i 0) (i 1) h

/-- What one half of a device's weights contributes. -/
def part (X : FVec Ideal S512x256 .bf16) (W : FVec Ideal S256x512 .bf16) (V : FVec Ideal S512x256 .bf16) (r : Fin 512) (k : Fin 256) (q : Fin 2) : EReal :=
  ∑ h : Fin 256, term X (wiHalf (F := Ideal) q W) (woHalf (F := Ideal) q V) r k h

/-- A column of a half of the columns, -/
theorem wiHalf_apply (q : Fin 2) (W : FVec Ideal S256x512 .bf16) (i h : Fin 256) (hh : 256 * q.val + h.val < 512) :
    wiHalf (F := Ideal) q W (ix2 i h) = W (ix2 i (⟨256 * q.val + h.val, hh⟩ : Fin 512)) :=
  congrArg W (funext fun b => by
    match b with
    | ⟨0, _⟩ => exact Fin.ext (by show 0 + 1 * i.val = i.val; omega)
    | ⟨1, _⟩ => exact Fin.ext (by show 256 * q.val + 1 * h.val = 256 * q.val + h.val; omega))
/-- and a row of a half of the rows. -/
theorem woHalf_apply (q : Fin 2) (V : FVec Ideal S512x256 .bf16) (h k : Fin 256) (hh : 256 * q.val + h.val < 512) :
    woHalf (F := Ideal) q V (ix2 h k) = V (ix2 (⟨256 * q.val + h.val, hh⟩ : Fin 512) k) :=
  congrArg V (funext fun b => by
    match b with
    | ⟨0, _⟩ => exact Fin.ext (by show 256 * q.val + 1 * h.val = 256 * q.val + h.val; omega)
    | ⟨1, _⟩ => exact Fin.ext (by show 0 + 1 * k.val = k.val; omega))

/-- A row of a half is a row of a device's block, -/
theorem in_half (q : Fin 2) (h : Fin 256) : 256 * q.val + h.val < 512 := by have := q.isLt; have := h.isLt; omega
/-- and a row of a block a row of the whole. -/
theorem in_whole (j : Fin 16) (h : Fin 512) : 512 * j.val + h.val < 16 * 512 := by have := j.isLt; have := h.isLt; omega

/-- A half's contribution is a stretch of 256 terms. -/
theorem part_eq (X : FVec Ideal S512x256 .bf16) (W : FVec Ideal S256x512 .bf16) (V : FVec Ideal S512x256 .bf16) (r : Fin 512) (k : Fin 256) (q : Fin 2) :
    part X W V r k q = ∑ h : Fin 256, term X W V r k ⟨256 * q.val + h.val, in_half q h⟩ :=
  Finset.sum_congr rfl fun h _ => by
    unfold term
    simp only [wiHalf_apply q W _ h (in_half q h), woHalf_apply q V h k (in_half q h)]

/-- The two halves of a device's own weights make its own contribution. -/
theorem own_parts (X : FVec Ideal S512x256 .bf16) (W : FVec Ideal S256x512 .bf16) (V : FVec Ideal S512x256 .bf16) (r : Fin 512) (k : Fin 256) : own (F := Ideal) X W V (ix2 r k) = ∑ q : Fin 2, part X W V r k q := by
  rw [own_apply]
  simp only [part_eq]
  exact (sum_blocks (n := 2) (k := 256) (fun l => term X W V r k l) in_half).symm

/-- After `n` further steps of a layer the sums hold what `n + 1` steps have brought. -/
theorem accV_apply (B : Blocks Ideal) (c : Fin 16) (l : ℕ) (X : FVec Ideal S512x256 .bf16) (r : Fin 512) (k : Fin 256) : ∀ n, n ≤ 15 →
    accV B c l X n (ix2 r k) = ∑ s ∈ Finset.range (n + 1), ∑ δ : Bool,
      part X (B.wi l (src δ c (s + 1))) (B.wo l (src δ c (s + 1))) r k (half δ (s + 1))
  | 0, _ => by
    rw [Finset.sum_range_one, Fintype.sum_bool]
    exact (own_parts X (B.wi l c) (B.wo l c) r k).trans (Fin.sum_univ_two _)
  | n + 1, h => by
    have h1 : (17 * l + n + 2) % 17 = n + 2 := by omega
    have h2 : (17 * l + n + 2) / 17 = l := by omega
    rw [Finset.sum_range_succ, ← accV_apply B c l X r k n (by omega), Fintype.sum_bool]
    show stp X (accV B c l X n) (piece B false c (17 * l + n + 2)) (piece B true c (17 * l + n + 2)) (ix2 r k) = _
    unfold piece
    rw [stp_apply, h1, h2, add_assoc, add_comm (∑ h, _)]
    rfl

/-- A layer on device `c`, when the devices hold their blocks of the whole arrays. -/
theorem layer_block (B : Blocks Ideal) (l : ℕ) (X : FVec Ideal ⟨2, ![8192, 256]⟩ .bf16) (W : FVec Ideal ⟨2, ![256, 8192]⟩ .bf16) (V : FVec Ideal ⟨2, ![8192, 256]⟩ .bf16)
    (hW : ∀ c : Fin 16, B.wi l c = Layout.block ⟨2, ![256, 512]⟩ ⟨2, ![256, 8192]⟩ 1 16 c W)
    (hV : ∀ c : Fin 16, B.wo l c = Layout.block ⟨2, ![512, 256]⟩ ⟨2, ![8192, 256]⟩ 0 16 c V) (c : Fin 16) :
    accV B c l (Layout.block ⟨2, ![512, 256]⟩ ⟨2, ![8192, 256]⟩ 0 16 c X) 15 = Layout.block ⟨2, ![512, 256]⟩ ⟨2, ![8192, 256]⟩ 0 16 c (layer X W V) := by
  funext i
  obtain ⟨r, k, rfl⟩ : ∃ (r : Fin 512) (k : Fin 256), i = ix2 r k := ⟨i 0, i 1, funext fun b => by match b with | ⟨0, _⟩ => rfl | ⟨1, _⟩ => rfl⟩
  have hr : 512 * c.val + r.val < 8192 := in_whole c r
  have ht : ∀ (j : Fin 16) (h : Fin 512), term (Layout.block ⟨2, ![512, 256]⟩ ⟨2, ![8192, 256]⟩ 0 16 c X) (B.wi l j) (B.wo l j) r k h
      = term X W V ⟨512 * c.val + r.val, hr⟩ k ⟨512 * j.val + h.val, in_whole j h⟩ := fun j h => by
    rw [hW j, hV j]
    unfold term
    refine congrArg₂ (fun a b => max a 0 * b) (Finset.sum_congr rfl fun i _ => congrArg₂ (· * ·) (congrArg X ?_) (congrArg W ?_)) (congrArg V ?_)
    · exact funext fun b => by
        match b with
        | ⟨0, _⟩ => exact Fin.ext (by show c.val * 512 + r.val = 512 * c.val + r.val; omega)
        | ⟨1, _⟩ => rfl
    · exact funext fun b => by
        match b with
        | ⟨0, _⟩ => rfl
        | ⟨1, _⟩ => exact Fin.ext (by show j.val * 512 + h.val = 512 * j.val + h.val; omega)
    · exact funext fun b => by
        match b with
        | ⟨0, _⟩ => exact Fin.ext (by show j.val * 512 + h.val = 512 * j.val + h.val; omega)
        | ⟨1, _⟩ => rfl
  rw [accV_apply B c l _ r k 15 le_rfl, ← Fin.sum_univ_eq_sum_range (fun s => ∑ δ : Bool,
    part (Layout.block ⟨2, ![512, 256]⟩ ⟨2, ![8192, 256]⟩ 0 16 c X) (B.wi l (src δ c (s + 1))) (B.wo l (src δ c (s + 1))) r k (half δ (s + 1))) 16]
  refine (sum_visit c (fun p => part (Layout.block ⟨2, ![512, 256]⟩ ⟨2, ![8192, 256]⟩ 0 16 c X) (B.wi l p.1) (B.wo l p.1) r k p.2)).trans ?_
  have hj : ∀ j : Fin 16, ∑ q : Fin 2, part (Layout.block ⟨2, ![512, 256]⟩ ⟨2, ![8192, 256]⟩ 0 16 c X) (B.wi l j) (B.wo l j) r k q
      = ∑ h : Fin 512, term X W V ⟨512 * c.val + r.val, hr⟩ k ⟨512 * j.val + h.val, in_whole j h⟩ := fun j => by
    rw [← own_parts, own_apply]
    exact Finset.sum_congr rfl fun h _ => ht j h
  rw [Finset.sum_congr rfl fun j _ => hj j, sum_blocks (n := 16) (k := 512) (fun h => term X W V ⟨512 * c.val + r.val, hr⟩ k h) in_whole]
  show _ = ∑ h : Fin 8192, term X W V _ _ h
  refine Finset.sum_congr rfl fun h _ => ?_
  refine congrArg₂ (fun a b => term X W V a b h) (Fin.ext ?_) rfl
  show 512 * c.val + r.val = c.val * 512 + r.val
  omega

/-- The three layers of the whole arrays. -/
def layers (X : FVec Ideal ⟨2, ![8192, 256]⟩ .bf16) (W0 : FVec Ideal ⟨2, ![256, 8192]⟩ .bf16) (V0 : FVec Ideal ⟨2, ![8192, 256]⟩ .bf16)
    (W1 : FVec Ideal ⟨2, ![256, 8192]⟩ .bf16) (V1 : FVec Ideal ⟨2, ![8192, 256]⟩ .bf16)
    (W2 : FVec Ideal ⟨2, ![256, 8192]⟩ .bf16) (V2 : FVec Ideal ⟨2, ![8192, 256]⟩ .bf16) : FVec Ideal ⟨2, ![8192, 256]⟩ .f32 := layer (layer (layer X W0 V0) W1 V1) W2 V2

/-- The next layer's activations are the sums, over the reals. -/
theorem nextX_eq (A : FVec Ideal S512x256 .f32) : nextX (F := Ideal) A = A := funext fun i => by
  obtain ⟨r, k, rfl⟩ : ∃ (r : Fin 512) (k : Fin 256), i = ix2 r k := ⟨i 0, i 1, funext fun b => by match b with | ⟨0, _⟩ => rfl | ⟨1, _⟩ => rfl⟩
  exact nextX_apply A r k

/-- Device `c`'s result is its rows of the three layers. -/
theorem result_block (B : Blocks Ideal) (X : FVec Ideal ⟨2, ![8192, 256]⟩ .bf16) (W0 : FVec Ideal ⟨2, ![256, 8192]⟩ .bf16) (V0 : FVec Ideal ⟨2, ![8192, 256]⟩ .bf16)
    (W1 : FVec Ideal ⟨2, ![256, 8192]⟩ .bf16) (V1 : FVec Ideal ⟨2, ![8192, 256]⟩ .bf16)
    (W2 : FVec Ideal ⟨2, ![256, 8192]⟩ .bf16) (V2 : FVec Ideal ⟨2, ![8192, 256]⟩ .bf16)
    (hx : ∀ c : Fin 16, B.x c = Layout.block ⟨2, ![512, 256]⟩ ⟨2, ![8192, 256]⟩ 0 16 c X)
    (hW0 : ∀ c : Fin 16, B.wi 0 c = Layout.block ⟨2, ![256, 512]⟩ ⟨2, ![256, 8192]⟩ 1 16 c W0)
    (hV0 : ∀ c : Fin 16, B.wo 0 c = Layout.block ⟨2, ![512, 256]⟩ ⟨2, ![8192, 256]⟩ 0 16 c V0)
    (hW1 : ∀ c : Fin 16, B.wi 1 c = Layout.block ⟨2, ![256, 512]⟩ ⟨2, ![256, 8192]⟩ 1 16 c W1)
    (hV1 : ∀ c : Fin 16, B.wo 1 c = Layout.block ⟨2, ![512, 256]⟩ ⟨2, ![8192, 256]⟩ 0 16 c V1)
    (hW2 : ∀ c : Fin 16, B.wi 2 c = Layout.block ⟨2, ![256, 512]⟩ ⟨2, ![256, 8192]⟩ 1 16 c W2)
    (hV2 : ∀ c : Fin 16, B.wo 2 c = Layout.block ⟨2, ![512, 256]⟩ ⟨2, ![8192, 256]⟩ 0 16 c V2) (c : Fin 16) :
    result B c = Layout.block ⟨2, ![512, 256]⟩ ⟨2, ![8192, 256]⟩ 0 16 c (layers X W0 V0 W1 V1 W2 V2) := by
  unfold result act2 act1
  rw [nextX_eq, nextX_eq, hx c, layer_block B 0 X W0 V0 hW0 hV0 c, layer_block B 1 _ W1 V1 hW1 hV1 c, layer_block B 2 _ W2 V2 hW2 hV2 c]
  rfl

end Cert.Mlp

end
-- ==== Proof.Reference.lean ====
/-
# The reference's layers

Over the extended reals the reference's casts are the identity and each of its layers is the layer of the whole arrays.
-/
module

public import proofs.«01_k».proof.Proof.Layer
public import proofs.«01_k».proof.Proof.Gen.ReferenceIdeal
public import proofs.«01_k».proof.Proof.Gen.ReferenceIdeal.Run
public import Idealize.ShloMosaic.Lib.Pointwise

@[expose] public section

noncomputable section

namespace Cert.Mlp

open Cert.ReferenceIdeal Cert.ReferenceIdeal.Gen
open Idealize.ShloMosaic Idealize.SL.Sem

/-- One layer as the reference's host operations compute it. -/
def hostLayer (X : FVec Ideal S8192x256 .bf16) (W : FVec Ideal S256x8192 .bf16) (V : FVec Ideal S8192x256 .bf16) : FVec Ideal S8192x256 .bf16 :=
  truncf .bf16 (Host.dotGeneral dot_S8192x8192_S8192x256_S8192x256_1_0_0_1_n_n none (maximumf (truncf .bf16 (Host.dotGeneral dot_S8192x256_S256x8192_S8192x8192_1_0_0_1_n_n none X W) bitsLt_bf16_f32)
    (broadcastInDim S8192x8192 ![] bcast_S_S8192x8192 (constant S_ .bf16 0x0000#16))) V) bitsLt_bf16_f32

/-- It is the layer of the whole arrays. -/
theorem hostLayer_eq (X : FVec Ideal S8192x256 .bf16) (W : FVec Ideal S256x8192 .bf16) (V : FVec Ideal S8192x256 .bf16) : hostLayer X W V = layer X W V := by
  funext i
  pointwise [hostLayer, layer, term]

/-- The reference run: its result is the three layers of its arguments, and the arguments are as they were. -/
theorem reference_run (m : (l : Loc nD τ sig) → Buf (Elt Ideal) l) (ρ : Dev nD → PrngReg) :
    θ_run defs (onTc (τ := τ) (main (F := Ideal))) ⟨m, fun _ => 0, ρ⟩ fun r => ∀ c : Dev nD,
      r.2.mem ((c.tc : Thread nD τ).loc main_v18) = layers (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (Value.run (F := Ideal) m ρ)
  unfold layers
  simp only [← hostLayer_eq]
  rfl

end Cert.Mlp

end
-- ==== Proof.lean ====
/-
# The proof of the certificate

Three layers of a perceptron on a ring of sixteen devices, the weights travelling both ways round.
-/
module

public import proofs.«01_k».proof.Defs
public import proofs.«01_k».proof.Proof.Frames
public import proofs.«01_k».proof.Proof.Value
public import proofs.«01_k».proof.Proof.Layer
public import proofs.«01_k».proof.Proof.Reference
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The reference is a straight line of host operations that leaves its arguments alone and declares no counter. -/
theorem quiescent_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals device `c`'s result is block `c` of the reference's result, row blocks of 512. -/
theorem algebraic_KernelIdeal_ReferenceIdeal : Cert.algebraic_KernelIdeal_ReferenceIdeal := by
  intro m g m' g' _ hm
  refine ⟨_, (θ_run Cert.KernelIdeal.defs _ _).mono (fun r h c => ⟨(h c).1.trans ?_, (h c).2⟩) (Cert.Mlp.value_run (F := Ideal) m g),
    (θ_run Cert.ReferenceIdeal.defs _ _).mono (fun r h => h 0) (Cert.Mlp.reference_run m' g')⟩
  exact Cert.Mlp.result_block (Cert.Mlp.blocks m) _ _ _ _ _ _ _
    (fun c => (Cert.Mlp.blocks_x m c).trans (hm c).1)
    (fun c => (Cert.Mlp.blocks_wi0 m c).trans (hm c).2.1)
    (fun c => (Cert.Mlp.blocks_wo0 m c).trans (hm c).2.2.1)
    (fun c => (Cert.Mlp.blocks_wi1 m c).trans (hm c).2.2.2.1)
    (fun c => (Cert.Mlp.blocks_wo1 m c).trans (hm c).2.2.2.2.1)
    (fun c => (Cert.Mlp.blocks_wi2 m c).trans (hm c).2.2.2.2.2.1)
    (fun c => (Cert.Mlp.blocks_wo2 m c).trans (hm c).2.2.2.2.2.2) c

/-- The certificate's claims, all of them. -/
theorem claim : Cert.Claim :=
  ⟨Cert.Kernel.Gen.facts, Cert.KernelIdeal.Gen.facts, Cert.ReferenceIdeal.Gen.facts,
    Cert.Mlp.quiescent_Kernel, Cert.Mlp.quiescent_KernelIdeal, quiescent_ReferenceIdeal, trivial, algebraic_KernelIdeal_ReferenceIdeal⟩

end Cert.Proof

end
